-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_positive [hPre_scales_positive : Cert.Pre_scales_positive.Facts] (m : (ℓ : Loc Cert.KernelIdeal.nD Cert.KernelIdeal.τ Cert.KernelIdeal.sig) → Buf (Elt Ideal) ℓ) : Prop :=
  ∀ c : Dev Cert.KernelIdeal.nD,
    (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_positive [hPre_scales_positive : Cert.Pre_scales_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_scales_positive [hKernelIdeal : Cert.KernelIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_scales_positive [hReferenceIdeal : Cert.ReferenceIdeal.Facts] [hPre_scales_positive : Cert.Pre_scales_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "mean" .f32 0x3B088889#32 ((1 / 480 : ℝ) : EReal)

def algebraic_KernelIdeal_ReferenceIdeal_pre_scales_positive [hKernelIdeal : Cert.KernelIdeal.Facts] [hReferenceIdeal : Cert.ReferenceIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_scales_positive : Cert.Pre_scales_positive.Facts),
    quiescent_Kernel (hKernel := hKernel)
    ∧ quiescent_KernelIdeal (hKernelIdeal := hKernelIdeal)
    ∧ quiescent_KernelIdeal_pre_scales_positive (hKernelIdeal := hKernelIdeal) (hPre_scales_positive := hPre_scales_positive)
    ∧ quiescent_ReferenceIdeal (hReferenceIdeal := hReferenceIdeal)
    ∧ quiescent_ReferenceIdeal_pre_scales_positive (hReferenceIdeal := hReferenceIdeal) (hPre_scales_positive := hPre_scales_positive)
    ∧ preserves_Kernel_KernelIdeal
    ∧ algebraic_KernelIdeal_ReferenceIdeal_pre_scales_positive (hKernelIdeal := hKernelIdeal) (hReferenceIdeal := hReferenceIdeal) (hPre_scales_positive := hPre_scales_positive)
-- ==== Pre_scales_positive.lean ====
abbrev S32x256x480 : Shape := ⟨3, ![32, 256, 480]⟩
abbrev S12x32x256x480 : Shape := ⟨4, ![12, 32, 256, 480]⟩
abbrev S12x32x20x256 : Shape := ⟨4, ![12, 32, 20, 256]⟩
abbrev S12x480 : Shape := ⟨2, ![12, 480]⟩
abbrev S12x480x480 : Shape := ⟨3, ![12, 480, 480]⟩
abbrev S12x480x1920 : Shape := ⟨3, ![12, 480, 1920]⟩
abbrev S12x1920 : Shape := ⟨2, ![12, 1920]⟩
abbrev S12x1920x480 : Shape := ⟨3, ![12, 1920, 480]⟩
abbrev S12x4 : Shape := ⟨2, ![12, 4]⟩
abbrev S_ : Shape := ⟨0, ![]⟩

class Facts : Prop where
  bcast_S_S12x32x20x256 : S_.BroadcastsInDim S12x32x20x256 (![] : Fin 0 → Fin S12x32x20x256.rank)
  bcast_S_S12x4 : S_.BroadcastsInDim S12x4 (![] : Fin 0 → Fin S12x4.rank)

variable [Facts]

def fn {F : FTy → Type} [FloatOps F] (main_arg0 : FVec F S32x256x480 .f32) (main_arg1 : FVec F S12x32x256x480 .f32) (main_arg2 : FVec F S12x32x20x256 .f32) (main_arg3 : FVec F S12x480 .f32) (main_arg4 : FVec F S12x480 .f32) (main_arg5 : IVec S12x480x480 8) (main_arg6 : FVec F S12x480 .f32) (main_arg7 : FVec F S12x480 .f32) (main_arg8 : IVec S12x480x1920 8) (main_arg9 : FVec F S12x1920 .f32) (main_arg10 : FVec F S12x1920 .f32) (main_arg11 : IVec S12x1920x480 8) (main_arg12 : FVec F S12x480 .f32) (main_arg13 : FVec F S12x480 .f32) (main_arg14 : FVec F S12x4 .f32) : IVec S12x32x20x256 1 × IVec S12x4 1 :=
  let main_cst : FVec F S_ .f32 := constant S_ .f32 0x00000000#32
  let main_v0 : FVec F S12x32x20x256 .f32 := broadcastInDim S12x32x20x256 ![] bcast_S_S12x32x20x256 main_cst
  let main_v1 : IVec S12x32x20x256 1 := cmpf .une main_arg2 main_v0
  let main_cst_0 : FVec F S_ .f32 := constant S_ .f32 0x00000000#32
  let main_v2 : FVec F S12x4 .f32 := broadcastInDim S12x4 ![] bcast_S_S12x4 main_cst_0
  let main_v3 : IVec S12x4 1 := cmpf .ogt main_arg14 main_v2
  (main_v1, main_v3)
-- ==== Kernel.lean ====
abbrev S32x256x480 : Shape := ⟨3, ![32, 256, 480]⟩
abbrev S12x32x256x480 : Shape := ⟨4, ![12, 32, 256, 480]⟩
abbrev S12x32x20x256 : Shape := ⟨4, ![12, 32, 20, 256]⟩
abbrev S12x480 : Shape := ⟨2, ![12, 480]⟩
abbrev S12x480x480 : Shape := ⟨3, ![12, 480, 480]⟩
abbrev S12x480x1920 : Shape := ⟨3, ![12, 480, 1920]⟩
abbrev S12x1920 : Shape := ⟨2, ![12, 1920]⟩
abbrev S12x1920x480 : Shape := ⟨3, ![12, 1920, 480]⟩
abbrev S12x4 : Shape := ⟨2, ![12, 4]⟩
abbrev S2x256x480 : Shape := ⟨3, ![2, 256, 480]⟩
abbrev S1x2x256x480 : Shape := ⟨4, ![1, 2, 256, 480]⟩
abbrev S1x2x20x256 : Shape := ⟨4, ![1, 2, 20, 256]⟩
abbrev S1x480x480 : Shape := ⟨3, ![1, 480, 480]⟩
abbrev S1x480x1920 : Shape := ⟨3, ![1, 480, 1920]⟩
abbrev S1x1920x480 : Shape := ⟨3, ![1, 1920, 480]⟩
abbrev S16x480x512 : Shape := ⟨3, ![16, 480, 512]⟩
abbrev S480x512 : Shape := ⟨2, ![480, 512]⟩
abbrev S1920x512 : Shape := ⟨2, ![1920, 512]⟩
abbrev S480x1920 : Shape := ⟨2, ![480, 1920]⟩
abbrev S7680x128 : Shape := ⟨2, ![7680, 128]⟩
abbrev S512x512 : Shape := ⟨2, ![512, 512]⟩
abbrev S2x480x256 : Shape := ⟨3, ![2, 480, 256]⟩
abbrev S2x24x256 : Shape := ⟨3, ![2, 24, 256]⟩
abbrev S256x256 : Shape := ⟨2, ![256, 256]⟩
abbrev S480x480 : Shape := ⟨2, ![480, 480]⟩
abbrev S480x256 : Shape := ⟨2, ![480, 256]⟩
abbrev S256x480 : Shape := ⟨2, ![256, 480]⟩
abbrev S224x224 : Shape := ⟨2, ![224, 224]⟩
abbrev S480x224 : Shape := ⟨2, ![480, 224]⟩
abbrev S224x480 : Shape := ⟨2, ![224, 480]⟩
abbrev S128x128 : Shape := ⟨2, ![128, 128]⟩
abbrev S480x128 : Shape := ⟨2, ![480, 128]⟩
abbrev S128x480 : Shape := ⟨2, ![128, 480]⟩
abbrev S1920x480 : Shape := ⟨2, ![1920, 480]⟩
abbrev S1920x256 : Shape := ⟨2, ![1920, 256]⟩
abbrev S256x1920 : Shape := ⟨2, ![256, 1920]⟩
abbrev S1920x224 : Shape := ⟨2, ![1920, 224]⟩
abbrev S224x1920 : Shape := ⟨2, ![224, 1920]⟩
abbrev S1x1 : Shape := ⟨2, ![1, 1]⟩
abbrev S1x480 : Shape := ⟨2, ![1, 480]⟩
abbrev S1x128 : Shape := ⟨2, ![1, 128]⟩
abbrev S1x96 : Shape := ⟨2, ![1, 96]⟩
abbrev S1x32 : Shape := ⟨2, ![1, 32]⟩
abbrev S96x128 : Shape := ⟨2, ![96, 128]⟩
abbrev S1x1920 : Shape := ⟨2, ![1, 1920]⟩
abbrev S1x1x256x480 : Shape := ⟨4, ![1, 1, 256, 480]⟩
abbrev S1x480x256 : Shape := ⟨3, ![1, 480, 256]⟩
abbrev S1x1x20x256 : Shape := ⟨4, ![1, 1, 20, 256]⟩
abbrev S20x256 : Shape := ⟨2, ![20, 256]⟩
abbrev S1x20x256 : Shape := ⟨3, ![1, 20, 256]⟩
abbrev S1x24x256 : Shape := ⟨3, ![1, 24, 256]⟩
abbrev S24x256 : Shape := ⟨2, ![24, 256]⟩
abbrev S1x256 : Shape := ⟨2, ![1, 256]⟩
abbrev S1x256x480 : Shape := ⟨3, ![1, 256, 480]⟩
abbrev S1x480x512 : Shape := ⟨3, ![1, 480, 512]⟩
abbrev S8x512 : Shape := ⟨2, ![8, 512]⟩
abbrev S512 : Shape := ⟨1, ![512]⟩
abbrev S1x512 : Shape := ⟨2, ![1, 512]⟩

abbrev nBuf : Space → Nat
  | .hbm => 16
  | .vmem => 31
  | .smem => 1
  | _ => 0

abbrev bufTy : (tb : Table) → Fin (tcTables nBuf tb) → BufTy
  | .hbm, ⟨0, _⟩ => ⟨S32x256x480, .f32⟩
  | .hbm, ⟨1, _⟩ => ⟨S12x32x256x480, .f32⟩
  | .hbm, ⟨2, _⟩ => ⟨S12x32x20x256, .f32⟩
  | .hbm, ⟨3, _⟩ => ⟨S12x480, .f32⟩
  | .hbm, ⟨4, _⟩ => ⟨S12x480, .f32⟩
  | .hbm, ⟨5, _⟩ => ⟨S12x480x480, .i8⟩
  | .hbm, ⟨6, _⟩ => ⟨S12x480, .f32⟩
  | .hbm, ⟨7, _⟩ => ⟨S12x480, .f32⟩
  | .hbm, ⟨8, _⟩ => ⟨S12x480x1920, .i8⟩
  | .hbm, ⟨9, _⟩ => ⟨S12x1920, .f32⟩
  | .hbm, ⟨10, _⟩ => ⟨S12x1920, .f32⟩
  | .hbm, ⟨11, _⟩ => ⟨S12x1920x480, .i8⟩
  | .hbm, ⟨12, _⟩ => ⟨S12x480, .f32⟩
  | .hbm, ⟨13, _⟩ => ⟨S12x480, .f32⟩
  | .hbm, ⟨14, _⟩ => ⟨S12x4, .f32⟩
  | .hbm, ⟨15, _⟩ => ⟨S12x32x256x480, .bf16⟩
  | .local _ .vmem, ⟨0, _⟩ => ⟨S2x256x480, .f32⟩
  | .local _ .vmem, ⟨1, _⟩ => ⟨S2x256x480, .f32⟩
  | .local _ .vmem, ⟨2, _⟩ => ⟨S1x2x256x480, .f32⟩
  | .local _ .vmem, ⟨3, _⟩ => ⟨S1x2x256x480, .f32⟩
  | .local _ .vmem, ⟨4, _⟩ => ⟨S1x2x20x256, .f32⟩
  | .local _ .vmem, ⟨5, _⟩ => ⟨S1x2x20x256, .f32⟩
  | .local _ .vmem, ⟨6, _⟩ => ⟨S12x480, .f32⟩
  | .local _ .vmem, ⟨7, _⟩ => ⟨S12x480, .f32⟩
  | .local _ .vmem, ⟨8, _⟩ => ⟨S1x480x480, .i8⟩
  | .local _ .vmem, ⟨9, _⟩ => ⟨S1x480x480, .i8⟩
  | .local _ .vmem, ⟨10, _⟩ => ⟨S12x480, .f32⟩
  | .local _ .vmem, ⟨11, _⟩ => ⟨S12x480, .f32⟩
  | .local _ .vmem, ⟨12, _⟩ => ⟨S1x480x1920, .i8⟩
  | .local _ .vmem, ⟨13, _⟩ => ⟨S1x480x1920, .i8⟩
  | .local _ .vmem, ⟨14, _⟩ => ⟨S12x1920, .f32⟩
  | .local _ .vmem, ⟨15, _⟩ => ⟨S12x1920, .f32⟩
  | .local _ .vmem, ⟨16, _⟩ => ⟨S1x1920x480, .i8⟩
  | .local _ .vmem, ⟨17, _⟩ => ⟨S1x1920x480, .i8⟩
  | .local _ .vmem, ⟨18, _⟩ => ⟨S12x480, .f32⟩
  | .local _ .vmem, ⟨19, _⟩ => ⟨S12x480, .f32⟩
  | .local _ .vmem, ⟨20, _⟩ => ⟨S1x2x256x480, .bf16⟩
  | .local _ .vmem, ⟨21, _⟩ => ⟨S1x2x256x480, .bf16⟩
  | .local _ .vmem, ⟨22, _⟩ => ⟨S16x480x512, .f32⟩
  | .local _ .vmem, ⟨23, _⟩ => ⟨S480x512, .bf16⟩
  | .local _ .vmem, ⟨24, _⟩ => ⟨S1920x512, .bf16⟩
  | .local _ .vmem, ⟨25, _⟩ => ⟨S480x1920, .bf16⟩
  | .local _ .vmem, ⟨26, _⟩ => ⟨S7680x128, .f32⟩
  | .local _ .vmem, ⟨27, _⟩ => ⟨S512x512, .bf16⟩
  | .local _ .vmem, ⟨28, _⟩ => ⟨S1920x512, .bf16⟩
  | .local _ .vmem, ⟨29, _⟩ => ⟨S2x480x256, .f32⟩
  | .local _ .vmem, ⟨30, _⟩ => ⟨S2x24x256, .f32⟩
  | .local _ .smem, ⟨0, _⟩ => ⟨S12x4, .f32⟩
  | _, _ => ⟨S32x256x480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![13, 16], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let arg0 : BitVec 32 := BitVec.ofNat 32 (i 0).val
  let c12_i32 : BitVec 32 := 12#32
  let v6 : BitVec 1 := Scalar.cmpi .slt arg0 c12_i32
  let v7 : BitVec 1 := Scalar.andi v5 v6
  let v8 : BitVec 32 := Scalar.extui v7
  let c0_i32_3 : BitVec 32 := 0#32
  let v9 : BitVec 1 := Scalar.cmpi .ne v8 c0_i32_3
  v9

def k0_off1 (i : grid0.Coords) : Fin 2 → Nat :=
  let arg0 : BitVec 32 := BitVec.ofNat 32 (i 0).val
  let v268 : Index := Scalar.indexCast arg0
  let c1 : Index := 1#32
  ![v268.toNat, 1]
def k0_off2 (i : grid0.Coords) : Fin 2 → Nat :=
  let arg0 : BitVec 32 := BitVec.ofNat 32 (i 0).val
  let v270 : Index := Scalar.indexCast arg0
  let c2 : Index := 2#32
  ![v270.toNat, 2]
def k0_off3 (i : grid0.Coords) : Fin 2 → Nat :=
  let arg0 : BitVec 32 := BitVec.ofNat 32 (i 0).val
  let v272 : Index := Scalar.indexCast arg0
  let c3 : Index := 3#32
  ![v272.toNat, 3]
def k0_off4 (i : grid0.Coords) : Fin 2 → Nat :=
  let arg0 : BitVec 32 := BitVec.ofNat 32 (i 0).val
  let v274 : Index := Scalar.indexCast arg0
  let c0_140 : Index := 0#32
  ![v274.toNat, 0]
def k0_off5 (i : grid0.Coords) : Fin 2 → Nat :=
  let arg0 : BitVec 32 := BitVec.ofNat 32 (i 0).val
  let v412 : Index := Scalar.indexCast arg0
  let c0_164 : Index := 0#32
  ![v412.toNat, 0]
def k0_cond3 (i : grid0.Coords) : BitVec 1 :=
  let arg0 : BitVec 32 := BitVec.ofNat 32 (i 0).val
  let c12_i32_4 : BitVec 32 := 12#32
  let v10 : BitVec 1 := Scalar.cmpi .slt arg0 c12_i32_4
  let v11 : BitVec 32 := Scalar.extui v10
  let c0_i32_5 : BitVec 32 := 0#32
  let v12 : BitVec 1 := Scalar.cmpi .ne v11 c0_i32_5
  v12

def k0_off6 (i : grid0.Coords) : Fin 2 → Nat :=
  let arg0 : BitVec 32 := BitVec.ofNat 32 (i 0).val
  let v38 : Index := Scalar.indexCast arg0
  let c1_34 : Index := 1#32
  ![v38.toNat, 1]
def k0_off7 (i : grid0.Coords) : Fin 3 → Nat :=
  let arg1 : BitVec 32 := BitVec.ofNat 32 (i 1).val
  let v464 : Index := Scalar.indexCast arg1
  let c0_231 : Index := 0#32
  let c0_232 : Index := 0#32
  ![v464.toNat, 0, 0]
def k0_off8 (i : grid0.Coords) : Fin 2 → Nat :=
  let arg0 : BitVec 32 := BitVec.ofNat 32 (i 0).val
  let v753 : Index := Scalar.indexCast arg0
  let c3 : Index := 3#32
  ![v753.toNat, 3]
def k0_cond4 (i : grid0.Coords) : BitVec 1 :=
  let arg0 : BitVec 32 := BitVec.ofNat 32 (i 0).val
  let c12_i32_6 : BitVec 32 := 12#32
  let v13 : BitVec 1 := Scalar.cmpi .eq arg0 c12_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![v0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![v0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![v0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c12_i32 : BitVec 32 := 12#32
  let v0 : BitVec 1 := Scalar.cmpi .eq arg0 c12_i32
  let c11_i32 : BitVec 32 := 11#32
  let v1 : BitVec 32 := Scalar.select v0 c11_i32 arg0
  let c15_i32 : BitVec 32 := 15#32
  let v2 : BitVec 32 := Scalar.select v0 c15_i32 arg1
  let c0_i32 : BitVec 32 := 0#32
  let c0_i32_0 : BitVec 32 := 0#32
  let c0_i32_1 : BitVec 32 := 0#32
  ![v1.toNat, v2.toNat, c0_i32.toNat, c0_i32_0.toNat]

abbrev stage0_0 : Fin 1 → Memref sig .tc .smem S12x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x256x480 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x256x480 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x20x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S12x480 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S12x480 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x480x480 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S12x480 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S12x480 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x480x1920 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S12x1920 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S12x1920 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1920x480 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S12x480 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S12x480 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x2x256x480 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "inv_sqrt2" => some (((Real.sqrt 2)⁻¹ : ℝ) : EReal)
  | "mean" => some ((1 / 480 : ℝ) : EReal)
  | _ => none
-- ==== ReferenceIdeal.lean ====
abbrev S32x256x480 : Shape := ⟨3, ![32, 256, 480]⟩
abbrev S12x32x256x480 : Shape := ⟨4, ![12, 32, 256, 480]⟩
abbrev S12x32x20x256 : Shape := ⟨4, ![12, 32, 20, 256]⟩
abbrev S12x480 : Shape := ⟨2, ![12, 480]⟩
abbrev S12x480x480 : Shape := ⟨3, ![12, 480, 480]⟩
abbrev S12x480x1920 : Shape := ⟨3, ![12, 480, 1920]⟩
abbrev S12x1920 : Shape := ⟨2, ![12, 1920]⟩
abbrev S12x1920x480 : Shape := ⟨3, ![12, 1920, 480]⟩
abbrev S12x4 : Shape := ⟨2, ![12, 4]⟩
abbrev S12x32x256x20x24 : Shape := ⟨5, ![12, 32, 256, 20, 24]⟩
abbrev S12x32x256x20 : Shape := ⟨4, ![12, 32, 256, 20]⟩
abbrev S12x32x256x20x1 : Shape := ⟨5, ![12, 32, 256, 20, 1]⟩
abbrev S8192x480 : Shape := ⟨2, ![8192, 480]⟩
abbrev S12x8192x480 : Shape := ⟨3, ![12, 8192, 480]⟩
abbrev S1x1 : Shape := ⟨2, ![1, 1]⟩
abbrev S1x8192x480 : Shape := ⟨3, ![1, 8192, 480]⟩
abbrev S1x480x480 : Shape := ⟨3, ![1, 480, 480]⟩
abbrev S480x480 : Shape := ⟨2, ![480, 480]⟩
abbrev S1x480 : Shape := ⟨2, ![1, 480]⟩
abbrev S8192 : Shape := ⟨1, ![8192]⟩
abbrev S8192x1 : Shape := ⟨2, ![8192, 1]⟩
abbrev S1x480x1920 : Shape := ⟨3, ![1, 480, 1920]⟩
abbrev S480x1920 : Shape := ⟨2, ![480, 1920]⟩
abbrev S1x1920 : Shape := ⟨2, ![1, 1920]⟩
abbrev S8192x1920 : Shape := ⟨2, ![8192, 1920]⟩
abbrev S1x1920x480 : Shape := ⟨3, ![1, 1920, 480]⟩
abbrev S1920x480 : Shape := ⟨2, ![1920, 480]⟩
abbrev S1x32x256x480 : Shape := ⟨4, ![1, 32, 256, 480]⟩

abbrev nBuf : Space → Nat
  | .hbm => 23
  | .vmem => 14
  | .smem => 1
  | _ => 0

abbrev bufTy : (tb : Table) → Fin (tcTables nBuf tb) → BufTy
  | .hbm, ⟨0, _⟩ => ⟨S32x256x480, .f32⟩
  | .hbm, ⟨1, _⟩ => ⟨S12x32x256x480, .f32⟩
  | .hbm, ⟨2, _⟩ => ⟨S12x32x20x256, .f32⟩
  | .hbm, ⟨3, _⟩ => ⟨S12x480, .f32⟩
  | .hbm, ⟨4, _⟩ => ⟨S12x480, .f32⟩
  | .hbm, ⟨5, _⟩ => ⟨S12x480x480, .i8⟩
  | .hbm, ⟨6, _⟩ => ⟨S12x480, .f32⟩
  | .hbm, ⟨7, _⟩ => ⟨S12x480, .f32⟩
  | .hbm, ⟨8, _⟩ => ⟨S12x480x1920, .i8⟩
  | .hbm, ⟨9, _⟩ => ⟨S12x1920, .f32⟩
  | .hbm, ⟨10, _⟩ => ⟨S12x1920, .f32⟩
  | .hbm, ⟨11, _⟩ => ⟨S12x1920x480, .i8⟩
  | .hbm, ⟨12, _⟩ => ⟨S12x480, .f32⟩
  | .hbm, ⟨13, _⟩ => ⟨S12x480, .f32⟩
  | .hbm, ⟨14, _⟩ => ⟨S12x4, .f32⟩
  | .hbm, ⟨15, _⟩ => ⟨S12x32x256x20x24, .f32⟩
  | .hbm, ⟨16, _⟩ => ⟨S12x32x256x20, .f32⟩
  | .hbm, ⟨17, _⟩ => ⟨S12x32x256x20x1, .f32⟩
  | .hbm, ⟨18, _⟩ => ⟨S12x32x256x20x24, .f32⟩
  | .hbm, ⟨19, _⟩ => ⟨S12x32x256x20x24, .f32⟩
  | .hbm, ⟨20, _⟩ => ⟨S8192x480, .f32⟩
  | .hbm, ⟨21, _⟩ => ⟨S12x8192x480, .f32⟩
  | .hbm, ⟨22, _⟩ => ⟨S12x32x256x480, .bf16⟩
  | .local _ .vmem, ⟨0, _⟩ => ⟨S8192x480, .f32⟩
  | .local _ .vmem, ⟨1, _⟩ => ⟨S12x8192x480, .f32⟩
  | .local _ .vmem, ⟨2, _⟩ => ⟨S12x480, .f32⟩
  | .local _ .vmem, ⟨3, _⟩ => ⟨S12x480, .f32⟩
  | .local _ .vmem, ⟨4, _⟩ => ⟨S12x480x480, .i8⟩
  | .local _ .vmem, ⟨5, _⟩ => ⟨S12x480, .f32⟩
  | .local _ .vmem, ⟨6, _⟩ => ⟨S12x480, .f32⟩
  | .local _ .vmem, ⟨7, _⟩ => ⟨S12x480x1920, .i8⟩
  | .local _ .vmem, ⟨8, _⟩ => ⟨S12x1920, .f32⟩
  | .local _ .vmem, ⟨9, _⟩ => ⟨S12x1920, .f32⟩
  | .local _ .vmem, ⟨10, _⟩ => ⟨S12x1920x480, .i8⟩
  | .local _ .vmem, ⟨11, _⟩ => ⟨S12x480, .f32⟩
  | .local _ .vmem, ⟨12, _⟩ => ⟨S12x480, .f32⟩
  | .local _ .vmem, ⟨13, _⟩ => ⟨S12x32x256x480, .bf16⟩
  | .local _ .smem, ⟨0, _⟩ => ⟨S12x4, .f32⟩
  | _, _ => ⟨S32x256x480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F] [Named F]

def κ : String → Option EReal := fun
  | "inv_sqrt2" => some (((Real.sqrt 2)⁻¹ : ℝ) : EReal)
  | _ => none

abbrev grid0 : Pipeline.Grid := .none

@[reducible] def k0_t1_loop : Scf.Loop 32 :=
  let c0_i32 : BitVec 32 := 0#32
  let c12_i32 : BitVec 32 := 12#32
  let v2 : BitVec 32 := Scalar.addi c0_i32 c12_i32
  let c1_i32 : BitVec 32 := 1#32
  ⟨c0_i32, v2, c1_i32⟩
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let v4 : Index := Scalar.indexCast arg15
  let c1 : Index := 1#32
  ![v4.toNat, 1]
def k0_off2 (k0_t1 : Fin k0_t1_loop.trips) : Fin 2 → Nat :=
  let c0_i32 : BitVec 32 := 0#32
  let c1_i32 : BitVec 32 := 1#32
  let arg15 : BitVec 32 := Scf.iv c0_i32 c1_i32 k0_t1
  let v6 : Index := Scalar.indexCast arg15
  let c2 : Index := 2#32
  ![v6.toNat, 2]
def k0_off3 (k0_t1 : Fin k0_t1_loop.trips) : Fin 2 → Nat :=
  let c0_i32 : BitVec 32 := 0#32
  let c1_i32 : BitVec 32 := 1#32
  let arg15 : BitVec 32 := Scf.iv c0_i32 c1_i32 k0_t1
  let v8 : Index := Scalar.indexCast arg15
  let c3 : Index := 3#32
  ![v8.toNat, 3]
def k0_off4 (k0_t1 : Fin k0_t1_loop.trips) : Fin 3 → Nat :=
  let c0_i32 : BitVec 32 := 0#32
  let c1_i32 : BitVec 32 := 1#32
  let arg15 : BitVec 32 := Scf.iv c0_i32 c1_i32 k0_t1
  let v10 : Index := Scalar.indexCast arg15
  let c0_2 : Index := 0#32
  let c0_3 : Index := 0#32
  ![v10.toNat, 0, 0]
def k0_off5 (k0_t1 : Fin k0_t1_loop.trips) : Fin 3 → Nat :=
  let c0_i32 : BitVec 32 := 0#32
  let c1_i32 : BitVec 32 := 1#32
  let arg15 : BitVec 32 := Scf.iv c0_i32 c1_i32 k0_t1
  let v21 : Index := Scalar.indexCast arg15
  let c0_5 : Index := 0#32
  let c0_6 : Index := 0#32
  ![v21.toNat, 0, 0]
def k0_off6 (k0_t1 : Fin k0_t1_loop.trips) : Fin 2 → Nat :=
  let c0_i32 : BitVec 32 := 0#32
  let c1_i32 : BitVec 32 := 1#32
  let arg15 : BitVec 32 := Scf.iv c0_i32 c1_i32 k0_t1
  let v24 : Index := Scalar.indexCast arg15
  let c0_7 : Index := 0#32
  ![v24.toNat, 0]
def k0_off7 (k0_t1 : Fin k0_t1_loop.trips) : Fin 3 → Nat :=
  let c0_i32 : BitVec 32 := 0#32
  let c1_i32 : BitVec 32 := 1#32
  let arg15 : BitVec 32 := Scf.iv c0_i32 c1_i32 k0_t1
  let v70 : Index := Scalar.indexCast arg15
  let c0_19 : Index := 0#32
  let c0_20 : Index := 0#32
  ![v70.toNat, 0, 0]
def k0_off8 (k0_t1 : Fin k0_t1_loop.trips) : Fin 2 → Nat :=
  let c0_i32 : BitVec 32 := 0#32
  let c1_i32 : BitVec 32 := 1#32
  let arg15 : BitVec 32 := Scf.iv c0_i32 c1_i32 k0_t1
  let v73 : Index := Scalar.indexCast arg15
  let c0_21 : Index := 0#32
  ![v73.toNat, 0]
def k0_off9 (k0_t1 : Fin k0_t1_loop.trips) : Fin 3 → Nat :=
  let c0_i32 : BitVec 32 := 0#32
  let c1_i32 : BitVec 32 := 1#32
  let arg15 : BitVec 32 := Scf.iv c0_i32 c1_i32 k0_t1
  let v102 : Index := Scalar.indexCast arg15
  let c0_29 : Index := 0#32
  let c0_30 : Index := 0#32
  ![v102.toNat, 0, 0]
def k0_off10 (k0_t1 : Fin k0_t1_loop.trips) : Fin 4 → Nat :=
  let c0_i32 : BitVec 32 := 0#32
  let c1_i32 : BitVec 32 := 1#32
  let arg15 : BitVec 32 := Scf.iv c0_i32 c1_i32 k0_t1
  let v121 : Index := Scalar.indexCast arg15
  let c0_34 : Index := 0#32
  let c0_35 : Index := 0#32
  let c0_36 : Index := 0#32
  ![v121.toNat, 0, 0, 0]
abbrev stage0_0 : Fin 1 → Memref sig .tc .smem S12x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x480 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x8192x480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x480 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x480 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x480x480 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x480 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x480 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x480x1920 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x1920 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x1920 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x1920x480 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12x480 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S12x480 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S12x32x256x480 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Pre.lean ====
/- What the precondition says of the arguments: no softmax denominator is zero and every activation scale is positive. -/
module
public import proofs.«01_k».proof.Pre_scales_positive
public import Idealize.ShloMosaic.Lib.Pointwise
public import Idealize.ShloMosaic.Lib.Pipeline.ValueKit
@[expose] public section
noncomputable section
open Idealize.ShloMosaic
namespace Cert.Pre_scales_positive.Val
open Cert.Pre_scales_positive

instance facts : Cert.Pre_scales_positive.Facts where
  bcast_S_S12x32x20x256 := by decide
  bcast_S_S12x4 := by decide

variable (b0 : FVec Ideal S32x256x480 .f32) (b1 : FVec Ideal S12x32x256x480 .f32) (den : FVec Ideal S12x32x20x256 .f32) (b3 b4 : FVec Ideal S12x480 .f32)
  (b5 : IVec S12x480x480 8) (b6 b7 : FVec Ideal S12x480 .f32) (b8 : IVec S12x480x1920 8) (b9 b10 : FVec Ideal S12x1920 .f32)
  (b11 : IVec S12x1920x480 8) (b12 b13 : FVec Ideal S12x480 .f32) (act : FVec Ideal S12x4 .f32)

theorem den_ne (h : (fn (F := Ideal) b0 b1 den b3 b4 b5 b6 b7 b8 b9 b10 b11 b12 b13 act).1 = fun _ => 1#1) (i : S12x32x20x256.Idx) : den i ≠ 0 := by
  have h' := congrFun h i
  unfold fn at h'
  intro e
  pointwise at h'
  simp [e] at h'

theorem act_pos (h : (fn (F := Ideal) b0 b1 den b3 b4 b5 b6 b7 b8 b9 b10 b11 b12 b13 act).2 = fun _ => 1#1) (i : S12x4.Idx) : (0 : EReal) < act i := by
  have h' := congrFun h i
  unfold fn at h'
  pointwise at h'
  by_contra hn
  simp [hn] at h'
end Cert.Pre_scales_positive.Val
end
-- ==== Proof.Spec.lean ====
/- The arithmetic both programs share, on extended reals and with no program in sight: the int8 quantiser and what a
   code round trip keeps, one token's half layer in the reference's spelling (`step`) and in the kernel's (`kstep`), and
   the equality of the two where the scales are positive and no softmax denominator is zero. -/
module

public import Idealize.ShloMosaic.Lib.Pointwise

@[expose] public section

noncomputable section

namespace Cert.Spec

open Idealize.ShloMosaic

/-- The largest code, -127 … 127, the divisor 480 and the layer norm's epsilon, as the programs spell them. -/
abbrev hi : EReal := Ideal.ofBits .f32 1123942400#32
abbrev lo : EReal := Ideal.ofBits .f32 3271426048#32
abbrev width : EReal := Ideal.ofBits .f32 1139802112#32
abbrev eps : EReal := Ideal.ofBits .f32 925353388#32
abbrev half : EReal := Ideal.ofBits .f32 1056964608#32

theorem hi_eq : hi = ((127 : ℝ) : EReal) := by simp [hi, Ideal.ofBits, Ideal.ieee, -EReal.coe_mul]; norm_num
theorem lo_eq : lo = ((-127 : ℝ) : EReal) := by
  simp [lo, Ideal.ofBits, Ideal.ieee, -EReal.coe_mul, -EReal.coe_neg]; norm_num
theorem width_eq : width = ((480 : ℝ) : EReal) := by
  simp [width, Ideal.ofBits, Ideal.ieee, -EReal.coe_mul]; norm_num
theorem half_eq : half = ((1 / 2 : ℝ) : EReal) := by
  simp [half, Ideal.ofBits, Ideal.ieee, -EReal.coe_mul]; norm_num
theorem eps_pos : 0 < eps := by
  have h : eps = (((10995116 : ℝ) * 2 ^ (-40 : ℤ) : ℝ) : EReal) := by
    simp [eps, Ideal.ofBits, Ideal.ieee, -EReal.coe_mul]
  rw [h]; exact_mod_cast (by positivity : (0 : ℝ) < (10995116 : ℝ) * 2 ^ (-40 : ℤ))

/-- The quantiser: to the nearest integer, ties to even, clamped to -127 … 127. -/
def q (x : EReal) : EReal := min hi (max lo (Ideal.liftRound Ideal.roundHalfEven x))

/-- A quantised value is an integer between -127 and 127. -/
theorem q_int (x : EReal) : ∃ n : ℤ, -127 ≤ n ∧ n ≤ 127 ∧ q x = ((n : ℝ) : EReal) := by
  unfold q
  rw [hi_eq, lo_eq]
  induction x using EReal.rec with
  | bot => exact ⟨-127, by norm_num, by norm_num, by
      rw [Ideal.liftRound_bot, max_eq_left bot_le]
      rw [← EReal.coe_strictMono.monotone.map_min]; norm_num⟩
  | top => exact ⟨127, by norm_num, by norm_num, by
      rw [Ideal.liftRound_top, max_eq_right le_top, min_eq_left le_top]; norm_num⟩
  | coe r =>
    refine ⟨min 127 (max (-127) (Ideal.roundHalfEven r)), by simp, by simp, ?_⟩
    rw [Ideal.liftRound_coe, ← EReal.coe_strictMono.monotone.map_max, ← EReal.coe_strictMono.monotone.map_min]
    push_cast; rfl

/-- A code kept as an int8 and read back is the code. -/
theorem code_eq (φ φ' : FTy) (x : EReal) :
    FloatOps.sitofp (F := Ideal) φ (FloatOps.fptosi (F := Ideal) (φ := φ') 8 (q x)) = q x := by
  obtain ⟨n, h1, h2, h⟩ := q_int x
  rw [h]
  show (((Ideal.fptosi 8 ((n : ℝ) : EReal)).toInt : ℝ) : EReal) = _
  rw [Ideal.fptosi, Ideal.toIntClamped_coe]
  have : (if (0 : ℝ) ≤ (n : ℝ) then ⌊(n : ℝ)⌋ else ⌈(n : ℝ)⌉) = n := by simp
  rw [this]
  have h3 : max (-((2 ^ (8 - 1) : ℕ) : ℤ)) (min (((2 ^ (8 - 1) : ℕ) : ℤ) - 1) n) = n := by norm_num; omega
  rw [h3, BitVec.toInt_ofInt]
  congr 2
  rw [Int.bmod_eq_of_le] <;> norm_num <;> omega

/-! ## One token through a layer's second half -/

/-- A weight code as an extended real. -/
abbrev wt (b : BitVec 8) : EReal := FloatOps.sitofp (F := Ideal) FTy.bf16 b

/-- The layer's parameters, one token's view: weights `k d ↦` contracted index first. -/
structure Par where
  a1 : EReal
  a2 : EReal
  a3 : EReal
  g : Fin 480 → EReal
  b : Fin 480 → EReal
  wo : Fin 480 → Fin 480 → EReal
  so : Fin 480 → EReal
  bo : Fin 480 → EReal
  w1 : Fin 480 → Fin 1920 → EReal
  s1 : Fin 1920 → EReal
  b1 : Fin 1920 → EReal
  w2 : Fin 1920 → Fin 480 → EReal
  s2 : Fin 480 → EReal
  b2 : Fin 480 → EReal

/-- The attention output projection added to the stream, from the context `cx`. -/
def mid (P : Par) (cx h : Fin 480 → EReal) (d : Fin 480) : EReal :=
  h d + ((∑ k, q (Ideal.div (cx k) P.a1) * P.wo k d) * P.a1 * P.so d + P.bo d)

def mean (h : Fin 480 → EReal) : EReal := Ideal.div (∑ k, h k) width

/-- The second layer norm at the stream `h`. -/
def ln (P : Par) (h : Fin 480 → EReal) (d : Fin 480) : EReal :=
  Ideal.div (h d - mean h)
      (Ideal.sqrt (Ideal.div (∑ k, (h k - mean h) * (h k - mean h)) width + eps)) * P.g d + P.b d

/-- The hidden unit `f` before its activation. -/
def pre (P : Par) (h : Fin 480 → EReal) (f : Fin 1920) : EReal :=
  (∑ k, q (Ideal.div (ln P h k) P.a2) * P.w1 k f) * P.a2 * P.s1 f + P.b1 f

/-- The hidden unit `f` after the exact gelu; `c` is the root of one half. -/
def hid (c : EReal) (P : Par) (h : Fin 480 → EReal) (f : Fin 1920) : EReal :=
  half * pre P h f * (1 + Ideal.erf (pre P h f * c))

/-- The feed-forward block added to the stream. -/
def out (c : EReal) (P : Par) (h : Fin 480 → EReal) (d : Fin 480) : EReal :=
  h d + ((∑ f, q (Ideal.div (hid c P h f) P.a3) * P.w2 f d) * P.a3 * P.s2 d + P.b2 d)

/-- One token through the layer's second half. -/
def step (c : EReal) (P : Par) (cx h : Fin 480 → EReal) : Fin 480 → EReal := out c P (mid P cx h)

/-! ## The kernel's spelling -/

/-- The kernel's projection: the context times a reciprocal, the scales folded. -/
def kmid (P : Par) (raw m h : Fin 480 → EReal) (d : Fin 480) : EReal :=
  h d + ((∑ k, P.wo k d * q (raw k * m k)) * (P.so d * P.a1) + P.bo d)

/-- The kernel's mean: `r` is one 480th. -/
def kmean (r : EReal) (h : Fin 480 → EReal) : EReal := (∑ k, h k) * r

def kln (r : EReal) (P : Par) (h : Fin 480 → EReal) (d : Fin 480) : EReal :=
  (h d - kmean r h) *
      Ideal.div 1 (Ideal.sqrt ((∑ k, (h k - kmean r h) * (h k - kmean r h)) * r + eps)) *
    Ideal.div (P.g d) P.a2 + Ideal.div (P.b d) P.a2

def kpre (r c : EReal) (P : Par) (h : Fin 480 → EReal) (f : Fin 1920) : EReal :=
  (∑ k, P.w1 k f * q (kln r P h k)) * (P.s1 f * (P.a2 * c)) + P.b1 f * c

def khid (r c : EReal) (P : Par) (h : Fin 480 → EReal) (f : Fin 1920) : EReal :=
  q (kpre r c P h f * (Ideal.erf (kpre r c P h f) + 1) * Ideal.div c P.a3)

def kout (r c : EReal) (P : Par) (h : Fin 480 → EReal) (d : Fin 480) : EReal :=
  h d + ((∑ f, P.w2 f d * khid r c P h f) * (P.s2 d * P.a3) + P.b2 d)

/-! ## They agree -/

theorem div_eq {x y : EReal} (h : y ≠ 0) : Ideal.div x y = x * y⁻¹ := by rw [Ideal.div, if_neg h]

theorem inv_nonneg' {a : EReal} (h : 0 < a) : 0 ≤ a⁻¹ := EReal.inv_nonneg_of_nonneg h.le

theorem inv_ne_top {a : EReal} (h : 0 < a) : a⁻¹ ≠ ⊤ := by
  induction a using EReal.rec with
  | bot => simp at h
  | top => simp
  | coe r => rw [← EReal.coe_inv]; exact EReal.coe_ne_top _

theorem sqrt_ne_zero {x : EReal} (h : 0 < x) : Ideal.sqrt x ≠ 0 := by
  induction x using EReal.rec with
  | bot => simp at h
  | top => simp
  | coe r =>
    have hr : 0 < r := by exact_mod_cast h
    rw [Ideal.sqrt_coe, if_neg (not_lt.2 hr.le)]
    exact_mod_cast (Real.sqrt_pos.2 hr).ne'

theorem mul_self_nonneg' (x : EReal) : 0 ≤ x * x := by
  induction x using EReal.rec with
  | bot => simp
  | top => simp
  | coe r => exact_mod_cast mul_self_nonneg r

section
variable {r c : EReal} (hr : r = ((1 / 480 : ℝ) : EReal)) (hc : c = (((Real.sqrt 2)⁻¹ : ℝ) : EReal))
include hr

theorem kmean_eq (h : Fin 480 → EReal) : kmean r h = mean h := by
  rw [kmean, mean, width_eq, Ideal.div_coe (by norm_num), hr]

theorem kln_eq (P : Par) (ha : 0 < P.a2) (h : Fin 480 → EReal) (d : Fin 480) :
    kln r P h d = Ideal.div (ln P h d) P.a2 := by
  unfold kln ln
  rw [kmean_eq hr, width_eq, Ideal.div_coe (y := (480 : ℝ)) (by norm_num), ← hr]
  have hv : 0 ≤ (∑ k, (h k - mean h) * (h k - mean h)) * r :=
    mul_nonneg (Finset.sum_nonneg fun k _ => mul_self_nonneg' _) (by rw [hr]; exact_mod_cast (by norm_num))
  have hs : Ideal.sqrt ((∑ k, (h k - mean h) * (h k - mean h)) * r + eps) ≠ 0 :=
    sqrt_ne_zero (lt_of_lt_of_le eps_pos (le_add_of_nonneg_left hv))
  rw [div_eq hs, div_eq hs, div_eq ha.ne', div_eq ha.ne', div_eq ha.ne', one_mul,
    EReal.right_distrib_of_nonneg_of_ne_top (inv_nonneg' ha) (inv_ne_top ha), mul_assoc, mul_assoc, mul_assoc]

include hc

theorem kpre_eq (P : Par) (ha : 0 < P.a2) (h : Fin 480 → EReal) (f : Fin 1920) :
    kpre r c P h f = pre P h f * c := by
  have hc0 : 0 ≤ c := by rw [hc]; exact_mod_cast (by positivity)
  have hct : c ≠ ⊤ := by rw [hc]; exact EReal.coe_ne_top _
  unfold kpre pre
  rw [EReal.right_distrib_of_nonneg_of_ne_top hc0 hct]
  simp only [kln_eq hr P ha]
  congr 1
  rw [show (∑ k, P.w1 k f * q (Ideal.div (ln P h k) P.a2)) = ∑ k, q (Ideal.div (ln P h k) P.a2) * P.w1 k f from
    Finset.sum_congr rfl fun k _ => mul_comm _ _]
  ac_rfl

theorem khid_eq (P : Par) (ha : 0 < P.a2) (ha3 : 0 < P.a3) (h : Fin 480 → EReal) (f : Fin 1920) :
    khid r c P h f = q (Ideal.div (hid c P h f) P.a3) := by
  unfold khid hid
  rw [kpre_eq hr hc P ha, div_eq ha3.ne', div_eq ha3.ne']
  have hcc : c * c = half := by
    rw [hc, half_eq, ← EReal.coe_mul]; congr 1
    rw [← mul_inv, Real.mul_self_sqrt (by norm_num)]; norm_num
  rw [← hcc, add_comm (Ideal.erf _)]
  congr 1
  ac_rfl

theorem kout_eq (P : Par) (ha : 0 < P.a2) (ha3 : 0 < P.a3) (h : Fin 480 → EReal) (d : Fin 480) :
    kout r c P h d = out c P h d := by
  unfold kout out
  simp only [khid_eq hr hc P ha ha3]
  congr 2
  rw [mul_assoc, mul_comm (P.s2 d)]
  congr 1
  exact Finset.sum_congr rfl fun k _ => mul_comm _ _
end

/-- The kernel's projection is the reference's, its context divided by the softmax denominator `den`. -/
theorem kmid_eq (P : Par) (raw den h : Fin 480 → EReal) (ha : 0 < P.a1) (hd : ∀ k, den k ≠ 0) (d : Fin 480) :
    kmid P raw (fun k => Ideal.div (Ideal.div 1 P.a1) (den k)) h d = mid P (fun k => Ideal.div (raw k) (den k)) h d := by
  unfold kmid mid
  congr 2
  rw [mul_assoc, mul_comm (P.so d)]
  congr 1
  refine Finset.sum_congr rfl fun k _ => ?_
  dsimp only
  rw [div_eq (hd k), div_eq (hd k), div_eq ha.ne', div_eq ha.ne', one_mul, mul_comm (P.a1⁻¹), mul_assoc, mul_comm]

/-- So one token's layer is the same in both spellings. -/
theorem kstep_eq {r c : EReal} (hr : r = ((1 / 480 : ℝ) : EReal)) (hc : c = (((Real.sqrt 2)⁻¹ : ℝ) : EReal)) (P : Par)
    (raw den h : Fin 480 → EReal) (ha1 : 0 < P.a1) (ha2 : 0 < P.a2) (ha3 : 0 < P.a3) (hd : ∀ k, den k ≠ 0)
    (d : Fin 480) :
    kout r c P (kmid P raw (fun k => Ideal.div (Ideal.div 1 P.a1) (den k)) h) d
      = step c P (fun k => Ideal.div (raw k) (den k)) h d := by
  rw [kout_eq hr hc P ha2 ha3, step, funext fun d => kmid_eq P raw den h ha1 hd d]

/-! ## The whole stack -/

/-- The stream after `l` layers. -/
def stream (c : EReal) (P : ℕ → Par) (cx : ℕ → Fin 480 → EReal) (h0 : Fin 480 → EReal) : ℕ → Fin 480 → EReal
  | 0 => h0
  | l + 1 => step c (P l) (cx l) (stream c P cx h0 l)

/-- A layer's number, wrapped into range so that the stream is stated at every number. -/
abbrev num (l : ℕ) : Fin 12 := ⟨l % 12, Nat.mod_lt _ (by norm_num)⟩

/-- The head of context column `k`. -/
abbrev head (k : Fin 480) : Fin 20 := ⟨k.val / 24, by omega⟩

/-- Layer `l`'s parameters, off the arguments. -/
def layer (act : (⟨2, ![12, 4]⟩ : Shape).Idx → EReal) (g b : (⟨2, ![12, 480]⟩ : Shape).Idx → EReal)
    (wo : (⟨3, ![12, 480, 480]⟩ : Shape).Idx → BitVec 8) (so bo : (⟨2, ![12, 480]⟩ : Shape).Idx → EReal)
    (w1 : (⟨3, ![12, 480, 1920]⟩ : Shape).Idx → BitVec 8) (s1 b1 : (⟨2, ![12, 1920]⟩ : Shape).Idx → EReal)
    (w2 : (⟨3, ![12, 1920, 480]⟩ : Shape).Idx → BitVec 8) (s2 b2 : (⟨2, ![12, 480]⟩ : Shape).Idx → EReal)
    (l : Fin 12) : Par where
  a1 := act (ix2 l 1)
  a2 := act (ix2 l 2)
  a3 := act (ix2 l 3)
  g k := g (ix2 l k)
  b k := b (ix2 l k)
  wo k d := wt (wo (ix3 l k d))
  so k := so (ix2 l k)
  bo k := bo (ix2 l k)
  w1 k f := wt (w1 (ix3 l k f))
  s1 k := s1 (ix2 l k)
  b1 k := b1 (ix2 l k)
  w2 f d := wt (w2 (ix3 l f d))
  s2 k := s2 (ix2 l k)
  b2 k := b2 (ix2 l k)

/-- Token `p` of sequence `s` after `l` layers, off the arguments; `P` is the layers' parameters. -/
def tok (c : EReal) (P : Fin 12 → Par) (h0 : (⟨3, ![32, 256, 480]⟩ : Shape).Idx → EReal)
    (cx : (⟨4, ![12, 32, 256, 480]⟩ : Shape).Idx → EReal) (den : (⟨4, ![12, 32, 20, 256]⟩ : Shape).Idx → EReal)
    (s : Fin 32) (p : Fin 256) (l : ℕ) : Fin 480 → EReal :=
  stream c (fun l => P (num l)) (fun l k => Ideal.div (cx (ix4 (num l) s p k)) (den (ix4 (num l) s (head k) p)))
    (fun k => h0 (ix3 s p k)) l

/-- The result both programs compute: the stream after every layer. -/
def res (c : EReal) (P : Fin 12 → Par) (h0 : (⟨3, ![32, 256, 480]⟩ : Shape).Idx → EReal)
    (cx : (⟨4, ![12, 32, 256, 480]⟩ : Shape).Idx → EReal) (den : (⟨4, ![12, 32, 20, 256]⟩ : Shape).Idx → EReal)
    (i : (⟨4, ![12, 32, 256, 480]⟩ : Shape).Idx) : EReal :=
  tok c P h0 cx den (i 1) (i 2) ((i 0).val + 1) (i 3)

end Cert.Spec

end
-- ==== Proof.KernelCodes.lean ====
/- The codes of the attention's context, as the kernel's payloads compute them: head by head, one row of the denominators
   per head, the second sequence's lanes after the first's. -/
module
public import proofs.«01_k».proof.Proof.Spec
public import proofs.«01_k».proof.Proof.Gen.KernelIdeal.Value
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

/-! ## The context's codes -/

section
variable (a : Elt Ideal .f32) (dn dn' : Vec Ideal S1x24x256 .f32) (cv cv' : Fin 20 → Vec Ideal S1x24x256 .f32)

/-- The last head's clamp, which the payload that joins the heads applies. -/
abbrev clamp (x : FVec Ideal S24x256 .f32) : FVec Ideal S24x256 .f32 := fun i => min Spec.hi (max Spec.lo (x i))

/-- The first sequence's scaled and rounded context, head by head. -/
def codesA : FVec Ideal S480x256 .f32 :=
  k0_pay127 (k0_pay103 (k0_pay101 a) dn (cv 0))
    (k0_pay104 (k0_pay101 a) dn (cv 1))
    (k0_pay105 (k0_pay101 a) dn (cv 2))
    (k0_pay107 (k0_pay106 (k0_pay101 a) dn (cv 3)))
    (k0_pay108 (k0_pay102 (k0_pay101 a) dn) (cv 4))
    (k0_pay109 (k0_pay102 (k0_pay101 a) dn) (cv 5))
    (k0_pay110 (k0_pay102 (k0_pay101 a) dn) (cv 6))
    (k0_pay112 (k0_pay111 (k0_pay102 (k0_pay101 a) dn) (cv 7)))
    (k0_pay113 (k0_pay102 (k0_pay101 a) dn) (cv 8))
    (k0_pay114 (k0_pay102 (k0_pay101 a) dn) (cv 9))
    (k0_pay115 (k0_pay102 (k0_pay101 a) dn) (cv 10))
    (k0_pay117 (k0_pay116 (k0_pay102 (k0_pay101 a) dn) (cv 11)))
    (k0_pay118 (k0_pay102 (k0_pay101 a) dn) (cv 12))
    (k0_pay119 (k0_pay102 (k0_pay101 a) dn) (cv 13))
    (k0_pay120 (k0_pay102 (k0_pay101 a) dn) (cv 14))
    (k0_pay122 (k0_pay121 (k0_pay102 (k0_pay101 a) dn) (cv 15)))
    (k0_pay123 (k0_pay102 (k0_pay101 a) dn) (cv 16))
    (k0_pay124 (k0_pay102 (k0_pay101 a) dn) (cv 17))
    (k0_pay125 (k0_pay102 (k0_pay101 a) dn) (cv 18))
    (k0_pay126 (k0_pay102 (k0_pay101 a) dn) (cv 19))

/-- The heads it joins. -/
def headsA : Fin 20 → FVec Ideal S24x256 .f32 :=
  ![(k0_pay103 (k0_pay101 a) dn (cv 0)),
    (k0_pay104 (k0_pay101 a) dn (cv 1)),
    (k0_pay105 (k0_pay101 a) dn (cv 2)),
    (k0_pay107 (k0_pay106 (k0_pay101 a) dn (cv 3))),
    (k0_pay108 (k0_pay102 (k0_pay101 a) dn) (cv 4)),
    (k0_pay109 (k0_pay102 (k0_pay101 a) dn) (cv 5)),
    (k0_pay110 (k0_pay102 (k0_pay101 a) dn) (cv 6)),
    (k0_pay112 (k0_pay111 (k0_pay102 (k0_pay101 a) dn) (cv 7))),
    (k0_pay113 (k0_pay102 (k0_pay101 a) dn) (cv 8)),
    (k0_pay114 (k0_pay102 (k0_pay101 a) dn) (cv 9)),
    (k0_pay115 (k0_pay102 (k0_pay101 a) dn) (cv 10)),
    (k0_pay117 (k0_pay116 (k0_pay102 (k0_pay101 a) dn) (cv 11))),
    (k0_pay118 (k0_pay102 (k0_pay101 a) dn) (cv 12)),
    (k0_pay119 (k0_pay102 (k0_pay101 a) dn) (cv 13)),
    (k0_pay120 (k0_pay102 (k0_pay101 a) dn) (cv 14)),
    (k0_pay122 (k0_pay121 (k0_pay102 (k0_pay101 a) dn) (cv 15))),
    (k0_pay123 (k0_pay102 (k0_pay101 a) dn) (cv 16)),
    (k0_pay124 (k0_pay102 (k0_pay101 a) dn) (cv 17)),
    (k0_pay125 (k0_pay102 (k0_pay101 a) dn) (cv 18)),
    clamp (k0_pay126 (k0_pay102 (k0_pay101 a) dn) (cv 19))]

/-- Both sequences' context codes, the second beside the first. -/
def codes : FVec Ideal S480x512 .bf16 :=
  k0_pay148 (codesA a dn cv) (k0_pay128 (k0_pay101 a) dn')
    (k0_pay129 (k0_pay101 a) dn' (cv' 0))
    (k0_pay130 (k0_pay101 a) dn' (cv' 1))
    (k0_pay131 (k0_pay101 a) dn' (cv' 2))
    (k0_pay132 (k0_pay128 (k0_pay101 a) dn') (cv' 3))
    (k0_pay133 (k0_pay128 (k0_pay101 a) dn') (cv' 4))
    (k0_pay134 (k0_pay128 (k0_pay101 a) dn') (cv' 5))
    (k0_pay135 (k0_pay128 (k0_pay101 a) dn') (cv' 6))
    (k0_pay136 (k0_pay128 (k0_pay101 a) dn') (cv' 7))
    (k0_pay137 (k0_pay128 (k0_pay101 a) dn') (cv' 8))
    (k0_pay138 (k0_pay128 (k0_pay101 a) dn') (cv' 9))
    (k0_pay139 (k0_pay128 (k0_pay101 a) dn') (cv' 10))
    (k0_pay140 (k0_pay128 (k0_pay101 a) dn') (cv' 11))
    (k0_pay141 (k0_pay128 (k0_pay101 a) dn') (cv' 12))
    (k0_pay142 (k0_pay128 (k0_pay101 a) dn') (cv' 13))
    (k0_pay143 (k0_pay128 (k0_pay101 a) dn') (cv' 14))
    (k0_pay144 (k0_pay128 (k0_pay101 a) dn') (cv' 15))
    (k0_pay145 (k0_pay128 (k0_pay101 a) dn') (cv' 16))
    (k0_pay146 (k0_pay128 (k0_pay101 a) dn') (cv' 17))
    (k0_pay147 (k0_pay128 (k0_pay101 a) dn') (cv' 18)) (cv' 19)

/-- The second sequence's last head, which the joining payload computes itself. -/
def lastB (x : Vec Ideal S1x24x256 .f32) : FVec Ideal S24x256 .f32 :=
  minimumf (broadcast S24x256 (Scalar.ofBits .f32 0x42FE0000#32)) (maximumf (broadcast S24x256 (Scalar.ofBits .f32 0xC2FE0000#32))
    (roundeven (mulf (shapeCast S24x256 x shapeCasts_S1x24x256_S24x256)
      (broadcastTo S24x256 (extractStridedSlice S1x256 ![19, 0] (k0_pay128 (k0_pay101 a) dn') slices_S24x256_o19_0_S1x256)
        broadcasts_S1x256_S24x256))))

/-- The second sequence's heads. -/
def headsB : Fin 20 → FVec Ideal S24x256 .f32 :=
  ![(k0_pay129 (k0_pay101 a) dn' (cv' 0)),
    (k0_pay130 (k0_pay101 a) dn' (cv' 1)),
    (k0_pay131 (k0_pay101 a) dn' (cv' 2)),
    (k0_pay132 (k0_pay128 (k0_pay101 a) dn') (cv' 3)),
    (k0_pay133 (k0_pay128 (k0_pay101 a) dn') (cv' 4)),
    (k0_pay134 (k0_pay128 (k0_pay101 a) dn') (cv' 5)),
    (k0_pay135 (k0_pay128 (k0_pay101 a) dn') (cv' 6)),
    (k0_pay136 (k0_pay128 (k0_pay101 a) dn') (cv' 7)),
    (k0_pay137 (k0_pay128 (k0_pay101 a) dn') (cv' 8)),
    (k0_pay138 (k0_pay128 (k0_pay101 a) dn') (cv' 9)),
    (k0_pay139 (k0_pay128 (k0_pay101 a) dn') (cv' 10)),
    (k0_pay140 (k0_pay128 (k0_pay101 a) dn') (cv' 11)),
    (k0_pay141 (k0_pay128 (k0_pay101 a) dn') (cv' 12)),
    (k0_pay142 (k0_pay128 (k0_pay101 a) dn') (cv' 13)),
    (k0_pay143 (k0_pay128 (k0_pay101 a) dn') (cv' 14)),
    (k0_pay144 (k0_pay128 (k0_pay101 a) dn') (cv' 15)),
    (k0_pay145 (k0_pay128 (k0_pay101 a) dn') (cv' 16)),
    (k0_pay146 (k0_pay128 (k0_pay101 a) dn') (cv' 17)),
    (k0_pay147 (k0_pay128 (k0_pay101 a) dn') (cv' 18)),
    lastB a dn' (cv' 19)]

/-- One head's code from its row of the context and its row of the denominators. -/
def code1 (x : Vec Ideal S1x24x256 .f32) (y : Vec Ideal S1x24x256 .f32) (h e : Fin 24) (p : Fin 256) : EReal :=
  Spec.q (x (ix3 0 e p) * Ideal.div (Ideal.div 1 a) (y (ix3 0 h p)))

theorem headA_0 (e : Fin 24) (p : Fin 256) :
    ((k0_pay103 (k0_pay101 a) dn (cv 0)) (ix2 e p)) = code1 a (cv 0) dn 0 e p := by
  pointwise [k0_pay103, k0_pay101, k0_pay102]
  rfl

theorem headA_1 (e : Fin 24) (p : Fin 256) :
    ((k0_pay104 (k0_pay101 a) dn (cv 1)) (ix2 e p)) = code1 a (cv 1) dn 1 e p := by
  pointwise [k0_pay104, k0_pay101, k0_pay102]
  rfl

theorem headA_2 (e : Fin 24) (p : Fin 256) :
    ((k0_pay105 (k0_pay101 a) dn (cv 2)) (ix2 e p)) = code1 a (cv 2) dn 2 e p := by
  pointwise [k0_pay105, k0_pay101, k0_pay102]
  rfl

theorem headA_3 (e : Fin 24) (p : Fin 256) :
    ((k0_pay107 (k0_pay106 (k0_pay101 a) dn (cv 3))) (ix2 e p)) = code1 a (cv 3) dn 3 e p := by
  pointwise [k0_pay106, k0_pay107, k0_pay101, k0_pay102]
  rfl

theorem headA_4 (e : Fin 24) (p : Fin 256) :
    ((k0_pay108 (k0_pay102 (k0_pay101 a) dn) (cv 4)) (ix2 e p)) = code1 a (cv 4) dn 4 e p := by
  pointwise [k0_pay108, k0_pay101, k0_pay102]
  rfl

theorem headA_5 (e : Fin 24) (p : Fin 256) :
    ((k0_pay109 (k0_pay102 (k0_pay101 a) dn) (cv 5)) (ix2 e p)) = code1 a (cv 5) dn 5 e p := by
  pointwise [k0_pay109, k0_pay101, k0_pay102]
  rfl

theorem headA_6 (e : Fin 24) (p : Fin 256) :
    ((k0_pay110 (k0_pay102 (k0_pay101 a) dn) (cv 6)) (ix2 e p)) = code1 a (cv 6) dn 6 e p := by
  pointwise [k0_pay110, k0_pay101, k0_pay102]
  rfl

theorem headA_7 (e : Fin 24) (p : Fin 256) :
    ((k0_pay112 (k0_pay111 (k0_pay102 (k0_pay101 a) dn) (cv 7))) (ix2 e p)) = code1 a (cv 7) dn 7 e p := by
  pointwise [k0_pay111, k0_pay112, k0_pay101, k0_pay102]
  rfl

theorem headA_8 (e : Fin 24) (p : Fin 256) :
    ((k0_pay113 (k0_pay102 (k0_pay101 a) dn) (cv 8)) (ix2 e p)) = code1 a (cv 8) dn 8 e p := by
  pointwise [k0_pay113, k0_pay101, k0_pay102]
  rfl

theorem headA_9 (e : Fin 24) (p : Fin 256) :
    ((k0_pay114 (k0_pay102 (k0_pay101 a) dn) (cv 9)) (ix2 e p)) = code1 a (cv 9) dn 9 e p := by
  pointwise [k0_pay114, k0_pay101, k0_pay102]
  rfl

theorem headA_10 (e : Fin 24) (p : Fin 256) :
    ((k0_pay115 (k0_pay102 (k0_pay101 a) dn) (cv 10)) (ix2 e p)) = code1 a (cv 10) dn 10 e p := by
  pointwise [k0_pay115, k0_pay101, k0_pay102]
  rfl

theorem headA_11 (e : Fin 24) (p : Fin 256) :
    ((k0_pay117 (k0_pay116 (k0_pay102 (k0_pay101 a) dn) (cv 11))) (ix2 e p)) = code1 a (cv 11) dn 11 e p := by
  pointwise [k0_pay116, k0_pay117, k0_pay101, k0_pay102]
  rfl

theorem headA_12 (e : Fin 24) (p : Fin 256) :
    ((k0_pay118 (k0_pay102 (k0_pay101 a) dn) (cv 12)) (ix2 e p)) = code1 a (cv 12) dn 12 e p := by
  pointwise [k0_pay118, k0_pay101, k0_pay102]
  rfl

theorem headA_13 (e : Fin 24) (p : Fin 256) :
    ((k0_pay119 (k0_pay102 (k0_pay101 a) dn) (cv 13)) (ix2 e p)) = code1 a (cv 13) dn 13 e p := by
  pointwise [k0_pay119, k0_pay101, k0_pay102]
  rfl

theorem headA_14 (e : Fin 24) (p : Fin 256) :
    ((k0_pay120 (k0_pay102 (k0_pay101 a) dn) (cv 14)) (ix2 e p)) = code1 a (cv 14) dn 14 e p := by
  pointwise [k0_pay120, k0_pay101, k0_pay102]
  rfl

theorem headA_15 (e : Fin 24) (p : Fin 256) :
    ((k0_pay122 (k0_pay121 (k0_pay102 (k0_pay101 a) dn) (cv 15))) (ix2 e p)) = code1 a (cv 15) dn 15 e p := by
  pointwise [k0_pay121, k0_pay122, k0_pay101, k0_pay102]
  rfl

theorem headA_16 (e : Fin 24) (p : Fin 256) :
    ((k0_pay123 (k0_pay102 (k0_pay101 a) dn) (cv 16)) (ix2 e p)) = code1 a (cv 16) dn 16 e p := by
  pointwise [k0_pay123, k0_pay101, k0_pay102]
  rfl

theorem headA_17 (e : Fin 24) (p : Fin 256) :
    ((k0_pay124 (k0_pay102 (k0_pay101 a) dn) (cv 17)) (ix2 e p)) = code1 a (cv 17) dn 17 e p := by
  pointwise [k0_pay124, k0_pay101, k0_pay102]
  rfl

theorem headA_18 (e : Fin 24) (p : Fin 256) :
    ((k0_pay125 (k0_pay102 (k0_pay101 a) dn) (cv 18)) (ix2 e p)) = code1 a (cv 18) dn 18 e p := by
  pointwise [k0_pay125, k0_pay101, k0_pay102]
  rfl

theorem headA_19 (e : Fin 24) (p : Fin 256) :
    min Spec.hi (max Spec.lo ((k0_pay126 (k0_pay102 (k0_pay101 a) dn) (cv 19)) (ix2 e p))) = code1 a (cv 19) dn 19 e p := by
  pointwise [k0_pay126, k0_pay101, k0_pay102]
  rfl

theorem headB_0 (e : Fin 24) (p : Fin 256) :
    (k0_pay129 (k0_pay101 a) dn' (cv' 0)) (ix2 e p) = code1 a (cv' 0) dn' 0 e p := by
  pointwise [k0_pay129, k0_pay128, k0_pay101]
  rfl

theorem headB_1 (e : Fin 24) (p : Fin 256) :
    (k0_pay130 (k0_pay101 a) dn' (cv' 1)) (ix2 e p) = code1 a (cv' 1) dn' 1 e p := by
  pointwise [k0_pay130, k0_pay128, k0_pay101]
  rfl

theorem headB_2 (e : Fin 24) (p : Fin 256) :
    (k0_pay131 (k0_pay101 a) dn' (cv' 2)) (ix2 e p) = code1 a (cv' 2) dn' 2 e p := by
  pointwise [k0_pay131, k0_pay128, k0_pay101]
  rfl

theorem headB_3 (e : Fin 24) (p : Fin 256) :
    (k0_pay132 (k0_pay128 (k0_pay101 a) dn') (cv' 3)) (ix2 e p) = code1 a (cv' 3) dn' 3 e p := by
  pointwise [k0_pay132, k0_pay128, k0_pay101]
  rfl

theorem headB_4 (e : Fin 24) (p : Fin 256) :
    (k0_pay133 (k0_pay128 (k0_pay101 a) dn') (cv' 4)) (ix2 e p) = code1 a (cv' 4) dn' 4 e p := by
  pointwise [k0_pay133, k0_pay128, k0_pay101]
  rfl

theorem headB_5 (e : Fin 24) (p : Fin 256) :
    (k0_pay134 (k0_pay128 (k0_pay101 a) dn') (cv' 5)) (ix2 e p) = code1 a (cv' 5) dn' 5 e p := by
  pointwise [k0_pay134, k0_pay128, k0_pay101]
  rfl

theorem headB_6 (e : Fin 24) (p : Fin 256) :
    (k0_pay135 (k0_pay128 (k0_pay101 a) dn') (cv' 6)) (ix2 e p) = code1 a (cv' 6) dn' 6 e p := by
  pointwise [k0_pay135, k0_pay128, k0_pay101]
  rfl

theorem headB_7 (e : Fin 24) (p : Fin 256) :
    (k0_pay136 (k0_pay128 (k0_pay101 a) dn') (cv' 7)) (ix2 e p) = code1 a (cv' 7) dn' 7 e p := by
  pointwise [k0_pay136, k0_pay128, k0_pay101]
  rfl

theorem headB_8 (e : Fin 24) (p : Fin 256) :
    (k0_pay137 (k0_pay128 (k0_pay101 a) dn') (cv' 8)) (ix2 e p) = code1 a (cv' 8) dn' 8 e p := by
  pointwise [k0_pay137, k0_pay128, k0_pay101]
  rfl

theorem headB_9 (e : Fin 24) (p : Fin 256) :
    (k0_pay138 (k0_pay128 (k0_pay101 a) dn') (cv' 9)) (ix2 e p) = code1 a (cv' 9) dn' 9 e p := by
  pointwise [k0_pay138, k0_pay128, k0_pay101]
  rfl

theorem headB_10 (e : Fin 24) (p : Fin 256) :
    (k0_pay139 (k0_pay128 (k0_pay101 a) dn') (cv' 10)) (ix2 e p) = code1 a (cv' 10) dn' 10 e p := by
  pointwise [k0_pay139, k0_pay128, k0_pay101]
  rfl

theorem headB_11 (e : Fin 24) (p : Fin 256) :
    (k0_pay140 (k0_pay128 (k0_pay101 a) dn') (cv' 11)) (ix2 e p) = code1 a (cv' 11) dn' 11 e p := by
  pointwise [k0_pay140, k0_pay128, k0_pay101]
  rfl

theorem headB_12 (e : Fin 24) (p : Fin 256) :
    (k0_pay141 (k0_pay128 (k0_pay101 a) dn') (cv' 12)) (ix2 e p) = code1 a (cv' 12) dn' 12 e p := by
  pointwise [k0_pay141, k0_pay128, k0_pay101]
  rfl

theorem headB_13 (e : Fin 24) (p : Fin 256) :
    (k0_pay142 (k0_pay128 (k0_pay101 a) dn') (cv' 13)) (ix2 e p) = code1 a (cv' 13) dn' 13 e p := by
  pointwise [k0_pay142, k0_pay128, k0_pay101]
  rfl

theorem headB_14 (e : Fin 24) (p : Fin 256) :
    (k0_pay143 (k0_pay128 (k0_pay101 a) dn') (cv' 14)) (ix2 e p) = code1 a (cv' 14) dn' 14 e p := by
  pointwise [k0_pay143, k0_pay128, k0_pay101]
  rfl

theorem headB_15 (e : Fin 24) (p : Fin 256) :
    (k0_pay144 (k0_pay128 (k0_pay101 a) dn') (cv' 15)) (ix2 e p) = code1 a (cv' 15) dn' 15 e p := by
  pointwise [k0_pay144, k0_pay128, k0_pay101]
  rfl

theorem headB_16 (e : Fin 24) (p : Fin 256) :
    (k0_pay145 (k0_pay128 (k0_pay101 a) dn') (cv' 16)) (ix2 e p) = code1 a (cv' 16) dn' 16 e p := by
  pointwise [k0_pay145, k0_pay128, k0_pay101]
  rfl

theorem headB_17 (e : Fin 24) (p : Fin 256) :
    (k0_pay146 (k0_pay128 (k0_pay101 a) dn') (cv' 17)) (ix2 e p) = code1 a (cv' 17) dn' 17 e p := by
  pointwise [k0_pay146, k0_pay128, k0_pay101]
  rfl

theorem headB_18 (e : Fin 24) (p : Fin 256) :
    (k0_pay147 (k0_pay128 (k0_pay101 a) dn') (cv' 18)) (ix2 e p) = code1 a (cv' 18) dn' 18 e p := by
  pointwise [k0_pay147, k0_pay128, k0_pay101]
  rfl

theorem headB_19 (e : Fin 24) (p : Fin 256) :
    lastB a dn' (cv' 19) (ix2 e p) = code1 a (cv' 19) dn' 19 e p := by
  pointwise [lastB, k0_pay128, k0_pay101]
  rfl

theorem headsA_at (h : Fin 20) (e : Fin 24) (p : Fin 256) :
    headsA a dn cv h (ix2 e p) = code1 a (cv h) dn ⟨h.val, by omega⟩ e p :=
  match h with
  | 0 => headA_0 a dn cv e p
  | 1 => headA_1 a dn cv e p
  | 2 => headA_2 a dn cv e p
  | 3 => headA_3 a dn cv e p
  | 4 => headA_4 a dn cv e p
  | 5 => headA_5 a dn cv e p
  | 6 => headA_6 a dn cv e p
  | 7 => headA_7 a dn cv e p
  | 8 => headA_8 a dn cv e p
  | 9 => headA_9 a dn cv e p
  | 10 => headA_10 a dn cv e p
  | 11 => headA_11 a dn cv e p
  | 12 => headA_12 a dn cv e p
  | 13 => headA_13 a dn cv e p
  | 14 => headA_14 a dn cv e p
  | 15 => headA_15 a dn cv e p
  | 16 => headA_16 a dn cv e p
  | 17 => headA_17 a dn cv e p
  | 18 => headA_18 a dn cv e p
  | 19 => headA_19 a dn cv e p
  | ⟨n + 20, hn⟩ => absurd hn (by omega)

theorem headsB_at (h : Fin 20) (e : Fin 24) (p : Fin 256) :
    headsB a dn' cv' h (ix2 e p) = code1 a (cv' h) dn' ⟨h.val, by omega⟩ e p :=
  match h with
  | 0 => headB_0 a dn' cv' e p
  | 1 => headB_1 a dn' cv' e p
  | 2 => headB_2 a dn' cv' e p
  | 3 => headB_3 a dn' cv' e p
  | 4 => headB_4 a dn' cv' e p
  | 5 => headB_5 a dn' cv' e p
  | 6 => headB_6 a dn' cv' e p
  | 7 => headB_7 a dn' cv' e p
  | 8 => headB_8 a dn' cv' e p
  | 9 => headB_9 a dn' cv' e p
  | 10 => headB_10 a dn' cv' e p
  | 11 => headB_11 a dn' cv' e p
  | 12 => headB_12 a dn' cv' e p
  | 13 => headB_13 a dn' cv' e p
  | 14 => headB_14 a dn' cv' e p
  | 15 => headB_15 a dn' cv' e p
  | 16 => headB_16 a dn' cv' e p
  | 17 => headB_17 a dn' cv' e p
  | 18 => headB_18 a dn' cv' e p
  | 19 => headB_19 a dn' cv' e p
  | ⟨n + 20, hn⟩ => absurd hn (by omega)

theorem codesA_at (k : Fin 480) (p : Fin 256) :
    codesA a dn cv (ix2 k p)
      = code1 a (cv (Spec.head k)) dn ⟨k.val / 24, by omega⟩ ⟨k.val % 24, Nat.mod_lt _ (by norm_num)⟩ p := by
  refine Eq.trans ?_ (headsA_at a dn cv (Spec.head k) ⟨k.val % 24, Nat.mod_lt _ (by norm_num)⟩ p)
  exact concatenate_ofFn_apply (t := S480x256) (s₁ := S24x256) 0 (headsA a dn cv)
    concatenates_S24x256_S24x256_S24x256_S24x256_S24x256_S24x256_S24x256_S24x256_S24x256_S24x256_S24x256_S24x256_S24x256_S24x256_S24x256_S24x256_S24x256_S24x256_S24x256_S24x256_S480x256_d0 rfl 24 rfl (ix2 k p)
    (Spec.head k) rfl (ix2 ⟨k.val % 24, Nat.mod_lt _ (by norm_num)⟩ p) rfl (fun b hb => by
      fin_cases b
      · exact absurd rfl hb
      · rfl)

/-- The second sequence's codes, joined. -/
def codesB : FVec Ideal S480x256 .f32 :=
  concatenate S480x256 0 (List.ofFn fun n : Fin 20 => (⟨S24x256, headsB a dn' cv' n⟩ : (s : Shape) × (s.Idx → EReal)))
    concatenates_S24x256_S24x256_S24x256_S24x256_S24x256_S24x256_S24x256_S24x256_S24x256_S24x256_S24x256_S24x256_S24x256_S24x256_S24x256_S24x256_S24x256_S24x256_S24x256_S24x256_S480x256_d0

theorem codesB_at (k : Fin 480) (p : Fin 256) :
    codesB a dn' cv' (ix2 k p)
      = code1 a (cv' (Spec.head k)) dn' ⟨k.val / 24, by omega⟩ ⟨k.val % 24, Nat.mod_lt _ (by norm_num)⟩ p := by
  refine Eq.trans ?_ (headsB_at a dn' cv' (Spec.head k) ⟨k.val % 24, Nat.mod_lt _ (by norm_num)⟩ p)
  exact concatenate_ofFn_apply (t := S480x256) (s₁ := S24x256) 0 (headsB a dn' cv') _ rfl 24 rfl (ix2 k p)
    (Spec.head k) rfl (ix2 ⟨k.val % 24, Nat.mod_lt _ (by norm_num)⟩ p) rfl (fun b hb => by
      fin_cases b
      · exact absurd rfl hb
      · rfl)

theorem codes_eq : codes a dn dn' cv cv' = shapeCast S480x512 (truncf .bf16 (concatenate S480x512 1
    [⟨S480x256, codesA a dn cv⟩, ⟨S480x256, codesB a dn' cv'⟩] concatenates_S480x256_S480x256_S480x512_d1) bitsLt_bf16_f32) shapeCasts_S480x512_S480x512 := rfl

theorem join_at (x y : FVec Ideal S480x256 .f32) (k : Fin 480) (t : Fin 512) :
    (shapeCast S480x512 (truncf .bf16 (concatenate S480x512 1 [⟨S480x256, x⟩, ⟨S480x256, y⟩]
      concatenates_S480x256_S480x256_S480x512_d1) bitsLt_bf16_f32) shapeCasts_S480x512_S480x512 : FVec Ideal S480x512 .bf16) (ix2 k t)
      = if h : t.val < 256 then x (ix2 k ⟨t.val, h⟩) else y (ix2 k ⟨t.val - 256, by omega⟩) := by
  pointwise

/-- The codes, given what the loads read: the raw context column by column and the denominators head by head. -/
theorem codes_at (raw : Fin 480 → Fin 512 → EReal) (den : Fin 20 → Fin 512 → EReal)
    (hc : ∀ (h : Fin 20) (e : Fin 24) (p : Fin 256),
      cv h (ix3 0 e p) = raw ⟨24 * h.val + e.val, by omega⟩ ⟨p.val, by omega⟩)
    (hc' : ∀ (h : Fin 20) (e : Fin 24) (p : Fin 256),
      cv' h (ix3 0 e p) = raw ⟨24 * h.val + e.val, by omega⟩ ⟨256 + p.val, by omega⟩)
    (hd : ∀ (h : Fin 20) (p : Fin 256), dn (ix3 0 ⟨h.val, by omega⟩ p) = den h ⟨p.val, by omega⟩)
    (hd' : ∀ (h : Fin 20) (p : Fin 256), dn' (ix3 0 ⟨h.val, by omega⟩ p) = den h ⟨256 + p.val, by omega⟩)
    (k : Fin 480) (t : Fin 512) :
    codes a dn dn' cv cv' (ix2 k t) = Spec.q (raw k t * Ideal.div (Ideal.div 1 a) (den (Spec.head k) t)) := by
  have ek : (⟨24 * (k.val / 24) + k.val % 24, by omega⟩ : Fin 480) = k := Fin.ext (Nat.div_add_mod _ _)
  rw [codes_eq, join_at]
  split
  · rename_i h
    rw [codesA_at, code1, hc, hd (Spec.head k)]
    exact congrArg _ (congrArg₂ _ (congrArg (raw · t) ek) rfl)
  · rename_i h
    have et : (⟨256 + (t.val - 256), by omega⟩ : Fin 512) = t := Fin.ext (by simp only; omega)
    rw [codesB_at, code1, hc', hd' (Spec.head k)]
    simp only [et]
    exact congrArg _ (congrArg₂ _ (congrArg (raw · t) ek) rfl)

end
end Cert.KernelIdeal.Val
end
-- ==== Proof.KernelPay.lean ====
/- What the kernel's payloads compute at a coordinate: the middle stream, the layer norm's codes, the hidden codes and the
   layer's output, each in `Spec`'s kernel spelling. -/
module
public import proofs.«01_k».proof.Proof.Spec
public import proofs.«01_k».proof.Proof.Gen.KernelIdeal.Value
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

/-- The root of one half and one 480th, as the program names them. -/
abbrev root : EReal := (Named.named κ "inv_sqrt2" 0x3F3504F3#32 : Ideal .f32)
abbrev inv480 : EReal := (Named.named κ "mean" 0x3B088889#32 : Ideal .f32)

/-! ## Sums -/

/-- A sum over the 512 padded columns is one over the first 480 where the rest contribute nothing. -/
theorem sum_pad (f : Fin 512 → EReal) (g : Fin 480 → EReal) (h1 : ∀ k : Fin 480, f ⟨k.val, by omega⟩ = g k)
    (h2 : ∀ j : Fin 32, f ⟨480 + j.val, by omega⟩ = 0) : ∑ x, f x = ∑ k, g k := by
  refine (Fin.sum_univ_add (a := 480) (b := 32) f).trans ?_
  rw [show (∑ i : Fin 32, f (Fin.natAdd 480 i)) = 0 from Finset.sum_eq_zero fun j _ => h2 j, add_zero]
  exact Finset.sum_congr rfl fun k _ => h1 k

/-- Sixty slices of eight rows, in any association, sum to all 480. -/
theorem sum_rows (f : Fin 480 → EReal) (g : Fin 8 → EReal)
    (h : ∀ r : Fin 8, g r = ∑ i : Fin 60, f ⟨8 * i.val + r.val, by omega⟩) : ∑ r, g r = ∑ k, f k := by
  rw [Fin.sum_univ_tiles 60 8 rfl, Finset.sum_comm]
  exact Finset.sum_congr rfl fun r _ => h r

/-! ## The middle stream -/

section
variable (hi w : FVec Ideal S480x512 .f32) (wo : Vec Ideal S480x512 .bf16) (xt : Vec Ideal S512x512 .bf16)
  (so bo g b : Vec Ideal S480x128 .f32) (P : Spec.Par) (raw m : Fin 480 → EReal)

theorem hmid_at (t : Fin 512) (hwo : ∀ d (k : Fin 480), wo (ix2 d ⟨k.val, by omega⟩) = P.wo k d)
    (hwz : ∀ d (j : Fin 32), wo (ix2 d ⟨480 + j.val, by omega⟩) = 0)
    (hx : ∀ k : Fin 480, xt (ix2 ⟨k.val, by omega⟩ t) = Spec.q (raw k * m k))
    (hso : ∀ d j, so (ix2 d j) = P.so d * P.a1) (hbo : ∀ d j, bo (ix2 d j) = P.bo d) (d : Fin 480) :
    k0_pay151 hi (k0_pay150 wo xt so) bo (ix2 d t) = Spec.kmid P raw m (fun k => hi (ix2 k t)) d := by
  pointwise [k0_pay151, k0_pay150]
  simp only [hso, hbo, dite_eq_ite, ite_self]
  rw [sum_pad _ (fun k => P.wo k d * Spec.q (raw k * m k)) (fun k => by rw [hwo, hx])
    (fun j => by rw [hwz, zero_mul])]
  rfl

/-! ## The layer norm -/

/-- The middle stream's partial sums over the rows, eight rows at a time in four accumulators. -/
def acc0 : FVec Ideal S8x512 .f32 := k0_pay157 (k0_pay151 hi w bo) (k0_pay155 hi w bo)
def acc1 : FVec Ideal S8x512 .f32 := k0_pay158 (k0_pay151 hi w bo) (k0_pay156 hi w bo)
def acc2 : FVec Ideal S8x512 .f32 := k0_pay159 (k0_pay151 hi w bo) (k0_pay153 hi w bo)
def acc3 : FVec Ideal S8x512 .f32 := k0_pay160 (k0_pay151 hi w bo) (k0_pay154 hi w bo)

/-- The stream less its mean, and its square. -/
def cen : FVec Ideal S480x512 .f32 := k0_pay161 (k0_pay151 hi w bo) (acc0 hi w bo) (acc1 hi w bo) (acc2 hi w bo) (acc3 hi w bo)
def csq : FVec Ideal S480x512 .f32 := k0_pay162 (k0_pay151 hi w bo) (acc0 hi w bo) (acc1 hi w bo) (acc2 hi w bo) (acc3 hi w bo)

theorem cen_at (t : Fin 512) (h : Fin 480 → EReal) (hh : ∀ d, k0_pay151 hi w bo (ix2 d t) = h d) (d : Fin 480) :
    cen hi w bo (ix2 d t) = h d - Spec.kmean inv480 h := by
  have hF : ∀ n (hn : n < 480), h ⟨n, hn⟩ = (fun n => if hn : n < 480 then h ⟨n, hn⟩ else 0) n := fun n hn => by
    simp only [dif_pos hn]
  generalize (fun n => if hn : n < 480 then h ⟨n, hn⟩ else 0) = F at hF
  unfold cen
  pointwise [k0_pay161]
  rw [hh]
  refine congrArg (h d - ·) (congrArg (· * inv480) (sum_rows h _ fun r => ?_))
  pointwise [acc0, acc1, acc2, acc3, k0_pay153, k0_pay154, k0_pay155, k0_pay156, k0_pay157, k0_pay158, k0_pay159, k0_pay160]
  simp only [hh, hF]
  rw [Fin.sum_univ_eq_sum_range (fun i => F (8 * i + r)) 60]
  simp only [Finset.sum_range_succ, Finset.sum_range_zero, zero_add, Nat.reduceMul]
  abel

theorem csq_at (t : Fin 512) (h : Fin 480 → EReal) (hh : ∀ d, k0_pay151 hi w bo (ix2 d t) = h d) (d : Fin 480) :
    csq hi w bo (ix2 d t) = (h d - Spec.kmean inv480 h) * (h d - Spec.kmean inv480 h) := by
  rw [← cen_at hi w bo t h hh d]
  unfold csq cen
  pointwise [k0_pay161, k0_pay162]

/-- The layer norm's codes. -/
def lnc : FVec Ideal S480x512 .bf16 :=
  k0_pay171 (cen hi w bo) (csq hi w bo)
    (k0_pay167 (csq hi w bo) (k0_pay165 (k0_pay151 hi w bo) (acc0 hi w bo) (acc1 hi w bo) (acc2 hi w bo) (acc3 hi w bo)))
    (k0_pay168 (csq hi w bo) (k0_pay166 (k0_pay151 hi w bo) (acc0 hi w bo) (acc1 hi w bo) (acc2 hi w bo) (acc3 hi w bo)))
    (k0_pay169 (csq hi w bo) (k0_pay163 (k0_pay151 hi w bo) (acc0 hi w bo) (acc1 hi w bo) (acc2 hi w bo) (acc3 hi w bo)))
    (k0_pay170 (csq hi w bo) (k0_pay164 (k0_pay151 hi w bo) (acc0 hi w bo) (acc1 hi w bo) (acc2 hi w bo) (acc3 hi w bo)))
    g b

theorem lnc_at (t : Fin 512) (h : Fin 480 → EReal) (hh : ∀ d, k0_pay151 hi w bo (ix2 d t) = h d)
    (hg : ∀ d j, g (ix2 d j) = Ideal.div (P.g d) P.a2) (hb : ∀ d j, b (ix2 d j) = Ideal.div (P.b d) P.a2) (d : Fin 480) :
    lnc hi w bo g b (ix2 d t) = Spec.q (Spec.kln inv480 P h d) := by
  have hc := csq_at hi w bo t h hh
  obtain ⟨F, hF⟩ : ∃ F : ℕ → EReal, ∀ n (hn : n < 480),
      (h ⟨n, hn⟩ - Spec.kmean inv480 h) * (h ⟨n, hn⟩ - Spec.kmean inv480 h) = F n :=
    ⟨fun n => if hn : n < 480 then (h ⟨n, hn⟩ - Spec.kmean inv480 h) * (h ⟨n, hn⟩ - Spec.kmean inv480 h) else 0,
      fun n hn => by simp only [dif_pos hn]⟩
  unfold lnc
  pointwise [k0_pay171]
  simp only [hg, hb, dite_eq_ite, ite_self]
  rw [cen_at hi w bo t h hh]
  refine congrArg Spec.q (congrArg (· + _) (congrArg (· * _) (congrArg (_ * Ideal.div 1 ·) (congrArg Ideal.sqrt
    (congrArg (· + Spec.eps) (congrArg (· * inv480) (sum_rows (fun d => (h d - Spec.kmean inv480 h) * (h d - Spec.kmean inv480 h)) _ fun r => ?_)))))))
  have e : ∀ d, k0_pay162 (k0_pay151 hi w bo) (acc0 hi w bo) (acc1 hi w bo) (acc2 hi w bo) (acc3 hi w bo) (ix2 d t)
      = (h d - Spec.kmean inv480 h) * (h d - Spec.kmean inv480 h) := hc
  pointwise [k0_pay163, k0_pay164, k0_pay165, k0_pay166, k0_pay167, k0_pay168, k0_pay169, k0_pay170]
  simp only [hc, e, hF]
  rw [Fin.sum_univ_eq_sum_range (fun i => F (8 * i + r)) 60]
  simp only [Finset.sum_range_succ, Finset.sum_range_zero, zero_add, Nat.reduceMul]
  abel
end

/-! ## The feed-forward block -/

section
variable (a : Elt Ideal .f32) (xt : Vec Ideal S512x512 .bf16) (w1 : Vec Ideal S480x512 .bf16) (s b : Vec Ideal S480x128 .f32)
  (P : Spec.Par) (h : Fin 480 → EReal) (t : Fin 512) (f : Fin 480 → Fin 1920)

/-- What one chunk of 480 hidden rows reads: its weights, its scales and biases, and the layer norm's codes. -/
structure Chunk : Prop where
  a3 : a = P.a3
  x : ∀ k : Fin 480, xt (ix2 ⟨k.val, by omega⟩ t) = Spec.q (Spec.kln inv480 P h k)
  w : ∀ d (k : Fin 480), w1 (ix2 d ⟨k.val, by omega⟩) = P.w1 k (f d)
  z : ∀ d (j : Fin 32), w1 (ix2 d ⟨480 + j.val, by omega⟩) = 0
  s : ∀ d j, s (ix2 d j) = P.s1 (f d) * (P.a2 * root)
  b : ∀ d j, b (ix2 d j) = P.b1 (f d) * root

variable {a xt w1 s b P h t f} (H : Chunk a xt w1 s b P h t f) (d : Fin 480)
include H

theorem Chunk.pre : (∑ x, w1 (ix2 d x) * xt (ix2 x t)) * (P.s1 (f d) * (P.a2 * root)) + P.b1 (f d) * root
    = Spec.kpre inv480 root P h (f d) := by
  rw [sum_pad _ (fun k => P.w1 k (f d) * Spec.q (Spec.kln inv480 P h k)) (fun k => by rw [H.w, H.x])
    (fun j => by rw [H.z, zero_mul])]
  rfl

theorem hid0_at : k0_pay173 a root xt w1 s b (ix2 d t) = Spec.khid inv480 root P h (f d) := by
  pointwise [k0_pay173]
  simp only [H.s, H.b, dite_eq_ite, ite_self, H.pre, H.a3]
  rfl

theorem hid1_at : k0_pay175 (k0_pay172 a root) (k0_pay174 xt w1 s b) (ix2 d t) = Spec.khid inv480 root P h (f d) := by
  pointwise [k0_pay175, k0_pay174, k0_pay172]
  simp only [H.s, H.b, dite_eq_ite, ite_self, H.pre, H.a3]
  rfl

theorem hid2_at : k0_pay176 (k0_pay172 a root) xt w1 s b (ix2 d t) = Spec.khid inv480 root P h (f d) := by
  pointwise [k0_pay176, k0_pay172]
  simp only [H.s, H.b, dite_eq_ite, ite_self, H.pre, H.a3]
  rfl

theorem hid3_at : k0_pay178 (k0_pay172 a root) (k0_pay177 xt w1) s b (ix2 d t) = Spec.khid inv480 root P h (f d) := by
  pointwise [k0_pay178, k0_pay177, k0_pay172]
  simp only [H.s, H.b, dite_eq_ite, ite_self, H.pre, H.a3]
  rfl
end

section
variable (hm : Vec Ideal S1x480x512 .f32) (w2 : Vec Ideal S480x1920 .bf16) (hid : Vec Ideal S1920x512 .bf16)
  (s b : Vec Ideal S480x128 .f32) (P : Spec.Par) (h : Fin 480 → EReal) (t : Fin 512)

theorem out_at (hh : ∀ d, hm (ix3 0 d t) = h d) (hw : ∀ d f, w2 (ix2 d f) = P.w2 f d)
    (hx : ∀ f, hid (ix2 f t) = Spec.khid inv480 root P h f)
    (hs : ∀ d j, s (ix2 d j) = P.s2 d * P.a3) (hb : ∀ d j, b (ix2 d j) = P.b2 d) (d : Fin 480) :
    k0_pay179 hm w2 hid s b (ix2 d t) = Spec.kout inv480 root P h d := by
  pointwise [k0_pay179]
  simp only [hs, hb, dite_eq_ite, ite_self, hh, hw, hx]
  rfl

theorem out_store (d : Fin 480) : k0_pay180 hm w2 hid s b (ix3 0 d t) = k0_pay179 hm w2 hid s b (ix2 d t) := by
  pointwise [k0_pay180, k0_pay179]

theorem out_first (p : Fin 256) (d : Fin 480) :
    k0_pay7 (k0_pay181 hm w2 hid s b) (ix4 0 0 p d) = k0_pay179 hm w2 hid s b (ix2 d ⟨p.val, by omega⟩) := by
  pointwise [k0_pay7, k0_pay181]

theorem out_second (p : Fin 256) (d : Fin 480) :
    k0_pay8 (k0_pay179 hm w2 hid s b) (ix4 0 0 p d) = k0_pay179 hm w2 hid s b (ix2 d ⟨256 + p.val, by omega⟩) := by
  pointwise [k0_pay8]

theorem mid_store (hi w : FVec Ideal S480x512 .f32) (bo : Vec Ideal S480x128 .f32) (d : Fin 480) :
    k0_pay152 hi w bo (ix3 0 d t) = k0_pay151 hi w bo (ix2 d t) := by
  pointwise [k0_pay152, k0_pay151]
end

/-- The stream a point starts from: the given tokens at the first layer, the kept stream after it. -/
theorem hin_at (n : ℕ) (hn : n < 13) (xa xb : Vec Ideal S1x256x480 .f32) (hl : Vec Ideal S1x480x512 .f32) (d : Fin 480)
    (t : Fin 512) :
    k0_pay149 (BitVec.ofNat 32 n) xa xb hl (ix2 d t) = if n = 0 then
        (if h : t.val < 256 then xa (ix3 0 ⟨t.val, h⟩ d) else xb (ix3 0 ⟨t.val - 256, by omega⟩ d))
      else hl (ix3 0 d t) := by
  pointwise [k0_pay149]
  by_cases h : n = 0
  · subst h; rfl
  · rw [if_neg h]
    have e : Scalar.cmpi CmpIPredicate.eq (BitVec.ofNat 32 n) 0#32 = 0#1 := by
      interval_cases n <;> first | rfl | exact absurd rfl h
    rw [e]; rfl

/-- The context and the denominators as the point's own staging keeps them, and the last points' copies of the stream. -/
theorem ctx_first (x : Vec Ideal S1x1x256x480 .f32) (k : Fin 480) (p : Fin 256) :
    k0_pay97 x (ix3 0 k p) = x (ix4 0 0 p k) := by
  pointwise [k0_pay97]
theorem ctx_second (x : Vec Ideal S1x1x256x480 .f32) (k : Fin 480) (p : Fin 256) :
    k0_pay99 x (ix3 0 k p) = x (ix4 0 0 p k) := by
  pointwise [k0_pay99]
theorem den_first (x : Vec Ideal S1x1x20x256 .f32) (h : Fin 20) (p : Fin 256) :
    k0_pay98 x (ix3 0 h p) = x (ix4 0 0 h p) := by
  pointwise [k0_pay98]
theorem den_second (x : Vec Ideal S1x1x20x256 .f32) (h : Fin 20) (p : Fin 256) :
    k0_pay100 x (ix3 0 h p) = x (ix4 0 0 h p) := by
  pointwise [k0_pay100]
theorem last_first (x : Vec Ideal S1x480x256 .f32) (p : Fin 256) (d : Fin 480) :
    k0_pay9 x (ix4 0 0 p d) = x (ix3 0 d p) := by
  pointwise [k0_pay9]
theorem last_second (x : Vec Ideal S1x480x256 .f32) (p : Fin 256) (d : Fin 480) :
    k0_pay10 x (ix4 0 0 p d) = x (ix3 0 d p) := by
  pointwise [k0_pay10]

end Cert.KernelIdeal.Val
end
-- ==== Proof.KernelLoads.lean ====
/- Loads and stores by coordinates: what a load of a box reads, and what a buffer reads after stores whose payloads all
   agree with one function of the buffer's places. -/
module
public import proofs.«01_k».proof.Proof.Spec
public import proofs.«01_k».proof.Proof.Gen.KernelIdeal.Value
public import Idealize.ShloMosaic.Lib.ValueLayout
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

section
variable {κ : Kind} {sp : Space} {s : Shape} {e : EltTy}

/-- A load of a box of stride one, at a coordinate. -/
theorem rd (v : View sig κ sp s e) (f : v.ty.Contents (Elt Ideal)) {off size : Fin s.rank → ℕ} {inb}
    (x : (Rect.unit (s := s) off size inb).shape.Idx) (y : s.Idx) (hy : ∀ a, (y a).val = off a + (x a).val) :
    View.readAt (Elt Ideal) v (Rect.unit (s := s) off size inb).toLoadRect f x = v.read (Elt Ideal) f y := by
  refine congrArg (v.read (Elt Ideal) f) (funext fun a => Fin.ext ?_)
  show off a + 1 * (x a).val = (y a).val
  rw [hy, Nat.one_mul]

/-- A place is inside a box of stride one where each coordinate is. -/
theorem mem_box {off size : Fin s.rank → ℕ} {inb} (y : s.Idx) (h : ∀ a, off a ≤ (y a).val ∧ (y a).val < off a + size a) :
    y ∈ (Rect.unit (s := s) off size inb).set :=
  (Rect.unit (s := s) off size inb).mem_set.2 fun a => ⟨(y a).val - off a, by have := h a; show _ < size a; omega,
    by have := h a; show _ = off a + 1 * _; omega⟩

/-- A store's payload agrees with a function of the buffer's places. -/
def Agrees (G : s.Idx → Elt Ideal e) (p : View.Piece (Elt Ideal) s e) : Prop := ∀ x : p.1.shape.Idx, p.2 x = G (p.1.emb x)

/-- A buffer after stores whose payloads agree with `G` reads `G` where they reach, and where they do not if it did before. -/
theorem read_pieces (v : View sig κ sp s e) (f : v.ty.Contents (Elt Ideal)) (G : s.Idx → Elt Ideal e)
    (L : List (View.Piece (Elt Ideal) s e)) (y : s.Idx) (hG : ∀ p ∈ L, Agrees G p)
    (hf : (∀ p ∈ L, y ∉ p.1.set) → v.read (Elt Ideal) f y = G y) :
    v.read (Elt Ideal) (v.writes (Elt Ideal) f L) y = G y := by
  by_cases h : ∃ p ∈ L, y ∈ p.1.set
  · exact View.read_writes_apply_of_pieces v f G L hG y h
  · have h' : ∀ p ∈ L, y ∉ p.1.set := fun p hp hy => h ⟨p, hp, hy⟩
    rw [View.read_writes_apply_of_forall_not_mem v f y L h', hf h']
end

/-- The newest store of a rank-two buffer, read at a place it reaches. -/
theorem hit2 {R C o0 o1 m n : ℕ} {sp : Space} {e : EltTy} {inb} (v : View sig .tc sp ⟨2, ![R, C]⟩ e)
    (f : v.ty.Contents (Elt Ideal)) (w : (⟨2, ![m, n]⟩ : Shape).Idx → Elt Ideal e)
    (L : List (View.Piece (Elt Ideal) ⟨2, ![R, C]⟩ e)) (d : Fin m) (t : Fin n) (a : Fin R) (b : Fin C)
    (ha : a.val = o0 + d.val) (hb : b.val = o1 + t.val) :
    v.read (Elt Ideal) (v.writes (Elt Ideal) f (⟨Rect.unit (s := ⟨2, ![R, C]⟩) ![o0, o1] ![m, n] inb, w⟩ :: L)) (ix2 a b)
      = w (ix2 d t) := by
  refine View.read_writes_cons_hit_of_coords v f (Rect.unit (s := ⟨2, ![R, C]⟩) ![o0, o1] ![m, n] inb) w L (ix2 d t) (ix2 a b) fun x => ?_
  fin_cases x
  · show a.val = o0 + 1 * d.val; omega
  · show b.val = o1 + 1 * t.val; omega

theorem piece2 {R C o0 o1 m n : ℕ} {e : EltTy} {inb} (w : (⟨2, ![m, n]⟩ : Shape).Idx → Elt Ideal e)
    (G : (⟨2, ![R, C]⟩ : Shape).Idx → Elt Ideal e)
    (h : ∀ (d : Fin m) (t : Fin n) (h0 : o0 + d.val < R) (h1 : o1 + t.val < C),
      w (ix2 d t) = G (ix2 ⟨o0 + d.val, h0⟩ ⟨o1 + t.val, h1⟩)) :
    Agrees (s := ⟨2, ![R, C]⟩) (e := e) G ⟨Rect.unit (s := ⟨2, ![R, C]⟩) ![o0, o1] ![m, n] inb, w⟩ := by
  intro (x : (⟨2, ![m, n]⟩ : Shape).Idx)
  have hx : ix2 (x 0) (x 1) = x := by funext a; fin_cases a <;> rfl
  have i0 : o0 + m ≤ R := inb 0
  have i1 : o1 + n ≤ C := inb 1
  have l0 : (x 0).val < m := (x 0).isLt
  have l1 : (x 1).val < n := (x 1).isLt
  have := h (x 0) (x 1) (by omega) (by omega)
  refine (congrArg w hx).symm.trans (this.trans ?_)
  refine congrArg G (funext fun a => Fin.ext ?_)
  fin_cases a
  · show o0 + (x 0).val = o0 + 1 * (x 0).val; omega
  · show o1 + (x 1).val = o1 + 1 * (x 1).val; omega

theorem piece3 {R C E o0 o1 o2 m n k : ℕ} {e : EltTy} {inb} (w : (⟨3, ![m, n, k]⟩ : Shape).Idx → Elt Ideal e)
    (G : (⟨3, ![R, C, E]⟩ : Shape).Idx → Elt Ideal e)
    (h : ∀ (d : Fin m) (t : Fin n) (u : Fin k) (h0 : o0 + d.val < R) (h1 : o1 + t.val < C) (h2 : o2 + u.val < E),
      w (ix3 d t u) = G (ix3 ⟨o0 + d.val, h0⟩ ⟨o1 + t.val, h1⟩ ⟨o2 + u.val, h2⟩)) :
    Agrees (s := ⟨3, ![R, C, E]⟩) (e := e) G ⟨Rect.unit (s := ⟨3, ![R, C, E]⟩) ![o0, o1, o2] ![m, n, k] inb, w⟩ := by
  intro (x : (⟨3, ![m, n, k]⟩ : Shape).Idx)
  have hx : ix3 (x 0) (x 1) (x 2) = x := by funext a; fin_cases a <;> rfl
  have i0 : o0 + m ≤ R := inb 0
  have i1 : o1 + n ≤ C := inb 1
  have i2 : o2 + k ≤ E := inb 2
  have l0 : (x 0).val < m := (x 0).isLt
  have l1 : (x 1).val < n := (x 1).isLt
  have l2 : (x 2).val < k := (x 2).isLt
  have := h (x 0) (x 1) (x 2) (by omega) (by omega) (by omega)
  refine (congrArg w hx).symm.trans (this.trans ?_)
  refine congrArg G (funext fun a => Fin.ext ?_)
  fin_cases a
  · show o0 + (x 0).val = o0 + 1 * (x 0).val; omega
  · show o1 + (x 1).val = o1 + 1 * (x 1).val; omega
  · show o2 + (x 2).val = o2 + 1 * (x 2).val; omega

/-- Coordinates of a rank-two place in a box, and of a rank-three one. -/
theorem at2 {P : Fin 2 → Prop} (h0 : P 0) (h1 : P 1) : ∀ a, P a := fun a => by fin_cases a <;> assumption
theorem at3 {P : Fin 3 → Prop} (h0 : P 0) (h1 : P 1) (h2 : P 2) : ∀ a, P a := fun a => by fin_cases a <;> assumption
theorem at4 {P : Fin 4 → Prop} (h0 : P 0) (h1 : P 1) (h2 : P 2) (h3 : P 3) : ∀ a, P a := fun a => by
  fin_cases a <;> assumption

/-! ## Rows, blocks and words of the operands -/

/-- Row `l` of a table. -/
theorem load_row {n : ℕ} {sp : Space} {e : EltTy} {arg : Memref sig .tc sp ⟨2, ![12, n]⟩ e} (h : arg.IsWhole)
    (X : Vec Ideal ⟨2, ![12, n]⟩ e) (l : Fin 12) (off : Fin 2 → ℕ) (eo : off = ![l.val, 0]) {inb} (d : Fin n) :
    View.readAt (Elt Ideal) arg.view (Rect.unit (s := ⟨2, ![12, n]⟩) off ![1, n] inb).toLoadRect (h.unread X) (ix2 0 d)
      = X (ix2 l d) := by
  subst eo
  rw [h.readAt_unread]
  refine congrArg X (funext fun a => Fin.ext ?_)
  fin_cases a <;> (show _ + _ * _ = _) <;> simp [Rect.unit, Rect.toLoadRect]

theorem load_word {arg : Memref sig .tc .smem S12x4 .f32} (h : arg.IsWhole)
    (X : Vec Ideal S12x4 .f32) (l : Fin 12) (n : Fin 4) (off : Fin 2 → ℕ) (eo : off = ![l.val, n.val]) {inb} (hp) :
    View.readAt (Elt Ideal) arg.view (Rect.unit (s := S12x4) off S1x1.size inb).toLoadRect (h.unread X)
      (Shape.Idx.first hp) = X (ix2 l n) := by
  subst eo
  rw [h.readAt_unread]
  refine congrArg X (funext fun a => Fin.ext ?_)
  fin_cases a <;> (show _ + _ * _ = _) <;> simp [Rect.unit, Rect.toLoadRect, Shape.Idx.first]

/-- A block of columns of a weight, through the view that drops its leading axis. -/
theorem load_weight {p q m n : ℕ} {sp : Space} {e : EltTy} {arg : Memref sig .tc sp ⟨3, ![1, p, q]⟩ e} (h : arg.IsWhole)
    (X : Vec Ideal ⟨3, ![1, p, q]⟩ e) (o0 o1 : ℕ) {ir hn inb} (d : Fin m) (k : Fin n) (h0 : o0 + d.val < p) (h1 : o1 + k.val < q) :
    View.readAt (Elt Ideal) ((arg.view.slice (Rect.unit (s := ⟨3, ![1, p, q]⟩) ![0, 0, 0] ![1, p, q] ir)).reshape ⟨2, ![p, q]⟩ hn)
      (Rect.unit (s := ⟨2, ![p, q]⟩) ![o0, o1] ![m, n] inb).toLoadRect (h.unread X) (ix2 d k)
      = X (ix3 0 ⟨o0 + d.val, h0⟩ ⟨o1 + k.val, h1⟩) := by
  rw [h.readAt_slice_reshape_unread X]
  refine congrArg X ?_
  have e1 : Shape.reshapeEquiv hn ((Rect.unit (s := ⟨2, ![p, q]⟩) ![o0, o1] ![m, n] inb).toLoadRect.idx (ix2 d k))
      = ix3 0 ⟨o0 + d.val, h0⟩ ⟨o1 + k.val, h1⟩ := by
    rw [show (Rect.unit (s := ⟨2, ![p, q]⟩) ![o0, o1] ![m, n] inb).toLoadRect.idx (ix2 d k)
      = ix2 ⟨o0 + d.val, h0⟩ ⟨o1 + k.val, h1⟩ from funext fun a => Fin.ext (by
        fin_cases a <;> (show _ + _ * _ = _) <;> simp [Rect.unit, Rect.toLoadRect])]
    exact Idealize.ShloMosaic.ValueIdx.reshapeEquiv_ix2_1ab _ _ _
  rw [e1]
  refine funext fun a => Fin.ext ?_
  fin_cases a <;> (show _ + _ * _ = _) <;> simp [Rect.unit]

end Cert.KernelIdeal.Val
end
-- ==== Proof.KernelBody.lean ====
/- One point of the kernel's body, over whatever its buffers hold: the new stream of its two sequences from the old one, the
   layer's weights and parameters as the buffers hold them, and the sequences' context and denominators. -/
module
public import proofs.«01_k».proof.Proof.Spec
public import proofs.«01_k».proof.Proof.KernelCodes
public import proofs.«01_k».proof.Proof.KernelPay
public import proofs.«01_k».proof.Proof.KernelLoads
public import proofs.«01_k».proof.Proof.Gen.KernelIdeal.Value
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

/-! ## What the layer's buffers hold -/

/-- The output projection, transposed, its 480 columns padded with zeros; the first feed-forward weight likewise; the second,
    transposed. -/
def gWo (P : Spec.Par) (y : S480x512.Idx) : EReal := if h : (y 1).val < 480 then P.wo ⟨(y 1).val, h⟩ (y 0) else 0
def gW1 (P : Spec.Par) (y : S1920x512.Idx) : EReal := if h : (y 1).val < 480 then P.w1 ⟨(y 1).val, h⟩ (y 0) else 0
def gW2 (P : Spec.Par) (y : S480x1920.Idx) : EReal := P.w2 (y 1) (y 0)

/-- A coordinate below 480, and one below 1920. -/
def at480 (n : ℕ) : Fin 480 := ⟨n % 480, Nat.mod_lt _ (by decide)⟩
def at1920 (n : ℕ) : Fin 1920 := ⟨n % 1920, Nat.mod_lt _ (by decide)⟩
theorem at480_eq (d : Fin 480) : at480 d.val = d := Fin.ext (Nat.mod_eq_of_lt d.isLt)
theorem at1920_eq (d : Fin 1920) : at1920 d.val = d := Fin.ext (Nat.mod_eq_of_lt d.isLt)

/-- Row `r` of the parameters, already folded with the activation scales. -/
def prow (P : Spec.Par) (r : ℕ) : EReal :=
  if r < 1440 then Ideal.div (P.g (at480 (r - 960))) P.a2
  else if r < 1920 then Ideal.div (P.b (at480 (r - 1440))) P.a2
  else if r < 2400 then P.so (at480 (r - 1920)) * P.a1
  else if r < 2880 then P.bo (at480 (r - 2400))
  else if r < 4800 then P.s1 (at1920 (r - 2880)) * (P.a2 * root)
  else if r < 6720 then P.b1 (at1920 (r - 4800)) * root
  else if r < 7200 then P.s2 (at480 (r - 6720)) * P.a3
  else P.b2 (at480 (r - 7200))

section
variable (P : Spec.Par)

theorem prow_g (d : Fin 480) : prow P (960 + d.val) = Ideal.div (P.g d) P.a2 := by
  unfold prow
  rw [if_pos (show 960 + d.val < 1440 by omega), Nat.add_sub_cancel_left, at480_eq]

theorem prow_b (d : Fin 480) : prow P (1440 + d.val) = Ideal.div (P.b d) P.a2 := by
  unfold prow
  rw [if_neg (show ¬1440 + d.val < 1440 by omega), if_pos (show 1440 + d.val < 1920 by omega), Nat.add_sub_cancel_left, at480_eq]

theorem prow_so (d : Fin 480) : prow P (1920 + d.val) = P.so d * P.a1 := by
  unfold prow
  rw [if_neg (show ¬1920 + d.val < 1440 by omega), if_neg (show ¬1920 + d.val < 1920 by omega), if_pos (show 1920 + d.val < 2400 by omega), Nat.add_sub_cancel_left, at480_eq]

theorem prow_bo (d : Fin 480) : prow P (2400 + d.val) = P.bo d := by
  unfold prow
  rw [if_neg (show ¬2400 + d.val < 1440 by omega), if_neg (show ¬2400 + d.val < 1920 by omega), if_neg (show ¬2400 + d.val < 2400 by omega), if_pos (show 2400 + d.val < 2880 by omega), Nat.add_sub_cancel_left, at480_eq]

theorem prow_s1 (d : Fin 1920) : prow P (2880 + d.val) = P.s1 d * (P.a2 * root) := by
  unfold prow
  rw [if_neg (show ¬2880 + d.val < 1440 by omega), if_neg (show ¬2880 + d.val < 1920 by omega), if_neg (show ¬2880 + d.val < 2400 by omega), if_neg (show ¬2880 + d.val < 2880 by omega), if_pos (show 2880 + d.val < 4800 by omega), Nat.add_sub_cancel_left, at1920_eq]

theorem prow_b1 (d : Fin 1920) : prow P (4800 + d.val) = P.b1 d * root := by
  unfold prow
  rw [if_neg (show ¬4800 + d.val < 1440 by omega), if_neg (show ¬4800 + d.val < 1920 by omega), if_neg (show ¬4800 + d.val < 2400 by omega), if_neg (show ¬4800 + d.val < 2880 by omega), if_neg (show ¬4800 + d.val < 4800 by omega), if_pos (show 4800 + d.val < 6720 by omega), Nat.add_sub_cancel_left, at1920_eq]

theorem prow_s2 (d : Fin 480) : prow P (6720 + d.val) = P.s2 d * P.a3 := by
  unfold prow
  rw [if_neg (show ¬6720 + d.val < 1440 by omega), if_neg (show ¬6720 + d.val < 1920 by omega), if_neg (show ¬6720 + d.val < 2400 by omega), if_neg (show ¬6720 + d.val < 2880 by omega), if_neg (show ¬6720 + d.val < 4800 by omega), if_neg (show ¬6720 + d.val < 6720 by omega), if_pos (show 6720 + d.val < 7200 by omega), Nat.add_sub_cancel_left, at480_eq]

theorem prow_b2 (d : Fin 480) : prow P (7200 + d.val) = P.b2 d := by
  unfold prow
  rw [if_neg (show ¬7200 + d.val < 1440 by omega), if_neg (show ¬7200 + d.val < 1920 by omega), if_neg (show ¬7200 + d.val < 2400 by omega), if_neg (show ¬7200 + d.val < 2880 by omega), if_neg (show ¬7200 + d.val < 4800 by omega), if_neg (show ¬7200 + d.val < 6720 by omega), if_neg (show ¬7200 + d.val < 7200 by omega), Nat.add_sub_cancel_left, at480_eq]

end

/-! ## A point -/

/-- What a point loads: the layer's number, two of its activation scales, the given streams, the denominators and the context of
    each head, and the buffers with their contents. -/
structure Pt where
  n : ℕ
  o7 : Fin 3 → ℕ
  i7 : ∀ a, o7 a + S1x480x512.size a ≤ S16x480x512.size a
  a1 : Elt Ideal .f32
  a3 : Elt Ideal .f32
  xa : Vec Ideal S1x256x480 .f32
  xb : Vec Ideal S1x256x480 .f32
  dn : Vec Ideal S1x24x256 .f32
  dn' : Vec Ideal S1x24x256 .f32
  cv : Fin 20 → Vec Ideal S1x24x256 .f32
  cv' : Fin 20 → Vec Ideal S1x24x256 .f32
  v18 : View sig .tc .vmem S16x480x512 .f32
  f18 : v18.ty.Contents (Elt Ideal)
  g18 : v18.ty.Contents (Elt Ideal)
  v19 : View sig .tc .vmem S480x512 .bf16
  f19 : v19.ty.Contents (Elt Ideal)
  v20 : View sig .tc .vmem S1920x512 .bf16
  f20 : v20.ty.Contents (Elt Ideal)
  v21 : View sig .tc .vmem S480x1920 .bf16
  f21 : v21.ty.Contents (Elt Ideal)
  v22 : View sig .tc .vmem S7680x128 .f32
  f22 : v22.ty.Contents (Elt Ideal)
  v23 : View sig .tc .vmem S512x512 .bf16
  f23 : v23.ty.Contents (Elt Ideal)
  v24 : View sig .tc .vmem S1920x512 .bf16
  g24 : v24.ty.Contents (Elt Ideal)

namespace Pt
variable (p : Pt)

/-- Rows of the parameters. -/
abbrev par (o : ℕ) (inb : ∀ a, ![o, 0] a + S480x128.size a ≤ S7680x128.size a) : Vec Ideal S480x128 .f32 :=
  View.readAt (Elt Ideal) p.v22 (Rect.unit (s := S7680x128) ![o, 0] S480x128.size inb).toLoadRect p.f22
abbrev wrow (o : ℕ) (inb : ∀ a, ![o, 0] a + S480x512.size a ≤ S1920x512.size a) : Vec Ideal S480x512 .bf16 :=
  View.readAt (Elt Ideal) p.v20 (Rect.unit (s := S1920x512) ![o, 0] S480x512.size inb).toLoadRect p.f20

/-- The stream it starts from, the projection of the context, and what the buffers hold along the way. -/
def hin : FVec Ideal S480x512 .f32 :=
  k0_pay149 (BitVec.ofNat 32 p.n) p.xa p.xb
    (View.readAt (Elt Ideal) p.v18 (Rect.unit (s := S16x480x512) p.o7 S1x480x512.size p.i7).toLoadRect p.f18)
def xt1 : List (View.Piece (Elt Ideal) S512x512 .bf16) :=
  [⟨Rect.unit ![0, 0] S480x512.size inb_S512x512_S480x512_0_0, codes p.a1 p.dn p.dn' p.cv p.cv'⟩]
def proj : FVec Ideal S480x512 .f32 :=
  k0_pay150 (View.readAt (Elt Ideal) p.v19 (Rect.unit (s := S480x512) ![0, 0] S480x512.size inb_S480x512_S480x512_0_0).toLoadRect p.f19)
    (View.readAt (Elt Ideal) p.v23 (Rect.unit (s := S512x512) ![0, 0] S512x512.size inb_S512x512_S512x512_0_0).toLoadRect
      (p.v23.writes (Elt Ideal) p.f23 p.xt1))
    (p.par 1920 inb_S7680x128_S480x128_1920_0)
def bo : Vec Ideal S480x128 .f32 := p.par 2400 inb_S7680x128_S480x128_2400_0
def xt2 : List (View.Piece (Elt Ideal) S512x512 .bf16) :=
  ⟨Rect.unit ![0, 0] S480x512.size inb_S512x512_S480x512_0_0,
    lnc p.hin p.proj p.bo (p.par 960 inb_S7680x128_S480x128_960_0) (p.par 1440 inb_S7680x128_S480x128_1440_0)⟩ :: p.xt1
def xt : Vec Ideal S512x512 .bf16 :=
  View.readAt (Elt Ideal) p.v23 (Rect.unit (s := S512x512) ![0, 0] S512x512.size inb_S512x512_S512x512_0_0).toLoadRect
    (p.v23.writes (Elt Ideal) p.f23 p.xt2)
def hid : List (View.Piece (Elt Ideal) S1920x512 .bf16) :=
  [⟨Rect.unit ![1440, 0] S480x512.size inb_S1920x512_S480x512_1440_0,
      k0_pay178 (k0_pay172 p.a3 root) (k0_pay177 p.xt (p.wrow 1440 inb_S1920x512_S480x512_1440_0))
        (p.par 4320 inb_S7680x128_S480x128_4320_0) (p.par 6240 inb_S7680x128_S480x128_6240_0)⟩,
    ⟨Rect.unit ![960, 0] S480x512.size inb_S1920x512_S480x512_960_0,
      k0_pay176 (k0_pay172 p.a3 root) p.xt (p.wrow 960 inb_S1920x512_S480x512_960_0)
        (p.par 3840 inb_S7680x128_S480x128_3840_0) (p.par 5760 inb_S7680x128_S480x128_5760_0)⟩,
    ⟨Rect.unit ![480, 0] S480x512.size inb_S1920x512_S480x512_480_0,
      k0_pay175 (k0_pay172 p.a3 root) (k0_pay174 p.xt (p.wrow 480 inb_S1920x512_S480x512_480_0)
        (p.par 3360 inb_S7680x128_S480x128_3360_0) (p.par 5280 inb_S7680x128_S480x128_5280_0))⟩,
    ⟨Rect.unit ![0, 0] S480x512.size inb_S1920x512_S480x512_0_0,
      k0_pay173 p.a3 root p.xt (p.wrow 0 inb_S1920x512_S480x512_0_0)
        (p.par 2880 inb_S7680x128_S480x128_2880_0) (p.par 4800 inb_S7680x128_S480x128_4800_0)⟩]
def mid : List (View.Piece (Elt Ideal) S16x480x512 .f32) :=
  [⟨Rect.unit p.o7 S1x480x512.size p.i7, k0_pay152 p.hin p.proj p.bo⟩]

/-- What the last product takes: the middle stream, the weight, the hidden codes and the two rows. -/
def lm : Vec Ideal S1x480x512 .f32 :=
  View.readAt (Elt Ideal) p.v18 (Rect.unit (s := S16x480x512) p.o7 S1x480x512.size p.i7).toLoadRect (p.v18.writes (Elt Ideal) p.g18 p.mid)
def lw : Vec Ideal S480x1920 .bf16 :=
  View.readAt (Elt Ideal) p.v21 (Rect.unit (s := S480x1920) ![0, 0] S480x1920.size inb_S480x1920_S480x1920_0_0).toLoadRect p.f21
def lh : Vec Ideal S1920x512 .bf16 :=
  View.readAt (Elt Ideal) p.v24 (Rect.unit (s := S1920x512) ![0, 0] S1920x512.size inb_S1920x512_S1920x512_0_0).toLoadRect
    (p.v24.writes (Elt Ideal) p.g24 p.hid)
def ls : Vec Ideal S480x128 .f32 := p.par 6720 inb_S7680x128_S480x128_6720_0
def lb : Vec Ideal S480x128 .f32 := p.par 7200 inb_S7680x128_S480x128_7200_0

/-- The stream it leaves, the two blocks it writes out and what it stores into the kept streams. -/
def new : FVec Ideal S480x512 .f32 := k0_pay179 p.lm p.lw p.lh p.ls p.lb
def outs : List (View.Piece (Elt Ideal) S1x2x256x480 .bf16) :=
  [⟨Rect.unit ![0, 1, 0, 0] ![1, 1, 256, 480] inb_S1x2x256x480_S1x1x256x480_0_1_0_0, k0_pay8 p.new⟩,
    ⟨Rect.unit ![0, 0, 0, 0] ![1, 1, 256, 480] inb_S1x2x256x480_S1x1x256x480_0_0_0_0,
      k0_pay7 (k0_pay181 p.lm p.lw p.lh p.ls p.lb)⟩]
def kept : List (View.Piece (Elt Ideal) S16x480x512 .f32) :=
  ⟨Rect.unit p.o7 S1x480x512.size p.i7, k0_pay180 p.lm p.lw p.lh p.ls p.lb⟩ :: p.mid

/-- A point whose buffers hold layer `P`, stream `h`, context `raw` and denominators `den`. -/
structure Good (P : Spec.Par) (h : Fin 512 → Fin 480 → EReal) (raw : Fin 480 → Fin 512 → EReal)
    (den : Fin 20 → Fin 512 → EReal) : Prop where
  a1 : p.a1 = P.a1
  a3 : p.a3 = P.a3
  hin : ∀ d t, p.hin (ix2 d t) = h t d
  wo : ∀ y, p.v19.read (Elt Ideal) p.f19 y = gWo P y
  w1 : ∀ y, p.v20.read (Elt Ideal) p.f20 y = gW1 P y
  w2 : ∀ y, p.v21.read (Elt Ideal) p.f21 y = gW2 P y
  par : ∀ (r : Fin 7680) j, 960 ≤ r.val → p.v22.read (Elt Ideal) p.f22 (ix2 r j) = prow P r.val
  cv : ∀ (h : Fin 20) (e : Fin 24) (q : Fin 256), p.cv h (ix3 0 e q) = raw ⟨24 * h.val + e.val, by omega⟩ ⟨q.val, by omega⟩
  cv' : ∀ (h : Fin 20) (e : Fin 24) (q : Fin 256), p.cv' h (ix3 0 e q) = raw ⟨24 * h.val + e.val, by omega⟩ ⟨256 + q.val, by omega⟩
  dn : ∀ (h : Fin 20) (q : Fin 256), p.dn (ix3 0 ⟨h.val, by omega⟩ q) = den h ⟨q.val, by omega⟩
  dn' : ∀ (h : Fin 20) (q : Fin 256), p.dn' (ix3 0 ⟨h.val, by omega⟩ q) = den h ⟨256 + q.val, by omega⟩

variable {p} {P : Spec.Par} {h : Fin 512 → Fin 480 → EReal} {raw : Fin 480 → Fin 512 → EReal} {den : Fin 20 → Fin 512 → EReal}
  (H : p.Good P h raw den)
include H

theorem Good.row (o : ℕ) (inb) (ho : 960 ≤ o) (d : Fin 480) (j : Fin 128) :
    p.par o inb (ix2 d j) = prow P (o + d.val) := by
  have i0 : o + 480 ≤ 7680 := inb 0
  rw [← H.par ⟨o + d.val, by omega⟩ j (by show 960 ≤ o + d.val; omega)]
  exact rd _ _ _ _ (at2 rfl (Nat.zero_add _).symm)

theorem Good.wrow (o : ℕ) (inb) (i0 : o + 480 ≤ 1920) (d : Fin 480) (k : Fin 512) :
    p.wrow o inb (ix2 d k) = gW1 P (ix2 ⟨o + d.val, by omega⟩ k) := by
  rw [← H.w1]
  exact rd _ _ _ _ (at2 rfl (Nat.zero_add _).symm)

/-- The middle stream of a token. -/
def ms (P : Spec.Par) (h : Fin 512 → Fin 480 → EReal) (raw : Fin 480 → Fin 512 → EReal) (den : Fin 20 → Fin 512 → EReal)
    (t : Fin 512) (d : Fin 480) : EReal :=
  Spec.kmid P (fun k => raw k t) (fun k => Ideal.div (Ideal.div 1 P.a1) (den (Spec.head k) t)) (h t) d

theorem Good.codes (k : Fin 480) (t : Fin 512) :
    p.v23.read (Elt Ideal) (p.v23.writes (Elt Ideal) p.f23 p.xt1) (ix2 ⟨k.val, by omega⟩ t)
      = Spec.q (raw k t * Ideal.div (Ideal.div 1 P.a1) (den (Spec.head k) t)) := by
  rw [← H.a1, ← codes_at p.a1 p.dn p.dn' p.cv p.cv' raw den H.cv H.cv' H.dn H.dn' k t]
  unfold xt1
  exact hit2 (R := 512) (C := 512) (m := 480) (n := 512) p.v23 p.f23 _ [] k t _ _ (Nat.zero_add _).symm (Nat.zero_add _).symm

theorem Good.mid (t : Fin 512) (d : Fin 480) : k0_pay151 p.hin p.proj p.bo (ix2 d t) = ms P h raw den t d := by
  unfold ms
  have e : (fun k => p.hin (ix2 k t)) = h t := funext fun k => H.hin k t
  rw [← e]
  unfold proj
  refine hmid_at _ _ _ _ _ P (fun k => raw k t) (fun k => Ideal.div (Ideal.div 1 P.a1) (den (Spec.head k) t)) t ?_ ?_ ?_ ?_ ?_ d
  · intro d k
    refine (rd _ _ _ (ix2 d ⟨k.val, by omega⟩) (at2 (Nat.zero_add _).symm (Nat.zero_add _).symm)).trans ?_
    rw [H.wo]; exact dif_pos k.isLt
  · intro d j
    refine (rd _ _ _ (ix2 d ⟨480 + j.val, by omega⟩) (at2 (Nat.zero_add _).symm (Nat.zero_add _).symm)).trans ?_
    rw [H.wo]; exact dif_neg (by show ¬480 + j.val < 480; omega)
  · intro k
    exact (rd _ _ _ (ix2 ⟨k.val, by omega⟩ t) (at2 (Nat.zero_add _).symm (Nat.zero_add _).symm)).trans (H.codes k t)
  · intro d j; rw [H.row 1920 _ (by omega)]; exact prow_so P d
  · intro d j; exact (H.row 2400 _ (by omega) d j).trans (prow_bo P d)

theorem Good.ln (t : Fin 512) (k : Fin 480) :
    p.xt (ix2 ⟨k.val, by omega⟩ t) = Spec.q (Spec.kln inv480 P (ms P h raw den t) k) := by
  rw [← lnc_at p.hin p.proj p.bo (p.par 960 inb_S7680x128_S480x128_960_0) (p.par 1440 inb_S7680x128_S480x128_1440_0) P t _
    (H.mid t) (fun d j => (H.row 960 _ (by omega) d j).trans (prow_g P d))
    (fun d j => (H.row 1440 _ (by omega) d j).trans (prow_b P d)) k]
  unfold xt
  refine (rd _ _ _ (ix2 ⟨k.val, by omega⟩ t) (at2 (Nat.zero_add _).symm (Nat.zero_add _).symm)).trans ?_
  unfold xt2
  exact hit2 (R := 512) (C := 512) (m := 480) (n := 512) p.v23 p.f23 _ _ k t _ _ (Nat.zero_add _).symm (Nat.zero_add _).symm

theorem Good.chunk (o : ℕ) (ho : o + 480 ≤ 1920) (i1) (o1 o2 : ℕ) (i2) (i3) (e1 : o1 = 2880 + o) (e2 : o2 = 4800 + o) (t : Fin 512) :
    Chunk p.a3 p.xt (p.wrow o i1) (p.par o1 i2) (p.par o2 i3) P (ms P h raw den t) t (fun d => ⟨o + d.val, by omega⟩) where
  a3 := H.a3
  x := H.ln t
  w d k := by rw [H.wrow o i1 ho]; exact dif_pos k.isLt
  z d j := by rw [H.wrow o i1 ho]; exact dif_neg (by show ¬480 + j.val < 480; omega)
  s d j := by rw [H.row o1 i2 (by omega)]; exact (congrArg (prow P) (by show _ = 2880 + (o + d.val); omega)).trans (prow_s1 P ⟨o + d.val, by omega⟩)
  b d j := by rw [H.row o2 i3 (by omega)]; exact (congrArg (prow P) (by show _ = 4800 + (o + d.val); omega)).trans (prow_b1 P ⟨o + d.val, by omega⟩)

/-- The hidden layer's codes, by row and token. -/
def gHid (P : Spec.Par) (h : Fin 512 → Fin 480 → EReal) (raw : Fin 480 → Fin 512 → EReal) (den : Fin 20 → Fin 512 → EReal)
    (y : S1920x512.Idx) : EReal := Spec.khid inv480 root P (ms P h raw den (y 1)) (y 0)

theorem Good.hid (f : Fin 1920) (t : Fin 512) : p.lh (ix2 f t) = Spec.khid inv480 root P (ms P h raw den t) f := by
  refine (rd _ _ _ (ix2 f t) (at2 (Nat.zero_add _).symm (Nat.zero_add _).symm)).trans ?_
  refine read_pieces p.v24 p.g24 (gHid P h raw den) p.hid (ix2 f t) ?_ ?_
  · refine List.forall_mem_cons.2 ⟨?_, List.forall_mem_cons.2 ⟨?_, List.forall_mem_cons.2 ⟨?_, List.forall_mem_cons.2 ⟨?_, by simp⟩⟩⟩⟩
    · refine piece2 (R := 1920) (C := 512) (m := 480) (n := 512) (e := .bf16) _ _ fun d t h0 h1 => ?_
      refine (hid3_at (H.chunk 1440 (by omega) _ 4320 6240 _ _ rfl rfl t) d).trans ?_
      exact congrArg (fun u => Spec.khid inv480 root P (ms P h raw den u) _) (Fin.ext (Nat.zero_add _).symm)
    · refine piece2 (R := 1920) (C := 512) (m := 480) (n := 512) (e := .bf16) _ _ fun d t h0 h1 => ?_
      refine (hid2_at (H.chunk 960 (by omega) _ 3840 5760 _ _ rfl rfl t) d).trans ?_
      exact congrArg (fun u => Spec.khid inv480 root P (ms P h raw den u) _) (Fin.ext (Nat.zero_add _).symm)
    · refine piece2 (R := 1920) (C := 512) (m := 480) (n := 512) (e := .bf16) _ _ fun d t h0 h1 => ?_
      refine (hid1_at (H.chunk 480 (by omega) _ 3360 5280 _ _ rfl rfl t) d).trans ?_
      exact congrArg (fun u => Spec.khid inv480 root P (ms P h raw den u) _) (Fin.ext (Nat.zero_add _).symm)
    · refine piece2 (R := 1920) (C := 512) (m := 480) (n := 512) (e := .bf16) _ _ fun d t h0 h1 => ?_
      refine (hid0_at (H.chunk 0 (by omega) _ 2880 4800 _ _ rfl rfl t) d).trans ?_
      exact congrArg (fun u => Spec.khid inv480 root P (ms P h raw den u) _) (Fin.ext (Nat.zero_add _).symm)
  · intro hn
    have hf := f.isLt
    have m0 := hn _ (List.mem_cons_of_mem _ (List.mem_cons_of_mem _ (List.mem_cons_of_mem _ List.mem_cons_self)))
    have m1 := hn _ (List.mem_cons_of_mem _ (List.mem_cons_of_mem _ List.mem_cons_self))
    have m2 := hn _ (List.mem_cons_of_mem _ List.mem_cons_self)
    have m3 := hn _ List.mem_cons_self
    have c1 : 0 ≤ t.val ∧ t.val < 0 + 512 := ⟨Nat.zero_le _, by omega⟩
    by_cases h1 : f.val < 480
    · exact (m0 (mem_box (inb := inb_S1920x512_S480x512_0_0) _ (at2 (show 0 ≤ f.val ∧ f.val < 0 + 480 by omega) c1))).elim
    by_cases h2 : f.val < 960
    · exact (m1 (mem_box (inb := inb_S1920x512_S480x512_480_0) _ (at2 (show 480 ≤ f.val ∧ f.val < 480 + 480 by omega) c1))).elim
    by_cases h3 : f.val < 1440
    · exact (m2 (mem_box (inb := inb_S1920x512_S480x512_960_0) _ (at2 (show 960 ≤ f.val ∧ f.val < 960 + 480 by omega) c1))).elim
    · exact (m3 (mem_box (inb := inb_S1920x512_S480x512_1440_0) _ (at2 (show 1440 ≤ f.val ∧ f.val < 1440 + 480 by omega) c1))).elim

/-- The stream it leaves is the layer's of the stream it found. -/
theorem Good.new (d : Fin 480) (t : Fin 512) :
    p.new (ix2 d t) = Spec.kout inv480 root P (ms P h raw den t) d := by
  refine out_at _ _ _ _ _ P _ t (fun d => ?_) (fun d f => ?_) (fun f => H.hid f t) (fun d j => ?_) (fun d j => ?_) d
  · have e : p.v18.read (Elt Ideal) (p.v18.writes (Elt Ideal) p.g18 p.mid)
        ((Rect.unit (s := S16x480x512) p.o7 S1x480x512.size p.i7).emb (ix3 0 d t)) = k0_pay152 p.hin p.proj p.bo (ix3 0 d t) :=
      View.read_writes_cons_emb _ _ _ _ _ _
    exact e.trans ((mid_store t _ _ _ d).trans (H.mid t d))
  · refine (rd _ _ _ (ix2 d f) (at2 (Nat.zero_add _).symm (Nat.zero_add _).symm)).trans ?_
    rw [H.w2]; rfl
  · exact (H.row 6720 _ (by omega) d j).trans (prow_s2 P d)
  · exact (H.row 7200 _ (by omega) d j).trans (prow_b2 P d)
end Pt

end Cert.KernelIdeal.Val
end
-- ==== Proof.KernelWeights.lean ====
module
public import proofs.«01_k».proof.Proof.Spec
public import proofs.«01_k».proof.Proof.KernelBody
public import proofs.«01_k».proof.Proof.Gen.KernelIdeal.Value
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

/-- A sum against a row of the identity picks the row's term. -/
theorem pick (n : ℕ) (g : Fin n) (K : ℕ) (hn : n ≤ 1024) (hK : g.val < K) (hK' : K ≤ 1024) (f : Fin n → EReal) :
    ∑ x : Fin n, Scalar.select (IntOp.andi (IntOp.cmpi .eq (BitVec.ofNat 32 x.val) (IntOp.addi (BitVec.ofNat 32 g.val) 0#32))
      (IntOp.cmpi .slt (BitVec.ofNat 32 g.val) (BitVec.ofNat 32 K))) (f x) 0 = f g := by
  have hl : IntOp.cmpi .slt (BitVec.ofNat 32 g.val) (BitVec.ofNat 32 K) = 1#1 := by
    have : (BitVec.ofNat 32 g.val).slt (BitVec.ofNat 32 K) = true := by
      have hg := g.isLt
      rw [BitVec.slt_iff_toInt_lt, BitVec.toInt_eq_toNat_of_lt, BitVec.toInt_eq_toNat_of_lt] <;>
        simp only [BitVec.toNat_ofNat] <;> omega
    simp [IntOp.cmpi, this]
  have he : ∀ x : Fin n, IntOp.cmpi .eq (BitVec.ofNat 32 x.val) (IntOp.addi (BitVec.ofNat 32 g.val) 0#32)
      = BitVec.ofBool (decide (x = g)) := by
    intro x
    have hg := g.isLt
    have hx := x.isLt
    have e : IntOp.addi (BitVec.ofNat 32 g.val) 0#32 = BitVec.ofNat 32 g.val := by
      show BitVec.ofNat 32 g.val + 0#32 = _; simp
    rw [e]
    by_cases h : x = g
    · subst h; simp [IntOp.cmpi]
    · have h' : BitVec.ofNat 32 x.val ≠ BitVec.ofNat 32 g.val := fun h2 => h (Fin.ext (by
        have := congrArg BitVec.toNat h2
        simp only [BitVec.toNat_ofNat] at this
        omega))
      simp [IntOp.cmpi, h, beq_eq_false_iff_ne.2 h']
  rw [Finset.sum_eq_single g]
  · rw [he, hl]; simp [Scalar.select, IntOp.andi]
  · intro x _ hx
    rw [he, hl]; simp [Scalar.select, IntOp.andi, hx]
  · exact fun h => absurd (Finset.mem_univ g) h

theorem wt11_at (v : Vec Ideal S480x256 .i8) (g : Fin 256) (d : Fin 480) :
    k0_pay11 v (ix2 g d) = Spec.wt (v (ix2 d g)) := by
  pointwise [k0_pay11]
  exact pick 256 g 256 (by decide) g.isLt (by decide) (fun x => Spec.wt (v (ix2 d x)))

theorem wt14_at (v : Vec Ideal S480x224 .i8) (g : Fin 224) (d : Fin 480) :
    k0_pay14 k0_pay12 (k0_pay13 v) (constant S224x480 FTy.f32 0#32) (ix2 g d) = Spec.wt (v (ix2 d g)) := by
  pointwise [k0_pay14, k0_pay12, k0_pay13]
  exact pick 224 g 224 (by decide) g.isLt (by decide) (fun x => Spec.wt (v (ix2 d x)))

theorem wt15_at (v : Vec Ideal S480x256 .i8) (g : Fin 256) (d : Fin 480) :
    k0_pay15 v (ix2 g d) = Spec.wt (v (ix2 d g)) := by
  pointwise [k0_pay15]
  exact pick 256 g 256 (by decide) g.isLt (by decide) (fun x => Spec.wt (v (ix2 d x)))

theorem wt17_at (v : Vec Ideal S480x256 .i8) (g : Fin 256) (d : Fin 480) :
    k0_pay17 k0_pay16 v (ix2 g d) = Spec.wt (v (ix2 d g)) := by
  pointwise [k0_pay17, k0_pay16]
  exact pick 256 g 256 (by decide) g.isLt (by decide) (fun x => Spec.wt (v (ix2 d x)))

theorem wt18_at (v : Vec Ideal S480x256 .i8) (g : Fin 256) (d : Fin 480) :
    k0_pay18 v (ix2 g d) = Spec.wt (v (ix2 d g)) := by
  pointwise [k0_pay18]
  exact pick 256 g 256 (by decide) g.isLt (by decide) (fun x => Spec.wt (v (ix2 d x)))

theorem wt20_at (v : Vec Ideal S480x256 .i8) (g : Fin 256) (d : Fin 480) :
    k0_pay20 k0_pay19 v (ix2 g d) = Spec.wt (v (ix2 d g)) := by
  pointwise [k0_pay20, k0_pay19]
  exact pick 256 g 256 (by decide) g.isLt (by decide) (fun x => Spec.wt (v (ix2 d x)))

theorem wt21_at (v : Vec Ideal S480x256 .i8) (g : Fin 256) (d : Fin 480) :
    k0_pay21 v (ix2 g d) = Spec.wt (v (ix2 d g)) := by
  pointwise [k0_pay21]
  exact pick 256 g 256 (by decide) g.isLt (by decide) (fun x => Spec.wt (v (ix2 d x)))

theorem wt22_at (v : Vec Ideal S480x256 .i8) (g : Fin 256) (d : Fin 480) :
    k0_pay22 (iota Kind.tc S256x256 32 [0] iota_S256x256_d0_w32) (iota Kind.tc S256x256 32 [1] iota_S256x256_d1_w32) v (ix2 g d) = Spec.wt (v (ix2 d g)) := by
  pointwise [k0_pay22]
  exact pick 256 g 256 (by decide) g.isLt (by decide) (fun x => Spec.wt (v (ix2 d x)))

theorem wt24_at (v : Vec Ideal S480x256 .i8) (g : Fin 256) (d : Fin 480) :
    k0_pay24 (k0_pay23 v) (ix2 g d) = Spec.wt (v (ix2 d g)) := by
  pointwise [k0_pay24, k0_pay23]
  exact pick 256 g 256 (by decide) g.isLt (by decide) (fun x => Spec.wt (v (ix2 d x)))

theorem wt25_at (v : Vec Ideal S480x128 .i8) (g : Fin 128) (d : Fin 480) :
    k0_pay25 v (ix2 g d) = Spec.wt (v (ix2 d g)) := by
  pointwise [k0_pay25]
  exact pick 128 g 128 (by decide) g.isLt (by decide) (fun x => Spec.wt (v (ix2 d x)))

theorem wt27_at (v : Vec Ideal S1920x256 .i8) (g : Fin 256) (d : Fin 1920) :
    k0_pay27 k0_pay26 v (ix2 g d) = Spec.wt (v (ix2 d g)) := by
  pointwise [k0_pay27, k0_pay26]
  exact pick 256 g 256 (by decide) g.isLt (by decide) (fun x => Spec.wt (v (ix2 d x)))

theorem wt28_at (v : Vec Ideal S1920x224 .i8) (g : Fin 224) (d : Fin 1920) :
    k0_pay28 v (ix2 g d) = Spec.wt (v (ix2 d g)) := by
  pointwise [k0_pay28]
  exact pick 224 g 224 (by decide) g.isLt (by decide) (fun x => Spec.wt (v (ix2 d x)))

end Cert.KernelIdeal.Val
end
-- ==== Proof.KernelPar.lean ====
/- The rows of parameters a layer's first point lays down, piece by piece: each is the parameter of its row, folded with the
   activation scales, in every lane. -/
module
public import proofs.«01_k».proof.Proof.Spec
public import proofs.«01_k».proof.Proof.KernelBody
public import proofs.«01_k».proof.Proof.Gen.KernelIdeal.Value
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

section
variable (a1 a2 a3 : Elt Ideal .f32) (g b so bo s2 b2 : Vec Ideal S1x480 .f32) (s1 b1 : Vec Ideal S1x1920 .f32) (P : Spec.Par)

/-- The parameters are those of layer `P`. -/
structure Rows : Prop where
  a1 : a1 = P.a1
  a2 : a2 = P.a2
  a3 : a3 = P.a3
  g : ∀ k, g (ix2 0 k) = P.g k
  b : ∀ k, b (ix2 0 k) = P.b k
  so : ∀ k, so (ix2 0 k) = P.so k
  bo : ∀ k, bo (ix2 0 k) = P.bo k
  s1 : ∀ k, s1 (ix2 0 k) = P.s1 k
  b1 : ∀ k, b1 (ix2 0 k) = P.b1 k
  s2 : ∀ k, s2 (ix2 0 k) = P.s2 k
  b2 : ∀ k, b2 (ix2 0 k) = P.b2 k

/-- Their rows, as a function of the buffer's places. -/
def gPar (P : Spec.Par) (y : S7680x128.Idx) : EReal := prow P (y 0).val

/-- The pieces, the last laid down first. -/
def parL : List (View.Piece (Elt Ideal) S7680x128 .f32) :=
  [⟨Rect.unit ![7584, 0] S96x128.size inb_S7680x128_S96x128_7584_0, k0_pay96 b2⟩,
    ⟨Rect.unit ![7456, 0] S128x128.size inb_S7680x128_S128x128_7456_0, k0_pay95 b2⟩,
    ⟨Rect.unit ![7328, 0] S128x128.size inb_S7680x128_S128x128_7328_0, k0_pay94 b2⟩,
    ⟨Rect.unit ![7200, 0] S128x128.size inb_S7680x128_S128x128_7200_0, k0_pay93 b2⟩,
    ⟨Rect.unit ![7104, 0] S96x128.size inb_S7680x128_S96x128_7104_0, k0_pay92 (k0_pay91 a3 s2)⟩,
    ⟨Rect.unit ![6976, 0] S128x128.size inb_S7680x128_S128x128_6976_0, k0_pay90 a3 s2⟩,
    ⟨Rect.unit ![6848, 0] S128x128.size inb_S7680x128_S128x128_6848_0, k0_pay89 a3 s2⟩,
    ⟨Rect.unit ![6720, 0] S128x128.size inb_S7680x128_S128x128_6720_0, k0_pay88 a3 s2⟩,
    ⟨Rect.unit ![6592, 0] S128x128.size inb_S7680x128_S128x128_6592_0, k0_pay86 (k0_pay68 b1)⟩,
    ⟨Rect.unit ![6464, 0] S128x128.size inb_S7680x128_S128x128_6464_0, k0_pay85 (k0_pay68 b1)⟩,
    ⟨Rect.unit ![6336, 0] S128x128.size inb_S7680x128_S128x128_6336_0, k0_pay84 (k0_pay83 (k0_pay68 b1))⟩,
    ⟨Rect.unit ![6208, 0] S128x128.size inb_S7680x128_S128x128_6208_0, k0_pay82 (k0_pay68 b1)⟩,
    ⟨Rect.unit ![6080, 0] S128x128.size inb_S7680x128_S128x128_6080_0, k0_pay81 (k0_pay68 b1)⟩,
    ⟨Rect.unit ![5952, 0] S128x128.size inb_S7680x128_S128x128_5952_0, k0_pay80 (k0_pay68 b1)⟩,
    ⟨Rect.unit ![5824, 0] S128x128.size inb_S7680x128_S128x128_5824_0, k0_pay79 (k0_pay68 b1)⟩,
    ⟨Rect.unit ![5696, 0] S128x128.size inb_S7680x128_S128x128_5696_0, k0_pay78 (k0_pay68 b1)⟩,
    ⟨Rect.unit ![5568, 0] S128x128.size inb_S7680x128_S128x128_5568_0, k0_pay77 (k0_pay76 (k0_pay68 b1))⟩,
    ⟨Rect.unit ![5440, 0] S128x128.size inb_S7680x128_S128x128_5440_0, k0_pay75 (k0_pay68 b1)⟩,
    ⟨Rect.unit ![5312, 0] S128x128.size inb_S7680x128_S128x128_5312_0, k0_pay74 (k0_pay68 b1)⟩,
    ⟨Rect.unit ![5184, 0] S128x128.size inb_S7680x128_S128x128_5184_0, k0_pay73 (k0_pay68 b1)⟩,
    ⟨Rect.unit ![5056, 0] S128x128.size inb_S7680x128_S128x128_5056_0, k0_pay72 (k0_pay68 b1)⟩,
    ⟨Rect.unit ![4928, 0] S128x128.size inb_S7680x128_S128x128_4928_0, k0_pay71 (k0_pay68 b1)⟩,
    ⟨Rect.unit ![4800, 0] S128x128.size inb_S7680x128_S128x128_4800_0, k0_pay70 (k0_pay69 b1)⟩,
    ⟨Rect.unit ![4672, 0] S128x128.size inb_S7680x128_S128x128_4672_0, k0_pay67 (k0_pay50 a2 s1)⟩,
    ⟨Rect.unit ![4544, 0] S128x128.size inb_S7680x128_S128x128_4544_0, k0_pay66 (k0_pay50 a2 s1)⟩,
    ⟨Rect.unit ![4416, 0] S128x128.size inb_S7680x128_S128x128_4416_0, k0_pay65 (k0_pay50 a2 s1)⟩,
    ⟨Rect.unit ![4288, 0] S128x128.size inb_S7680x128_S128x128_4288_0, k0_pay64 (k0_pay50 a2 s1)⟩,
    ⟨Rect.unit ![4160, 0] S128x128.size inb_S7680x128_S128x128_4160_0, k0_pay63 (k0_pay62 (k0_pay50 a2 s1))⟩,
    ⟨Rect.unit ![4032, 0] S128x128.size inb_S7680x128_S128x128_4032_0, k0_pay61 (k0_pay50 a2 s1)⟩,
    ⟨Rect.unit ![3904, 0] S128x128.size inb_S7680x128_S128x128_3904_0, k0_pay60 (k0_pay50 a2 s1)⟩,
    ⟨Rect.unit ![3776, 0] S128x128.size inb_S7680x128_S128x128_3776_0, k0_pay59 (k0_pay50 a2 s1)⟩,
    ⟨Rect.unit ![3648, 0] S128x128.size inb_S7680x128_S128x128_3648_0, k0_pay58 (k0_pay50 a2 s1)⟩,
    ⟨Rect.unit ![3520, 0] S128x128.size inb_S7680x128_S128x128_3520_0, k0_pay57 (k0_pay50 a2 s1)⟩,
    ⟨Rect.unit ![3392, 0] S128x128.size inb_S7680x128_S128x128_3392_0, k0_pay56 (k0_pay55 a2 s1)⟩,
    ⟨Rect.unit ![3264, 0] S128x128.size inb_S7680x128_S128x128_3264_0, k0_pay54 a2 s1⟩,
    ⟨Rect.unit ![3136, 0] S128x128.size inb_S7680x128_S128x128_3136_0, k0_pay53 a2 s1⟩,
    ⟨Rect.unit ![3008, 0] S128x128.size inb_S7680x128_S128x128_3008_0, k0_pay52 a2 s1⟩,
    ⟨Rect.unit ![2880, 0] S128x128.size inb_S7680x128_S128x128_2880_0, k0_pay51 a2 s1⟩,
    ⟨Rect.unit ![2784, 0] S96x128.size inb_S7680x128_S96x128_2784_0, k0_pay49 (k0_pay47 bo) k0_pay48⟩,
    ⟨Rect.unit ![2656, 0] S128x128.size inb_S7680x128_S128x128_2656_0, k0_pay46 bo⟩,
    ⟨Rect.unit ![2528, 0] S128x128.size inb_S7680x128_S128x128_2528_0, k0_pay45 bo⟩,
    ⟨Rect.unit ![2400, 0] S128x128.size inb_S7680x128_S128x128_2400_0, k0_pay44 bo⟩,
    ⟨Rect.unit ![2304, 0] S96x128.size inb_S7680x128_S96x128_2304_0, k0_pay43 (k0_pay39 a1 so)⟩,
    ⟨Rect.unit ![2176, 0] S128x128.size inb_S7680x128_S128x128_2176_0, k0_pay42 (k0_pay39 a1 so)⟩,
    ⟨Rect.unit ![2048, 0] S128x128.size inb_S7680x128_S128x128_2048_0, k0_pay41 a1 so⟩,
    ⟨Rect.unit ![1920, 0] S128x128.size inb_S7680x128_S128x128_1920_0, k0_pay40 a1 so⟩,
    ⟨Rect.unit ![1824, 0] S96x128.size inb_S7680x128_S96x128_1824_0, k0_pay38 (k0_pay34 a2 b)⟩,
    ⟨Rect.unit ![1696, 0] S128x128.size inb_S7680x128_S128x128_1696_0, k0_pay37 (k0_pay34 a2 b)⟩,
    ⟨Rect.unit ![1568, 0] S128x128.size inb_S7680x128_S128x128_1568_0, k0_pay36 (k0_pay34 a2 b)⟩,
    ⟨Rect.unit ![1440, 0] S128x128.size inb_S7680x128_S128x128_1440_0, (k0_pay35 a2 b)⟩,
    ⟨Rect.unit ![1344, 0] S96x128.size inb_S7680x128_S96x128_1344_0, k0_pay33 a2 g⟩,
    ⟨Rect.unit ![1216, 0] S128x128.size inb_S7680x128_S128x128_1216_0, k0_pay32 a2 g⟩,
    ⟨Rect.unit ![1088, 0] S128x128.size inb_S7680x128_S128x128_1088_0, k0_pay31 a2 g⟩,
    ⟨Rect.unit ![960, 0] S128x128.size inb_S7680x128_S128x128_960_0, k0_pay30 a2 g⟩]

theorem row7584_at (r : Fin 96) (l : Fin 128) : k0_pay96 b2 (ix2 r l) = b2 (ix2 0 ⟨384 + r.val, by omega⟩) := by
  pointwise [k0_pay96]

theorem row7456_at (r : Fin 128) (l : Fin 128) : k0_pay95 b2 (ix2 r l) = b2 (ix2 0 ⟨256 + r.val, by omega⟩) := by
  pointwise [k0_pay95]

theorem row7328_at (r : Fin 128) (l : Fin 128) : k0_pay94 b2 (ix2 r l) = b2 (ix2 0 ⟨128 + r.val, by omega⟩) := by
  pointwise [k0_pay94]

theorem row7200_at (r : Fin 128) (l : Fin 128) : k0_pay93 b2 (ix2 r l) = b2 (ix2 0 ⟨0 + r.val, by omega⟩) := by
  pointwise [k0_pay93]

theorem row7104_at (r : Fin 96) (l : Fin 128) : k0_pay92 (k0_pay91 a3 s2) (ix2 r l) = s2 (ix2 0 ⟨384 + r.val, by omega⟩) * a3 := by
  pointwise [k0_pay91, k0_pay87, k0_pay92]

theorem row6976_at (r : Fin 128) (l : Fin 128) : k0_pay90 a3 s2 (ix2 r l) = s2 (ix2 0 ⟨256 + r.val, by omega⟩) * a3 := by
  pointwise [k0_pay90, k0_pay87]

theorem row6848_at (r : Fin 128) (l : Fin 128) : k0_pay89 a3 s2 (ix2 r l) = s2 (ix2 0 ⟨128 + r.val, by omega⟩) * a3 := by
  pointwise [k0_pay89, k0_pay87]

theorem row6720_at (r : Fin 128) (l : Fin 128) : k0_pay88 a3 s2 (ix2 r l) = s2 (ix2 0 ⟨0 + r.val, by omega⟩) * a3 := by
  pointwise [k0_pay88, k0_pay87]

theorem row6592_at (r : Fin 128) (l : Fin 128) : k0_pay86 (k0_pay68 b1) (ix2 r l) = b1 (ix2 0 ⟨1792 + r.val, by omega⟩) * root := by
  pointwise [k0_pay68, k0_pay86]

theorem row6464_at (r : Fin 128) (l : Fin 128) : k0_pay85 (k0_pay68 b1) (ix2 r l) = b1 (ix2 0 ⟨1664 + r.val, by omega⟩) * root := by
  pointwise [k0_pay68, k0_pay85]

theorem row6336_at (r : Fin 128) (l : Fin 128) : k0_pay84 (k0_pay83 (k0_pay68 b1)) (ix2 r l) = b1 (ix2 0 ⟨1536 + r.val, by omega⟩) * root := by
  pointwise [k0_pay68, k0_pay83, k0_pay84]

theorem row6208_at (r : Fin 128) (l : Fin 128) : k0_pay82 (k0_pay68 b1) (ix2 r l) = b1 (ix2 0 ⟨1408 + r.val, by omega⟩) * root := by
  pointwise [k0_pay68, k0_pay82]

theorem row6080_at (r : Fin 128) (l : Fin 128) : k0_pay81 (k0_pay68 b1) (ix2 r l) = b1 (ix2 0 ⟨1280 + r.val, by omega⟩) * root := by
  pointwise [k0_pay68, k0_pay81]

theorem row5952_at (r : Fin 128) (l : Fin 128) : k0_pay80 (k0_pay68 b1) (ix2 r l) = b1 (ix2 0 ⟨1152 + r.val, by omega⟩) * root := by
  pointwise [k0_pay68, k0_pay80]

theorem row5824_at (r : Fin 128) (l : Fin 128) : k0_pay79 (k0_pay68 b1) (ix2 r l) = b1 (ix2 0 ⟨1024 + r.val, by omega⟩) * root := by
  pointwise [k0_pay68, k0_pay79]

theorem row5696_at (r : Fin 128) (l : Fin 128) : k0_pay78 (k0_pay68 b1) (ix2 r l) = b1 (ix2 0 ⟨896 + r.val, by omega⟩) * root := by
  pointwise [k0_pay68, k0_pay78]

theorem row5568_at (r : Fin 128) (l : Fin 128) : k0_pay77 (k0_pay76 (k0_pay68 b1)) (ix2 r l) = b1 (ix2 0 ⟨768 + r.val, by omega⟩) * root := by
  pointwise [k0_pay68, k0_pay76, k0_pay77]

theorem row5440_at (r : Fin 128) (l : Fin 128) : k0_pay75 (k0_pay68 b1) (ix2 r l) = b1 (ix2 0 ⟨640 + r.val, by omega⟩) * root := by
  pointwise [k0_pay68, k0_pay75]

theorem row5312_at (r : Fin 128) (l : Fin 128) : k0_pay74 (k0_pay68 b1) (ix2 r l) = b1 (ix2 0 ⟨512 + r.val, by omega⟩) * root := by
  pointwise [k0_pay68, k0_pay74]

theorem row5184_at (r : Fin 128) (l : Fin 128) : k0_pay73 (k0_pay68 b1) (ix2 r l) = b1 (ix2 0 ⟨384 + r.val, by omega⟩) * root := by
  pointwise [k0_pay68, k0_pay73]

theorem row5056_at (r : Fin 128) (l : Fin 128) : k0_pay72 (k0_pay68 b1) (ix2 r l) = b1 (ix2 0 ⟨256 + r.val, by omega⟩) * root := by
  pointwise [k0_pay68, k0_pay72]

theorem row4928_at (r : Fin 128) (l : Fin 128) : k0_pay71 (k0_pay68 b1) (ix2 r l) = b1 (ix2 0 ⟨128 + r.val, by omega⟩) * root := by
  pointwise [k0_pay68, k0_pay71]

theorem row4800_at (r : Fin 128) (l : Fin 128) : k0_pay70 (k0_pay69 b1) (ix2 r l) = b1 (ix2 0 ⟨0 + r.val, by omega⟩) * root := by
  pointwise [k0_pay69, k0_pay68, k0_pay70]

theorem row4672_at (r : Fin 128) (l : Fin 128) : k0_pay67 (k0_pay50 a2 s1) (ix2 r l) = s1 (ix2 0 ⟨1792 + r.val, by omega⟩) * (a2 * root) := by
  pointwise [k0_pay50, k0_pay67]

theorem row4544_at (r : Fin 128) (l : Fin 128) : k0_pay66 (k0_pay50 a2 s1) (ix2 r l) = s1 (ix2 0 ⟨1664 + r.val, by omega⟩) * (a2 * root) := by
  pointwise [k0_pay50, k0_pay66]

theorem row4416_at (r : Fin 128) (l : Fin 128) : k0_pay65 (k0_pay50 a2 s1) (ix2 r l) = s1 (ix2 0 ⟨1536 + r.val, by omega⟩) * (a2 * root) := by
  pointwise [k0_pay50, k0_pay65]

theorem row4288_at (r : Fin 128) (l : Fin 128) : k0_pay64 (k0_pay50 a2 s1) (ix2 r l) = s1 (ix2 0 ⟨1408 + r.val, by omega⟩) * (a2 * root) := by
  pointwise [k0_pay50, k0_pay64]

theorem row4160_at (r : Fin 128) (l : Fin 128) : k0_pay63 (k0_pay62 (k0_pay50 a2 s1)) (ix2 r l) = s1 (ix2 0 ⟨1280 + r.val, by omega⟩) * (a2 * root) := by
  pointwise [k0_pay50, k0_pay62, k0_pay63]

theorem row4032_at (r : Fin 128) (l : Fin 128) : k0_pay61 (k0_pay50 a2 s1) (ix2 r l) = s1 (ix2 0 ⟨1152 + r.val, by omega⟩) * (a2 * root) := by
  pointwise [k0_pay50, k0_pay61]

theorem row3904_at (r : Fin 128) (l : Fin 128) : k0_pay60 (k0_pay50 a2 s1) (ix2 r l) = s1 (ix2 0 ⟨1024 + r.val, by omega⟩) * (a2 * root) := by
  pointwise [k0_pay50, k0_pay60]

theorem row3776_at (r : Fin 128) (l : Fin 128) : k0_pay59 (k0_pay50 a2 s1) (ix2 r l) = s1 (ix2 0 ⟨896 + r.val, by omega⟩) * (a2 * root) := by
  pointwise [k0_pay50, k0_pay59]

theorem row3648_at (r : Fin 128) (l : Fin 128) : k0_pay58 (k0_pay50 a2 s1) (ix2 r l) = s1 (ix2 0 ⟨768 + r.val, by omega⟩) * (a2 * root) := by
  pointwise [k0_pay50, k0_pay58]

theorem row3520_at (r : Fin 128) (l : Fin 128) : k0_pay57 (k0_pay50 a2 s1) (ix2 r l) = s1 (ix2 0 ⟨640 + r.val, by omega⟩) * (a2 * root) := by
  pointwise [k0_pay50, k0_pay57]

theorem row3392_at (r : Fin 128) (l : Fin 128) : k0_pay56 (k0_pay55 a2 s1) (ix2 r l) = s1 (ix2 0 ⟨512 + r.val, by omega⟩) * (a2 * root) := by
  pointwise [k0_pay55, k0_pay50, k0_pay56]

theorem row3264_at (r : Fin 128) (l : Fin 128) : k0_pay54 a2 s1 (ix2 r l) = s1 (ix2 0 ⟨384 + r.val, by omega⟩) * (a2 * root) := by
  pointwise [k0_pay54, k0_pay50]

theorem row3136_at (r : Fin 128) (l : Fin 128) : k0_pay53 a2 s1 (ix2 r l) = s1 (ix2 0 ⟨256 + r.val, by omega⟩) * (a2 * root) := by
  pointwise [k0_pay53, k0_pay50]

theorem row3008_at (r : Fin 128) (l : Fin 128) : k0_pay52 a2 s1 (ix2 r l) = s1 (ix2 0 ⟨128 + r.val, by omega⟩) * (a2 * root) := by
  pointwise [k0_pay52, k0_pay50]

theorem row2880_at (r : Fin 128) (l : Fin 128) : k0_pay51 a2 s1 (ix2 r l) = s1 (ix2 0 ⟨0 + r.val, by omega⟩) * (a2 * root) := by
  pointwise [k0_pay51, k0_pay50]

theorem row2784_at (r : Fin 96) (l : Fin 128) : k0_pay49 (k0_pay47 bo) k0_pay48 (ix2 r l) = bo (ix2 0 ⟨384 + r.val, by omega⟩) := by
  pointwise [k0_pay48, k0_pay47, k0_pay49]

theorem row2656_at (r : Fin 128) (l : Fin 128) : k0_pay46 bo (ix2 r l) = bo (ix2 0 ⟨256 + r.val, by omega⟩) := by
  pointwise [k0_pay46]

theorem row2528_at (r : Fin 128) (l : Fin 128) : k0_pay45 bo (ix2 r l) = bo (ix2 0 ⟨128 + r.val, by omega⟩) := by
  pointwise [k0_pay45]

theorem row2400_at (r : Fin 128) (l : Fin 128) : k0_pay44 bo (ix2 r l) = bo (ix2 0 ⟨0 + r.val, by omega⟩) := by
  pointwise [k0_pay44]

theorem row2304_at (r : Fin 96) (l : Fin 128) : k0_pay43 (k0_pay39 a1 so) (ix2 r l) = so (ix2 0 ⟨384 + r.val, by omega⟩) * a1 := by
  pointwise [k0_pay39, k0_pay43]

theorem row2176_at (r : Fin 128) (l : Fin 128) : k0_pay42 (k0_pay39 a1 so) (ix2 r l) = so (ix2 0 ⟨256 + r.val, by omega⟩) * a1 := by
  pointwise [k0_pay39, k0_pay42]

theorem row2048_at (r : Fin 128) (l : Fin 128) : k0_pay41 a1 so (ix2 r l) = so (ix2 0 ⟨128 + r.val, by omega⟩) * a1 := by
  pointwise [k0_pay41, k0_pay39]

theorem row1920_at (r : Fin 128) (l : Fin 128) : k0_pay40 a1 so (ix2 r l) = so (ix2 0 ⟨0 + r.val, by omega⟩) * a1 := by
  pointwise [k0_pay40, k0_pay39]

theorem row1824_at (r : Fin 96) (l : Fin 128) : k0_pay38 (k0_pay34 a2 b) (ix2 r l) = Ideal.div (b (ix2 0 ⟨384 + r.val, by omega⟩)) a2 := by
  pointwise [k0_pay34, k0_pay38]

theorem row1696_at (r : Fin 128) (l : Fin 128) : k0_pay37 (k0_pay34 a2 b) (ix2 r l) = Ideal.div (b (ix2 0 ⟨256 + r.val, by omega⟩)) a2 := by
  pointwise [k0_pay34, k0_pay37]

theorem row1568_at (r : Fin 128) (l : Fin 128) : k0_pay36 (k0_pay34 a2 b) (ix2 r l) = Ideal.div (b (ix2 0 ⟨128 + r.val, by omega⟩)) a2 := by
  pointwise [k0_pay34, k0_pay36]

theorem row1440_at (r : Fin 128) (l : Fin 128) : (k0_pay35 a2 b) (ix2 r l) = Ideal.div (b (ix2 0 ⟨0 + r.val, by omega⟩)) a2 := by
  pointwise [k0_pay35, k0_pay34]

theorem row1344_at (r : Fin 96) (l : Fin 128) : k0_pay33 a2 g (ix2 r l) = Ideal.div (g (ix2 0 ⟨384 + r.val, by omega⟩)) a2 := by
  pointwise [k0_pay33, k0_pay29]

theorem row1216_at (r : Fin 128) (l : Fin 128) : k0_pay32 a2 g (ix2 r l) = Ideal.div (g (ix2 0 ⟨256 + r.val, by omega⟩)) a2 := by
  pointwise [k0_pay32, k0_pay29]

theorem row1088_at (r : Fin 128) (l : Fin 128) : k0_pay31 a2 g (ix2 r l) = Ideal.div (g (ix2 0 ⟨128 + r.val, by omega⟩)) a2 := by
  pointwise [k0_pay31, k0_pay29]

theorem row960_at (r : Fin 128) (l : Fin 128) : k0_pay30 a2 g (ix2 r l) = Ideal.div (g (ix2 0 ⟨0 + r.val, by omega⟩)) a2 := by
  pointwise [k0_pay30, k0_pay29]

variable {a1 a2 a3 g b so bo s2 b2 s1 b1 P} (H : Rows a1 a2 a3 g b so bo s2 b2 s1 b1 P)
include H

theorem agree7584 : Agrees (e := .f32) (gPar P) ⟨Rect.unit (s := S7680x128) ![7584, 0] S96x128.size inb_S7680x128_S96x128_7584_0, k0_pay96 b2⟩ := by
  refine piece2 (R := 7680) (C := 128) (m := 96) (n := 128) (e := .f32) _ _ fun r l h0 h1 => ?_
  rw [row7584_at]
  rw [H.b2, ← prow_b2]
  exact congrArg (prow P) (by show 7200 + (384 + r.val) = 7584 + r.val; omega)

theorem agree7456 : Agrees (e := .f32) (gPar P) ⟨Rect.unit (s := S7680x128) ![7456, 0] S128x128.size inb_S7680x128_S128x128_7456_0, k0_pay95 b2⟩ := by
  refine piece2 (R := 7680) (C := 128) (m := 128) (n := 128) (e := .f32) _ _ fun r l h0 h1 => ?_
  rw [row7456_at]
  rw [H.b2, ← prow_b2]
  exact congrArg (prow P) (by show 7200 + (256 + r.val) = 7456 + r.val; omega)

theorem agree7328 : Agrees (e := .f32) (gPar P) ⟨Rect.unit (s := S7680x128) ![7328, 0] S128x128.size inb_S7680x128_S128x128_7328_0, k0_pay94 b2⟩ := by
  refine piece2 (R := 7680) (C := 128) (m := 128) (n := 128) (e := .f32) _ _ fun r l h0 h1 => ?_
  rw [row7328_at]
  rw [H.b2, ← prow_b2]
  exact congrArg (prow P) (by show 7200 + (128 + r.val) = 7328 + r.val; omega)

theorem agree7200 : Agrees (e := .f32) (gPar P) ⟨Rect.unit (s := S7680x128) ![7200, 0] S128x128.size inb_S7680x128_S128x128_7200_0, k0_pay93 b2⟩ := by
  refine piece2 (R := 7680) (C := 128) (m := 128) (n := 128) (e := .f32) _ _ fun r l h0 h1 => ?_
  rw [row7200_at]
  rw [H.b2, ← prow_b2]
  exact congrArg (prow P) (by show 7200 + (0 + r.val) = 7200 + r.val; omega)

theorem agree7104 : Agrees (e := .f32) (gPar P) ⟨Rect.unit (s := S7680x128) ![7104, 0] S96x128.size inb_S7680x128_S96x128_7104_0, k0_pay92 (k0_pay91 a3 s2)⟩ := by
  refine piece2 (R := 7680) (C := 128) (m := 96) (n := 128) (e := .f32) _ _ fun r l h0 h1 => ?_
  rw [row7104_at]
  rw [H.s2, H.a3, ← prow_s2]
  exact congrArg (prow P) (by show 6720 + (384 + r.val) = 7104 + r.val; omega)

theorem agree6976 : Agrees (e := .f32) (gPar P) ⟨Rect.unit (s := S7680x128) ![6976, 0] S128x128.size inb_S7680x128_S128x128_6976_0, k0_pay90 a3 s2⟩ := by
  refine piece2 (R := 7680) (C := 128) (m := 128) (n := 128) (e := .f32) _ _ fun r l h0 h1 => ?_
  rw [row6976_at]
  rw [H.s2, H.a3, ← prow_s2]
  exact congrArg (prow P) (by show 6720 + (256 + r.val) = 6976 + r.val; omega)

theorem agree6848 : Agrees (e := .f32) (gPar P) ⟨Rect.unit (s := S7680x128) ![6848, 0] S128x128.size inb_S7680x128_S128x128_6848_0, k0_pay89 a3 s2⟩ := by
  refine piece2 (R := 7680) (C := 128) (m := 128) (n := 128) (e := .f32) _ _ fun r l h0 h1 => ?_
  rw [row6848_at]
  rw [H.s2, H.a3, ← prow_s2]
  exact congrArg (prow P) (by show 6720 + (128 + r.val) = 6848 + r.val; omega)

theorem agree6720 : Agrees (e := .f32) (gPar P) ⟨Rect.unit (s := S7680x128) ![6720, 0] S128x128.size inb_S7680x128_S128x128_6720_0, k0_pay88 a3 s2⟩ := by
  refine piece2 (R := 7680) (C := 128) (m := 128) (n := 128) (e := .f32) _ _ fun r l h0 h1 => ?_
  rw [row6720_at]
  rw [H.s2, H.a3, ← prow_s2]
  exact congrArg (prow P) (by show 6720 + (0 + r.val) = 6720 + r.val; omega)

theorem agree6592 : Agrees (e := .f32) (gPar P) ⟨Rect.unit (s := S7680x128) ![6592, 0] S128x128.size inb_S7680x128_S128x128_6592_0, k0_pay86 (k0_pay68 b1)⟩ := by
  refine piece2 (R := 7680) (C := 128) (m := 128) (n := 128) (e := .f32) _ _ fun r l h0 h1 => ?_
  rw [row6592_at]
  rw [H.b1, ← prow_b1]
  exact congrArg (prow P) (by show 4800 + (1792 + r.val) = 6592 + r.val; omega)

theorem agree6464 : Agrees (e := .f32) (gPar P) ⟨Rect.unit (s := S7680x128) ![6464, 0] S128x128.size inb_S7680x128_S128x128_6464_0, k0_pay85 (k0_pay68 b1)⟩ := by
  refine piece2 (R := 7680) (C := 128) (m := 128) (n := 128) (e := .f32) _ _ fun r l h0 h1 => ?_
  rw [row6464_at]
  rw [H.b1, ← prow_b1]
  exact congrArg (prow P) (by show 4800 + (1664 + r.val) = 6464 + r.val; omega)

theorem agree6336 : Agrees (e := .f32) (gPar P) ⟨Rect.unit (s := S7680x128) ![6336, 0] S128x128.size inb_S7680x128_S128x128_6336_0, k0_pay84 (k0_pay83 (k0_pay68 b1))⟩ := by
  refine piece2 (R := 7680) (C := 128) (m := 128) (n := 128) (e := .f32) _ _ fun r l h0 h1 => ?_
  rw [row6336_at]
  rw [H.b1, ← prow_b1]
  exact congrArg (prow P) (by show 4800 + (1536 + r.val) = 6336 + r.val; omega)

theorem agree6208 : Agrees (e := .f32) (gPar P) ⟨Rect.unit (s := S7680x128) ![6208, 0] S128x128.size inb_S7680x128_S128x128_6208_0, k0_pay82 (k0_pay68 b1)⟩ := by
  refine piece2 (R := 7680) (C := 128) (m := 128) (n := 128) (e := .f32) _ _ fun r l h0 h1 => ?_
  rw [row6208_at]
  rw [H.b1, ← prow_b1]
  exact congrArg (prow P) (by show 4800 + (1408 + r.val) = 6208 + r.val; omega)

theorem agree6080 : Agrees (e := .f32) (gPar P) ⟨Rect.unit (s := S7680x128) ![6080, 0] S128x128.size inb_S7680x128_S128x128_6080_0, k0_pay81 (k0_pay68 b1)⟩ := by
  refine piece2 (R := 7680) (C := 128) (m := 128) (n := 128) (e := .f32) _ _ fun r l h0 h1 => ?_
  rw [row6080_at]
  rw [H.b1, ← prow_b1]
  exact congrArg (prow P) (by show 4800 + (1280 + r.val) = 6080 + r.val; omega)

theorem agree5952 : Agrees (e := .f32) (gPar P) ⟨Rect.unit (s := S7680x128) ![5952, 0] S128x128.size inb_S7680x128_S128x128_5952_0, k0_pay80 (k0_pay68 b1)⟩ := by
  refine piece2 (R := 7680) (C := 128) (m := 128) (n := 128) (e := .f32) _ _ fun r l h0 h1 => ?_
  rw [row5952_at]
  rw [H.b1, ← prow_b1]
  exact congrArg (prow P) (by show 4800 + (1152 + r.val) = 5952 + r.val; omega)

theorem agree5824 : Agrees (e := .f32) (gPar P) ⟨Rect.unit (s := S7680x128) ![5824, 0] S128x128.size inb_S7680x128_S128x128_5824_0, k0_pay79 (k0_pay68 b1)⟩ := by
  refine piece2 (R := 7680) (C := 128) (m := 128) (n := 128) (e := .f32) _ _ fun r l h0 h1 => ?_
  rw [row5824_at]
  rw [H.b1, ← prow_b1]
  exact congrArg (prow P) (by show 4800 + (1024 + r.val) = 5824 + r.val; omega)

theorem agree5696 : Agrees (e := .f32) (gPar P) ⟨Rect.unit (s := S7680x128) ![5696, 0] S128x128.size inb_S7680x128_S128x128_5696_0, k0_pay78 (k0_pay68 b1)⟩ := by
  refine piece2 (R := 7680) (C := 128) (m := 128) (n := 128) (e := .f32) _ _ fun r l h0 h1 => ?_
  rw [row5696_at]
  rw [H.b1, ← prow_b1]
  exact congrArg (prow P) (by show 4800 + (896 + r.val) = 5696 + r.val; omega)

theorem agree5568 : Agrees (e := .f32) (gPar P) ⟨Rect.unit (s := S7680x128) ![5568, 0] S128x128.size inb_S7680x128_S128x128_5568_0, k0_pay77 (k0_pay76 (k0_pay68 b1))⟩ := by
  refine piece2 (R := 7680) (C := 128) (m := 128) (n := 128) (e := .f32) _ _ fun r l h0 h1 => ?_
  rw [row5568_at]
  rw [H.b1, ← prow_b1]
  exact congrArg (prow P) (by show 4800 + (768 + r.val) = 5568 + r.val; omega)

theorem agree5440 : Agrees (e := .f32) (gPar P) ⟨Rect.unit (s := S7680x128) ![5440, 0] S128x128.size inb_S7680x128_S128x128_5440_0, k0_pay75 (k0_pay68 b1)⟩ := by
  refine piece2 (R := 7680) (C := 128) (m := 128) (n := 128) (e := .f32) _ _ fun r l h0 h1 => ?_
  rw [row5440_at]
  rw [H.b1, ← prow_b1]
  exact congrArg (prow P) (by show 4800 + (640 + r.val) = 5440 + r.val; omega)

theorem agree5312 : Agrees (e := .f32) (gPar P) ⟨Rect.unit (s := S7680x128) ![5312, 0] S128x128.size inb_S7680x128_S128x128_5312_0, k0_pay74 (k0_pay68 b1)⟩ := by
  refine piece2 (R := 7680) (C := 128) (m := 128) (n := 128) (e := .f32) _ _ fun r l h0 h1 => ?_
  rw [row5312_at]
  rw [H.b1, ← prow_b1]
  exact congrArg (prow P) (by show 4800 + (512 + r.val) = 5312 + r.val; omega)

theorem agree5184 : Agrees (e := .f32) (gPar P) ⟨Rect.unit (s := S7680x128) ![5184, 0] S128x128.size inb_S7680x128_S128x128_5184_0, k0_pay73 (k0_pay68 b1)⟩ := by
  refine piece2 (R := 7680) (C := 128) (m := 128) (n := 128) (e := .f32) _ _ fun r l h0 h1 => ?_
  rw [row5184_at]
  rw [H.b1, ← prow_b1]
  exact congrArg (prow P) (by show 4800 + (384 + r.val) = 5184 + r.val; omega)

theorem agree5056 : Agrees (e := .f32) (gPar P) ⟨Rect.unit (s := S7680x128) ![5056, 0] S128x128.size inb_S7680x128_S128x128_5056_0, k0_pay72 (k0_pay68 b1)⟩ := by
  refine piece2 (R := 7680) (C := 128) (m := 128) (n := 128) (e := .f32) _ _ fun r l h0 h1 => ?_
  rw [row5056_at]
  rw [H.b1, ← prow_b1]
  exact congrArg (prow P) (by show 4800 + (256 + r.val) = 5056 + r.val; omega)

theorem agree4928 : Agrees (e := .f32) (gPar P) ⟨Rect.unit (s := S7680x128) ![4928, 0] S128x128.size inb_S7680x128_S128x128_4928_0, k0_pay71 (k0_pay68 b1)⟩ := by
  refine piece2 (R := 7680) (C := 128) (m := 128) (n := 128) (e := .f32) _ _ fun r l h0 h1 => ?_
  rw [row4928_at]
  rw [H.b1, ← prow_b1]
  exact congrArg (prow P) (by show 4800 + (128 + r.val) = 4928 + r.val; omega)

theorem agree4800 : Agrees (e := .f32) (gPar P) ⟨Rect.unit (s := S7680x128) ![4800, 0] S128x128.size inb_S7680x128_S128x128_4800_0, k0_pay70 (k0_pay69 b1)⟩ := by
  refine piece2 (R := 7680) (C := 128) (m := 128) (n := 128) (e := .f32) _ _ fun r l h0 h1 => ?_
  rw [row4800_at]
  rw [H.b1, ← prow_b1]
  exact congrArg (prow P) (by show 4800 + (0 + r.val) = 4800 + r.val; omega)

theorem agree4672 : Agrees (e := .f32) (gPar P) ⟨Rect.unit (s := S7680x128) ![4672, 0] S128x128.size inb_S7680x128_S128x128_4672_0, k0_pay67 (k0_pay50 a2 s1)⟩ := by
  refine piece2 (R := 7680) (C := 128) (m := 128) (n := 128) (e := .f32) _ _ fun r l h0 h1 => ?_
  rw [row4672_at]
  rw [H.s1, H.a2, ← prow_s1]
  exact congrArg (prow P) (by show 2880 + (1792 + r.val) = 4672 + r.val; omega)

theorem agree4544 : Agrees (e := .f32) (gPar P) ⟨Rect.unit (s := S7680x128) ![4544, 0] S128x128.size inb_S7680x128_S128x128_4544_0, k0_pay66 (k0_pay50 a2 s1)⟩ := by
  refine piece2 (R := 7680) (C := 128) (m := 128) (n := 128) (e := .f32) _ _ fun r l h0 h1 => ?_
  rw [row4544_at]
  rw [H.s1, H.a2, ← prow_s1]
  exact congrArg (prow P) (by show 2880 + (1664 + r.val) = 4544 + r.val; omega)

theorem agree4416 : Agrees (e := .f32) (gPar P) ⟨Rect.unit (s := S7680x128) ![4416, 0] S128x128.size inb_S7680x128_S128x128_4416_0, k0_pay65 (k0_pay50 a2 s1)⟩ := by
  refine piece2 (R := 7680) (C := 128) (m := 128) (n := 128) (e := .f32) _ _ fun r l h0 h1 => ?_
  rw [row4416_at]
  rw [H.s1, H.a2, ← prow_s1]
  exact congrArg (prow P) (by show 2880 + (1536 + r.val) = 4416 + r.val; omega)

theorem agree4288 : Agrees (e := .f32) (gPar P) ⟨Rect.unit (s := S7680x128) ![4288, 0] S128x128.size inb_S7680x128_S128x128_4288_0, k0_pay64 (k0_pay50 a2 s1)⟩ := by
  refine piece2 (R := 7680) (C := 128) (m := 128) (n := 128) (e := .f32) _ _ fun r l h0 h1 => ?_
  rw [row4288_at]
  rw [H.s1, H.a2, ← prow_s1]
  exact congrArg (prow P) (by show 2880 + (1408 + r.val) = 4288 + r.val; omega)

theorem agree4160 : Agrees (e := .f32) (gPar P) ⟨Rect.unit (s := S7680x128) ![4160, 0] S128x128.size inb_S7680x128_S128x128_4160_0, k0_pay63 (k0_pay62 (k0_pay50 a2 s1))⟩ := by
  refine piece2 (R := 7680) (C := 128) (m := 128) (n := 128) (e := .f32) _ _ fun r l h0 h1 => ?_
  rw [row4160_at]
  rw [H.s1, H.a2, ← prow_s1]
  exact congrArg (prow P) (by show 2880 + (1280 + r.val) = 4160 + r.val; omega)

theorem agree4032 : Agrees (e := .f32) (gPar P) ⟨Rect.unit (s := S7680x128) ![4032, 0] S128x128.size inb_S7680x128_S128x128_4032_0, k0_pay61 (k0_pay50 a2 s1)⟩ := by
  refine piece2 (R := 7680) (C := 128) (m := 128) (n := 128) (e := .f32) _ _ fun r l h0 h1 => ?_
  rw [row4032_at]
  rw [H.s1, H.a2, ← prow_s1]
  exact congrArg (prow P) (by show 2880 + (1152 + r.val) = 4032 + r.val; omega)

theorem agree3904 : Agrees (e := .f32) (gPar P) ⟨Rect.unit (s := S7680x128) ![3904, 0] S128x128.size inb_S7680x128_S128x128_3904_0, k0_pay60 (k0_pay50 a2 s1)⟩ := by
  refine piece2 (R := 7680) (C := 128) (m := 128) (n := 128) (e := .f32) _ _ fun r l h0 h1 => ?_
  rw [row3904_at]
  rw [H.s1, H.a2, ← prow_s1]
  exact congrArg (prow P) (by show 2880 + (1024 + r.val) = 3904 + r.val; omega)

theorem agree3776 : Agrees (e := .f32) (gPar P) ⟨Rect.unit (s := S7680x128) ![3776, 0] S128x128.size inb_S7680x128_S128x128_3776_0, k0_pay59 (k0_pay50 a2 s1)⟩ := by
  refine piece2 (R := 7680) (C := 128) (m := 128) (n := 128) (e := .f32) _ _ fun r l h0 h1 => ?_
  rw [row3776_at]
  rw [H.s1, H.a2, ← prow_s1]
  exact congrArg (prow P) (by show 2880 + (896 + r.val) = 3776 + r.val; omega)

theorem agree3648 : Agrees (e := .f32) (gPar P) ⟨Rect.unit (s := S7680x128) ![3648, 0] S128x128.size inb_S7680x128_S128x128_3648_0, k0_pay58 (k0_pay50 a2 s1)⟩ := by
  refine piece2 (R := 7680) (C := 128) (m := 128) (n := 128) (e := .f32) _ _ fun r l h0 h1 => ?_
  rw [row3648_at]
  rw [H.s1, H.a2, ← prow_s1]
  exact congrArg (prow P) (by show 2880 + (768 + r.val) = 3648 + r.val; omega)

theorem agree3520 : Agrees (e := .f32) (gPar P) ⟨Rect.unit (s := S7680x128) ![3520, 0] S128x128.size inb_S7680x128_S128x128_3520_0, k0_pay57 (k0_pay50 a2 s1)⟩ := by
  refine piece2 (R := 7680) (C := 128) (m := 128) (n := 128) (e := .f32) _ _ fun r l h0 h1 => ?_
  rw [row3520_at]
  rw [H.s1, H.a2, ← prow_s1]
  exact congrArg (prow P) (by show 2880 + (640 + r.val) = 3520 + r.val; omega)

theorem agree3392 : Agrees (e := .f32) (gPar P) ⟨Rect.unit (s := S7680x128) ![3392, 0] S128x128.size inb_S7680x128_S128x128_3392_0, k0_pay56 (k0_pay55 a2 s1)⟩ := by
  refine piece2 (R := 7680) (C := 128) (m := 128) (n := 128) (e := .f32) _ _ fun r l h0 h1 => ?_
  rw [row3392_at]
  rw [H.s1, H.a2, ← prow_s1]
  exact congrArg (prow P) (by show 2880 + (512 + r.val) = 3392 + r.val; omega)

theorem agree3264 : Agrees (e := .f32) (gPar P) ⟨Rect.unit (s := S7680x128) ![3264, 0] S128x128.size inb_S7680x128_S128x128_3264_0, k0_pay54 a2 s1⟩ := by
  refine piece2 (R := 7680) (C := 128) (m := 128) (n := 128) (e := .f32) _ _ fun r l h0 h1 => ?_
  rw [row3264_at]
  rw [H.s1, H.a2, ← prow_s1]
  exact congrArg (prow P) (by show 2880 + (384 + r.val) = 3264 + r.val; omega)

theorem agree3136 : Agrees (e := .f32) (gPar P) ⟨Rect.unit (s := S7680x128) ![3136, 0] S128x128.size inb_S7680x128_S128x128_3136_0, k0_pay53 a2 s1⟩ := by
  refine piece2 (R := 7680) (C := 128) (m := 128) (n := 128) (e := .f32) _ _ fun r l h0 h1 => ?_
  rw [row3136_at]
  rw [H.s1, H.a2, ← prow_s1]
  exact congrArg (prow P) (by show 2880 + (256 + r.val) = 3136 + r.val; omega)

theorem agree3008 : Agrees (e := .f32) (gPar P) ⟨Rect.unit (s := S7680x128) ![3008, 0] S128x128.size inb_S7680x128_S128x128_3008_0, k0_pay52 a2 s1⟩ := by
  refine piece2 (R := 7680) (C := 128) (m := 128) (n := 128) (e := .f32) _ _ fun r l h0 h1 => ?_
  rw [row3008_at]
  rw [H.s1, H.a2, ← prow_s1]
  exact congrArg (prow P) (by show 2880 + (128 + r.val) = 3008 + r.val; omega)

theorem agree2880 : Agrees (e := .f32) (gPar P) ⟨Rect.unit (s := S7680x128) ![2880, 0] S128x128.size inb_S7680x128_S128x128_2880_0, k0_pay51 a2 s1⟩ := by
  refine piece2 (R := 7680) (C := 128) (m := 128) (n := 128) (e := .f32) _ _ fun r l h0 h1 => ?_
  rw [row2880_at]
  rw [H.s1, H.a2, ← prow_s1]
  exact congrArg (prow P) (by show 2880 + (0 + r.val) = 2880 + r.val; omega)

theorem agree2784 : Agrees (e := .f32) (gPar P) ⟨Rect.unit (s := S7680x128) ![2784, 0] S96x128.size inb_S7680x128_S96x128_2784_0, k0_pay49 (k0_pay47 bo) k0_pay48⟩ := by
  refine piece2 (R := 7680) (C := 128) (m := 96) (n := 128) (e := .f32) _ _ fun r l h0 h1 => ?_
  rw [row2784_at]
  rw [H.bo, ← prow_bo]
  exact congrArg (prow P) (by show 2400 + (384 + r.val) = 2784 + r.val; omega)

theorem agree2656 : Agrees (e := .f32) (gPar P) ⟨Rect.unit (s := S7680x128) ![2656, 0] S128x128.size inb_S7680x128_S128x128_2656_0, k0_pay46 bo⟩ := by
  refine piece2 (R := 7680) (C := 128) (m := 128) (n := 128) (e := .f32) _ _ fun r l h0 h1 => ?_
  rw [row2656_at]
  rw [H.bo, ← prow_bo]
  exact congrArg (prow P) (by show 2400 + (256 + r.val) = 2656 + r.val; omega)

theorem agree2528 : Agrees (e := .f32) (gPar P) ⟨Rect.unit (s := S7680x128) ![2528, 0] S128x128.size inb_S7680x128_S128x128_2528_0, k0_pay45 bo⟩ := by
  refine piece2 (R := 7680) (C := 128) (m := 128) (n := 128) (e := .f32) _ _ fun r l h0 h1 => ?_
  rw [row2528_at]
  rw [H.bo, ← prow_bo]
  exact congrArg (prow P) (by show 2400 + (128 + r.val) = 2528 + r.val; omega)

theorem agree2400 : Agrees (e := .f32) (gPar P) ⟨Rect.unit (s := S7680x128) ![2400, 0] S128x128.size inb_S7680x128_S128x128_2400_0, k0_pay44 bo⟩ := by
  refine piece2 (R := 7680) (C := 128) (m := 128) (n := 128) (e := .f32) _ _ fun r l h0 h1 => ?_
  rw [row2400_at]
  rw [H.bo, ← prow_bo]
  exact congrArg (prow P) (by show 2400 + (0 + r.val) = 2400 + r.val; omega)

theorem agree2304 : Agrees (e := .f32) (gPar P) ⟨Rect.unit (s := S7680x128) ![2304, 0] S96x128.size inb_S7680x128_S96x128_2304_0, k0_pay43 (k0_pay39 a1 so)⟩ := by
  refine piece2 (R := 7680) (C := 128) (m := 96) (n := 128) (e := .f32) _ _ fun r l h0 h1 => ?_
  rw [row2304_at]
  rw [H.so, H.a1, ← prow_so]
  exact congrArg (prow P) (by show 1920 + (384 + r.val) = 2304 + r.val; omega)

theorem agree2176 : Agrees (e := .f32) (gPar P) ⟨Rect.unit (s := S7680x128) ![2176, 0] S128x128.size inb_S7680x128_S128x128_2176_0, k0_pay42 (k0_pay39 a1 so)⟩ := by
  refine piece2 (R := 7680) (C := 128) (m := 128) (n := 128) (e := .f32) _ _ fun r l h0 h1 => ?_
  rw [row2176_at]
  rw [H.so, H.a1, ← prow_so]
  exact congrArg (prow P) (by show 1920 + (256 + r.val) = 2176 + r.val; omega)

theorem agree2048 : Agrees (e := .f32) (gPar P) ⟨Rect.unit (s := S7680x128) ![2048, 0] S128x128.size inb_S7680x128_S128x128_2048_0, k0_pay41 a1 so⟩ := by
  refine piece2 (R := 7680) (C := 128) (m := 128) (n := 128) (e := .f32) _ _ fun r l h0 h1 => ?_
  rw [row2048_at]
  rw [H.so, H.a1, ← prow_so]
  exact congrArg (prow P) (by show 1920 + (128 + r.val) = 2048 + r.val; omega)

theorem agree1920 : Agrees (e := .f32) (gPar P) ⟨Rect.unit (s := S7680x128) ![1920, 0] S128x128.size inb_S7680x128_S128x128_1920_0, k0_pay40 a1 so⟩ := by
  refine piece2 (R := 7680) (C := 128) (m := 128) (n := 128) (e := .f32) _ _ fun r l h0 h1 => ?_
  rw [row1920_at]
  rw [H.so, H.a1, ← prow_so]
  exact congrArg (prow P) (by show 1920 + (0 + r.val) = 1920 + r.val; omega)

theorem agree1824 : Agrees (e := .f32) (gPar P) ⟨Rect.unit (s := S7680x128) ![1824, 0] S96x128.size inb_S7680x128_S96x128_1824_0, k0_pay38 (k0_pay34 a2 b)⟩ := by
  refine piece2 (R := 7680) (C := 128) (m := 96) (n := 128) (e := .f32) _ _ fun r l h0 h1 => ?_
  rw [row1824_at]
  rw [H.b, H.a2, ← prow_b]
  exact congrArg (prow P) (by show 1440 + (384 + r.val) = 1824 + r.val; omega)

theorem agree1696 : Agrees (e := .f32) (gPar P) ⟨Rect.unit (s := S7680x128) ![1696, 0] S128x128.size inb_S7680x128_S128x128_1696_0, k0_pay37 (k0_pay34 a2 b)⟩ := by
  refine piece2 (R := 7680) (C := 128) (m := 128) (n := 128) (e := .f32) _ _ fun r l h0 h1 => ?_
  rw [row1696_at]
  rw [H.b, H.a2, ← prow_b]
  exact congrArg (prow P) (by show 1440 + (256 + r.val) = 1696 + r.val; omega)

theorem agree1568 : Agrees (e := .f32) (gPar P) ⟨Rect.unit (s := S7680x128) ![1568, 0] S128x128.size inb_S7680x128_S128x128_1568_0, k0_pay36 (k0_pay34 a2 b)⟩ := by
  refine piece2 (R := 7680) (C := 128) (m := 128) (n := 128) (e := .f32) _ _ fun r l h0 h1 => ?_
  rw [row1568_at]
  rw [H.b, H.a2, ← prow_b]
  exact congrArg (prow P) (by show 1440 + (128 + r.val) = 1568 + r.val; omega)

theorem agree1440 : Agrees (e := .f32) (gPar P) ⟨Rect.unit (s := S7680x128) ![1440, 0] S128x128.size inb_S7680x128_S128x128_1440_0, (k0_pay35 a2 b)⟩ := by
  refine piece2 (R := 7680) (C := 128) (m := 128) (n := 128) (e := .f32) _ _ fun r l h0 h1 => ?_
  rw [row1440_at]
  rw [H.b, H.a2, ← prow_b]
  exact congrArg (prow P) (by show 1440 + (0 + r.val) = 1440 + r.val; omega)

theorem agree1344 : Agrees (e := .f32) (gPar P) ⟨Rect.unit (s := S7680x128) ![1344, 0] S96x128.size inb_S7680x128_S96x128_1344_0, k0_pay33 a2 g⟩ := by
  refine piece2 (R := 7680) (C := 128) (m := 96) (n := 128) (e := .f32) _ _ fun r l h0 h1 => ?_
  rw [row1344_at]
  rw [H.g, H.a2, ← prow_g]
  exact congrArg (prow P) (by show 960 + (384 + r.val) = 1344 + r.val; omega)

theorem agree1216 : Agrees (e := .f32) (gPar P) ⟨Rect.unit (s := S7680x128) ![1216, 0] S128x128.size inb_S7680x128_S128x128_1216_0, k0_pay32 a2 g⟩ := by
  refine piece2 (R := 7680) (C := 128) (m := 128) (n := 128) (e := .f32) _ _ fun r l h0 h1 => ?_
  rw [row1216_at]
  rw [H.g, H.a2, ← prow_g]
  exact congrArg (prow P) (by show 960 + (256 + r.val) = 1216 + r.val; omega)

theorem agree1088 : Agrees (e := .f32) (gPar P) ⟨Rect.unit (s := S7680x128) ![1088, 0] S128x128.size inb_S7680x128_S128x128_1088_0, k0_pay31 a2 g⟩ := by
  refine piece2 (R := 7680) (C := 128) (m := 128) (n := 128) (e := .f32) _ _ fun r l h0 h1 => ?_
  rw [row1088_at]
  rw [H.g, H.a2, ← prow_g]
  exact congrArg (prow P) (by show 960 + (128 + r.val) = 1088 + r.val; omega)

theorem agree960 : Agrees (e := .f32) (gPar P) ⟨Rect.unit (s := S7680x128) ![960, 0] S128x128.size inb_S7680x128_S128x128_960_0, k0_pay30 a2 g⟩ := by
  refine piece2 (R := 7680) (C := 128) (m := 128) (n := 128) (e := .f32) _ _ fun r l h0 h1 => ?_
  rw [row960_at]
  rw [H.g, H.a2, ← prow_g]
  exact congrArg (prow P) (by show 960 + (0 + r.val) = 960 + r.val; omega)

theorem parL_agrees : ∀ p ∈ parL a1 a2 a3 g b so bo s2 b2 s1 b1, Agrees (e := .f32) (gPar P) p :=
  List.forall_mem_cons.2 ⟨agree7584 H, List.forall_mem_cons.2 ⟨agree7456 H, List.forall_mem_cons.2 ⟨agree7328 H, List.forall_mem_cons.2 ⟨agree7200 H, List.forall_mem_cons.2 ⟨agree7104 H, List.forall_mem_cons.2 ⟨agree6976 H, List.forall_mem_cons.2 ⟨agree6848 H, List.forall_mem_cons.2 ⟨agree6720 H, List.forall_mem_cons.2 ⟨agree6592 H, List.forall_mem_cons.2 ⟨agree6464 H, List.forall_mem_cons.2 ⟨agree6336 H, List.forall_mem_cons.2 ⟨agree6208 H, List.forall_mem_cons.2 ⟨agree6080 H, List.forall_mem_cons.2 ⟨agree5952 H, List.forall_mem_cons.2 ⟨agree5824 H, List.forall_mem_cons.2 ⟨agree5696 H, List.forall_mem_cons.2 ⟨agree5568 H, List.forall_mem_cons.2 ⟨agree5440 H, List.forall_mem_cons.2 ⟨agree5312 H, List.forall_mem_cons.2 ⟨agree5184 H, List.forall_mem_cons.2 ⟨agree5056 H, List.forall_mem_cons.2 ⟨agree4928 H, List.forall_mem_cons.2 ⟨agree4800 H, List.forall_mem_cons.2 ⟨agree4672 H, List.forall_mem_cons.2 ⟨agree4544 H, List.forall_mem_cons.2 ⟨agree4416 H, List.forall_mem_cons.2 ⟨agree4288 H, List.forall_mem_cons.2 ⟨agree4160 H, List.forall_mem_cons.2 ⟨agree4032 H, List.forall_mem_cons.2 ⟨agree3904 H, List.forall_mem_cons.2 ⟨agree3776 H, List.forall_mem_cons.2 ⟨agree3648 H, List.forall_mem_cons.2 ⟨agree3520 H, List.forall_mem_cons.2 ⟨agree3392 H, List.forall_mem_cons.2 ⟨agree3264 H, List.forall_mem_cons.2 ⟨agree3136 H, List.forall_mem_cons.2 ⟨agree3008 H, List.forall_mem_cons.2 ⟨agree2880 H, List.forall_mem_cons.2 ⟨agree2784 H, List.forall_mem_cons.2 ⟨agree2656 H, List.forall_mem_cons.2 ⟨agree2528 H, List.forall_mem_cons.2 ⟨agree2400 H, List.forall_mem_cons.2 ⟨agree2304 H, List.forall_mem_cons.2 ⟨agree2176 H, List.forall_mem_cons.2 ⟨agree2048 H, List.forall_mem_cons.2 ⟨agree1920 H, List.forall_mem_cons.2 ⟨agree1824 H, List.forall_mem_cons.2 ⟨agree1696 H, List.forall_mem_cons.2 ⟨agree1568 H, List.forall_mem_cons.2 ⟨agree1440 H, List.forall_mem_cons.2 ⟨agree1344 H, List.forall_mem_cons.2 ⟨agree1216 H, List.forall_mem_cons.2 ⟨agree1088 H, List.forall_mem_cons.2 ⟨agree960 H, fun _ h => absurd h List.not_mem_nil⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

omit H in
/-- Every row from 960 on is laid down. -/
theorem parL_covers (r : Fin 7680) (l : Fin 128) (hr : 960 ≤ r.val)
    (hn : ∀ p ∈ parL a1 a2 a3 g b so bo s2 b2 s1 b1, ix2 r l ∉ p.1.set) : False := by
  have hr' := r.isLt
  have c1 : 0 ≤ l.val ∧ l.val < 0 + 128 := ⟨Nat.zero_le _, by omega⟩
  unfold parL at hn
  simp only [List.forall_mem_cons] at hn
  obtain ⟨n7584, n7456, n7328, n7200, n7104, n6976, n6848, n6720, n6592, n6464, n6336, n6208, n6080, n5952, n5824, n5696, n5568, n5440, n5312, n5184, n5056, n4928, n4800, n4672, n4544, n4416, n4288, n4160, n4032, n3904, n3776, n3648, n3520, n3392, n3264, n3136, n3008, n2880, n2784, n2656, n2528, n2400, n2304, n2176, n2048, n1920, n1824, n1696, n1568, n1440, n1344, n1216, n1088, n960, -⟩ := hn

  have k7584 : ¬(7584 ≤ r.val ∧ r.val < 7584 + 96) := fun h => n7584 (mem_box (inb := inb_S7680x128_S96x128_7584_0) _ (at2 h c1))
  have k7456 : ¬(7456 ≤ r.val ∧ r.val < 7456 + 128) := fun h => n7456 (mem_box (inb := inb_S7680x128_S128x128_7456_0) _ (at2 h c1))
  have k7328 : ¬(7328 ≤ r.val ∧ r.val < 7328 + 128) := fun h => n7328 (mem_box (inb := inb_S7680x128_S128x128_7328_0) _ (at2 h c1))
  have k7200 : ¬(7200 ≤ r.val ∧ r.val < 7200 + 128) := fun h => n7200 (mem_box (inb := inb_S7680x128_S128x128_7200_0) _ (at2 h c1))
  have k7104 : ¬(7104 ≤ r.val ∧ r.val < 7104 + 96) := fun h => n7104 (mem_box (inb := inb_S7680x128_S96x128_7104_0) _ (at2 h c1))
  have k6976 : ¬(6976 ≤ r.val ∧ r.val < 6976 + 128) := fun h => n6976 (mem_box (inb := inb_S7680x128_S128x128_6976_0) _ (at2 h c1))
  have k6848 : ¬(6848 ≤ r.val ∧ r.val < 6848 + 128) := fun h => n6848 (mem_box (inb := inb_S7680x128_S128x128_6848_0) _ (at2 h c1))
  have k6720 : ¬(6720 ≤ r.val ∧ r.val < 6720 + 128) := fun h => n6720 (mem_box (inb := inb_S7680x128_S128x128_6720_0) _ (at2 h c1))
  have k6592 : ¬(6592 ≤ r.val ∧ r.val < 6592 + 128) := fun h => n6592 (mem_box (inb := inb_S7680x128_S128x128_6592_0) _ (at2 h c1))
  have k6464 : ¬(6464 ≤ r.val ∧ r.val < 6464 + 128) := fun h => n6464 (mem_box (inb := inb_S7680x128_S128x128_6464_0) _ (at2 h c1))
  have k6336 : ¬(6336 ≤ r.val ∧ r.val < 6336 + 128) := fun h => n6336 (mem_box (inb := inb_S7680x128_S128x128_6336_0) _ (at2 h c1))
  have k6208 : ¬(6208 ≤ r.val ∧ r.val < 6208 + 128) := fun h => n6208 (mem_box (inb := inb_S7680x128_S128x128_6208_0) _ (at2 h c1))
  have k6080 : ¬(6080 ≤ r.val ∧ r.val < 6080 + 128) := fun h => n6080 (mem_box (inb := inb_S7680x128_S128x128_6080_0) _ (at2 h c1))
  have k5952 : ¬(5952 ≤ r.val ∧ r.val < 5952 + 128) := fun h => n5952 (mem_box (inb := inb_S7680x128_S128x128_5952_0) _ (at2 h c1))
  have k5824 : ¬(5824 ≤ r.val ∧ r.val < 5824 + 128) := fun h => n5824 (mem_box (inb := inb_S7680x128_S128x128_5824_0) _ (at2 h c1))
  have k5696 : ¬(5696 ≤ r.val ∧ r.val < 5696 + 128) := fun h => n5696 (mem_box (inb := inb_S7680x128_S128x128_5696_0) _ (at2 h c1))
  have k5568 : ¬(5568 ≤ r.val ∧ r.val < 5568 + 128) := fun h => n5568 (mem_box (inb := inb_S7680x128_S128x128_5568_0) _ (at2 h c1))
  have k5440 : ¬(5440 ≤ r.val ∧ r.val < 5440 + 128) := fun h => n5440 (mem_box (inb := inb_S7680x128_S128x128_5440_0) _ (at2 h c1))
  have k5312 : ¬(5312 ≤ r.val ∧ r.val < 5312 + 128) := fun h => n5312 (mem_box (inb := inb_S7680x128_S128x128_5312_0) _ (at2 h c1))
  have k5184 : ¬(5184 ≤ r.val ∧ r.val < 5184 + 128) := fun h => n5184 (mem_box (inb := inb_S7680x128_S128x128_5184_0) _ (at2 h c1))
  have k5056 : ¬(5056 ≤ r.val ∧ r.val < 5056 + 128) := fun h => n5056 (mem_box (inb := inb_S7680x128_S128x128_5056_0) _ (at2 h c1))
  have k4928 : ¬(4928 ≤ r.val ∧ r.val < 4928 + 128) := fun h => n4928 (mem_box (inb := inb_S7680x128_S128x128_4928_0) _ (at2 h c1))
  have k4800 : ¬(4800 ≤ r.val ∧ r.val < 4800 + 128) := fun h => n4800 (mem_box (inb := inb_S7680x128_S128x128_4800_0) _ (at2 h c1))
  have k4672 : ¬(4672 ≤ r.val ∧ r.val < 4672 + 128) := fun h => n4672 (mem_box (inb := inb_S7680x128_S128x128_4672_0) _ (at2 h c1))
  have k4544 : ¬(4544 ≤ r.val ∧ r.val < 4544 + 128) := fun h => n4544 (mem_box (inb := inb_S7680x128_S128x128_4544_0) _ (at2 h c1))
  have k4416 : ¬(4416 ≤ r.val ∧ r.val < 4416 + 128) := fun h => n4416 (mem_box (inb := inb_S7680x128_S128x128_4416_0) _ (at2 h c1))
  have k4288 : ¬(4288 ≤ r.val ∧ r.val < 4288 + 128) := fun h => n4288 (mem_box (inb := inb_S7680x128_S128x128_4288_0) _ (at2 h c1))
  have k4160 : ¬(4160 ≤ r.val ∧ r.val < 4160 + 128) := fun h => n4160 (mem_box (inb := inb_S7680x128_S128x128_4160_0) _ (at2 h c1))
  have k4032 : ¬(4032 ≤ r.val ∧ r.val < 4032 + 128) := fun h => n4032 (mem_box (inb := inb_S7680x128_S128x128_4032_0) _ (at2 h c1))
  have k3904 : ¬(3904 ≤ r.val ∧ r.val < 3904 + 128) := fun h => n3904 (mem_box (inb := inb_S7680x128_S128x128_3904_0) _ (at2 h c1))
  have k3776 : ¬(3776 ≤ r.val ∧ r.val < 3776 + 128) := fun h => n3776 (mem_box (inb := inb_S7680x128_S128x128_3776_0) _ (at2 h c1))
  have k3648 : ¬(3648 ≤ r.val ∧ r.val < 3648 + 128) := fun h => n3648 (mem_box (inb := inb_S7680x128_S128x128_3648_0) _ (at2 h c1))
  have k3520 : ¬(3520 ≤ r.val ∧ r.val < 3520 + 128) := fun h => n3520 (mem_box (inb := inb_S7680x128_S128x128_3520_0) _ (at2 h c1))
  have k3392 : ¬(3392 ≤ r.val ∧ r.val < 3392 + 128) := fun h => n3392 (mem_box (inb := inb_S7680x128_S128x128_3392_0) _ (at2 h c1))
  have k3264 : ¬(3264 ≤ r.val ∧ r.val < 3264 + 128) := fun h => n3264 (mem_box (inb := inb_S7680x128_S128x128_3264_0) _ (at2 h c1))
  have k3136 : ¬(3136 ≤ r.val ∧ r.val < 3136 + 128) := fun h => n3136 (mem_box (inb := inb_S7680x128_S128x128_3136_0) _ (at2 h c1))
  have k3008 : ¬(3008 ≤ r.val ∧ r.val < 3008 + 128) := fun h => n3008 (mem_box (inb := inb_S7680x128_S128x128_3008_0) _ (at2 h c1))
  have k2880 : ¬(2880 ≤ r.val ∧ r.val < 2880 + 128) := fun h => n2880 (mem_box (inb := inb_S7680x128_S128x128_2880_0) _ (at2 h c1))
  have k2784 : ¬(2784 ≤ r.val ∧ r.val < 2784 + 96) := fun h => n2784 (mem_box (inb := inb_S7680x128_S96x128_2784_0) _ (at2 h c1))
  have k2656 : ¬(2656 ≤ r.val ∧ r.val < 2656 + 128) := fun h => n2656 (mem_box (inb := inb_S7680x128_S128x128_2656_0) _ (at2 h c1))
  have k2528 : ¬(2528 ≤ r.val ∧ r.val < 2528 + 128) := fun h => n2528 (mem_box (inb := inb_S7680x128_S128x128_2528_0) _ (at2 h c1))
  have k2400 : ¬(2400 ≤ r.val ∧ r.val < 2400 + 128) := fun h => n2400 (mem_box (inb := inb_S7680x128_S128x128_2400_0) _ (at2 h c1))
  have k2304 : ¬(2304 ≤ r.val ∧ r.val < 2304 + 96) := fun h => n2304 (mem_box (inb := inb_S7680x128_S96x128_2304_0) _ (at2 h c1))
  have k2176 : ¬(2176 ≤ r.val ∧ r.val < 2176 + 128) := fun h => n2176 (mem_box (inb := inb_S7680x128_S128x128_2176_0) _ (at2 h c1))
  have k2048 : ¬(2048 ≤ r.val ∧ r.val < 2048 + 128) := fun h => n2048 (mem_box (inb := inb_S7680x128_S128x128_2048_0) _ (at2 h c1))
  have k1920 : ¬(1920 ≤ r.val ∧ r.val < 1920 + 128) := fun h => n1920 (mem_box (inb := inb_S7680x128_S128x128_1920_0) _ (at2 h c1))
  have k1824 : ¬(1824 ≤ r.val ∧ r.val < 1824 + 96) := fun h => n1824 (mem_box (inb := inb_S7680x128_S96x128_1824_0) _ (at2 h c1))
  have k1696 : ¬(1696 ≤ r.val ∧ r.val < 1696 + 128) := fun h => n1696 (mem_box (inb := inb_S7680x128_S128x128_1696_0) _ (at2 h c1))
  have k1568 : ¬(1568 ≤ r.val ∧ r.val < 1568 + 128) := fun h => n1568 (mem_box (inb := inb_S7680x128_S128x128_1568_0) _ (at2 h c1))
  have k1440 : ¬(1440 ≤ r.val ∧ r.val < 1440 + 128) := fun h => n1440 (mem_box (inb := inb_S7680x128_S128x128_1440_0) _ (at2 h c1))
  have k1344 : ¬(1344 ≤ r.val ∧ r.val < 1344 + 96) := fun h => n1344 (mem_box (inb := inb_S7680x128_S96x128_1344_0) _ (at2 h c1))
  have k1216 : ¬(1216 ≤ r.val ∧ r.val < 1216 + 128) := fun h => n1216 (mem_box (inb := inb_S7680x128_S128x128_1216_0) _ (at2 h c1))
  have k1088 : ¬(1088 ≤ r.val ∧ r.val < 1088 + 128) := fun h => n1088 (mem_box (inb := inb_S7680x128_S128x128_1088_0) _ (at2 h c1))
  have k960 : ¬(960 ≤ r.val ∧ r.val < 960 + 128) := fun h => n960 (mem_box (inb := inb_S7680x128_S128x128_960_0) _ (at2 h c1))
  omega
end
end Cert.KernelIdeal.Val
end
-- ==== Proof.KernelLists.lean ====
/- The stores of a layer's weights, and of a point's context and denominators: what the buffers read after them. -/
module
public import proofs.«01_k».proof.Proof.Spec
public import proofs.«01_k».proof.Proof.KernelBody
public import proofs.«01_k».proof.Proof.KernelWeights
public import proofs.«01_k».proof.Proof.KernelPar
public import proofs.«01_k».proof.Proof.Gen.KernelIdeal.Value
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

theorem heads0 (h : Fin 20) : ∀ a, ![0, 24 * h.val, 0] a + S1x24x256.size a ≤ S2x480x256.size a :=
  at3 (by show 0 + 1 ≤ 2; omega) (by show 24 * h.val + 24 ≤ 480; omega) (by show 0 + 256 ≤ 256; omega)
theorem heads1 (h : Fin 20) : ∀ a, ![1, 24 * h.val, 0] a + S1x24x256.size a ≤ S2x480x256.size a :=
  at3 (by show 1 + 1 ≤ 2; omega) (by show 24 * h.val + 24 ≤ 480; omega) (by show 0 + 256 ≤ 256; omega)

/-- The two sequences' contexts and denominators, as stored. -/
def ctxL (xa xb : Vec Ideal S1x1x256x480 .f32) : List (View.Piece (Elt Ideal) S2x480x256 .f32) :=
  [⟨Rect.unit ![1, 0, 0] S1x480x256.size inb_S2x480x256_S1x480x256_1_0_0, k0_pay99 xb⟩,
    ⟨Rect.unit ![0, 0, 0] S1x480x256.size inb_S2x480x256_S1x480x256_0_0_0, k0_pay97 xa⟩]
def denL (xa xb : Vec Ideal S1x1x20x256 .f32) : List (View.Piece (Elt Ideal) S2x24x256 .f32) :=
  [⟨Rect.unit ![1, 0, 0] S1x20x256.size inb_S2x24x256_S1x20x256_1_0_0, k0_pay100 xb⟩,
    ⟨Rect.unit ![0, 0, 0] S1x20x256.size inb_S2x24x256_S1x20x256_0_0_0, k0_pay98 xa⟩]

section
variable (xa xb : Vec Ideal S1x1x256x480 .f32) (da db : Vec Ideal S1x1x20x256 .f32)
def gCtx (y : S2x480x256.Idx) : EReal := if (y 0).val = 0 then xa (ix4 0 0 (y 2) (y 1)) else xb (ix4 0 0 (y 2) (y 1))
def gDen (y : S2x24x256.Idx) : EReal :=
  if h : (y 1).val < 20 then (if (y 0).val = 0 then da (ix4 0 0 ⟨(y 1).val, h⟩ (y 2)) else db (ix4 0 0 ⟨(y 1).val, h⟩ (y 2))) else 0

theorem ctx_read (v : View sig .tc .vmem S2x480x256 .f32) (f : v.ty.Contents (Elt Ideal)) (y) :
    v.read (Elt Ideal) (v.writes (Elt Ideal) f (ctxL xa xb)) y = gCtx xa xb y := by
  refine read_pieces v f (gCtx xa xb) _ y ?_ fun hn => ?_
  · refine List.forall_mem_cons.2 ⟨?_, List.forall_mem_cons.2 ⟨?_, fun _ h => absurd h List.not_mem_nil⟩⟩
    · refine piece3 (R := 2) (C := 480) (E := 256) (m := 1) (n := 480) (k := 256) (e := .f32) _ _ fun d t u h0 h1 h2 => ?_
      obtain rfl : d = 0 := Subsingleton.elim _ _
      rw [ctx_second]
      refine (congrArg xb ?_).trans (if_neg (show ¬1 + 0 = 0 by omega)).symm
      congr 1 <;> exact Fin.ext (Nat.zero_add _).symm
    · refine piece3 (R := 2) (C := 480) (E := 256) (m := 1) (n := 480) (k := 256) (e := .f32) _ _ fun d t u h0 h1 h2 => ?_
      obtain rfl : d = 0 := Subsingleton.elim _ _
      rw [ctx_first]
      refine (congrArg xa ?_).trans (if_pos (show 0 + 0 = 0 by omega)).symm
      congr 1 <;> exact Fin.ext (Nat.zero_add _).symm
  · simp only [ctxL, List.forall_mem_cons] at hn
    obtain ⟨n1, n0, -⟩ := hn
    have l0 : (y 0).val < 2 := (y 0).isLt
    have l1 : (y 1).val < 480 := (y 1).isLt
    have l2 : (y 2).val < 256 := (y 2).isLt
    by_cases h : (y 0).val = 0
    · exact absurd (mem_box (inb := inb_S2x480x256_S1x480x256_0_0_0) y (at3 (by show 0 ≤ (y 0).val ∧ (y 0).val < 0 + 1; omega)
        (by show 0 ≤ (y 1).val ∧ (y 1).val < 0 + 480; omega) (by show 0 ≤ (y 2).val ∧ (y 2).val < 0 + 256; omega))) n0
    · exact absurd (mem_box (inb := inb_S2x480x256_S1x480x256_1_0_0) y (at3 (by show 1 ≤ (y 0).val ∧ (y 0).val < 1 + 1; omega)
        (by show 0 ≤ (y 1).val ∧ (y 1).val < 0 + 480; omega) (by show 0 ≤ (y 2).val ∧ (y 2).val < 0 + 256; omega))) n1

theorem den_read (v : View sig .tc .vmem S2x24x256 .f32) (f : v.ty.Contents (Elt Ideal)) (y) (hy : (y 1).val < 20) :
    v.read (Elt Ideal) (v.writes (Elt Ideal) f (denL da db)) y = gDen da db y := by
  refine read_pieces v f (gDen da db) _ y ?_ fun hn => ?_
  · refine List.forall_mem_cons.2 ⟨?_, List.forall_mem_cons.2 ⟨?_, fun _ h => absurd h List.not_mem_nil⟩⟩
    · refine piece3 (R := 2) (C := 24) (E := 256) (m := 1) (n := 20) (k := 256) (e := .f32) _ _ fun d t u h0 h1 h2 => ?_
      obtain rfl : d = 0 := Subsingleton.elim _ _
      rw [den_second]
      refine Eq.trans ?_ (dif_pos (show 0 + t.val < 20 by omega)).symm
      refine (congrArg db ?_).trans (if_neg (show ¬1 + 0 = 0 by omega)).symm
      congr 1 <;> exact Fin.ext (Nat.zero_add _).symm
    · refine piece3 (R := 2) (C := 24) (E := 256) (m := 1) (n := 20) (k := 256) (e := .f32) _ _ fun d t u h0 h1 h2 => ?_
      obtain rfl : d = 0 := Subsingleton.elim _ _
      rw [den_first]
      refine Eq.trans ?_ (dif_pos (show 0 + t.val < 20 by omega)).symm
      refine (congrArg da ?_).trans (if_pos (show 0 + 0 = 0 by omega)).symm
      congr 1 <;> exact Fin.ext (Nat.zero_add _).symm
  · simp only [denL, List.forall_mem_cons] at hn
    obtain ⟨n1, n0, -⟩ := hn
    have l0 : (y 0).val < 2 := (y 0).isLt
    have l2 : (y 2).val < 256 := (y 2).isLt
    by_cases h : (y 0).val = 0
    · exact absurd (mem_box (inb := inb_S2x24x256_S1x20x256_0_0_0) y (at3 (by show 0 ≤ (y 0).val ∧ (y 0).val < 0 + 1; omega)
        (by show 0 ≤ (y 1).val ∧ (y 1).val < 0 + 20; omega) (by show 0 ≤ (y 2).val ∧ (y 2).val < 0 + 256; omega))) n0
    · exact absurd (mem_box (inb := inb_S2x24x256_S1x20x256_1_0_0) y (at3 (by show 1 ≤ (y 0).val ∧ (y 0).val < 1 + 1; omega)
        (by show 0 ≤ (y 1).val ∧ (y 1).val < 0 + 20; omega) (by show 0 ≤ (y 2).val ∧ (y 2).val < 0 + 256; omega))) n1
end

/-! ## wo -/
section
def woL (w256 : Vec Ideal S480x224 .i8) (w0 : Vec Ideal S480x256 .i8) : List (View.Piece (Elt Ideal) S480x512 .bf16) :=
  [⟨Rect.unit ![256, 0] S224x480.size inb_S480x512_S224x480_256_0, k0_pay14 k0_pay12 (k0_pay13 w256) (constant S224x480 FTy.f32 0#32)⟩,
    ⟨Rect.unit ![0, 0] S256x480.size inb_S480x512_S256x480_0_0, k0_pay11 w0⟩]

variable {w256 : Vec Ideal S480x224 .i8} {w0 : Vec Ideal S480x256 .i8} {P : Spec.Par}

theorem wo_read (h256 : ∀ (k : Fin 480) (g : Fin 224) (l : 256 + g.val < 480), Spec.wt (w256 (ix2 k g)) = P.wo k ⟨256 + g.val, l⟩) (h0 : ∀ (k : Fin 480) (g : Fin 256) (l : 0 + g.val < 480), Spec.wt (w0 (ix2 k g)) = P.wo k ⟨0 + g.val, l⟩)
    (v : View sig .tc .vmem S480x512 .bf16) (f : v.ty.Contents (Elt Ideal)) (hf : ∀ y : S480x512.Idx, 480 ≤ (y 1).val → v.read (Elt Ideal) f y = 0) (y : S480x512.Idx) :
    v.read (Elt Ideal) (v.writes (Elt Ideal) f (woL w256 w0)) y = gWo P y := by
  refine read_pieces v f (gWo P) _ y ?_ fun hn => ?_
  · refine List.forall_mem_cons.2 ⟨?_, List.forall_mem_cons.2 ⟨?_, fun _ h => absurd h List.not_mem_nil⟩⟩
    · refine piece2 (R := 480) (C := 512) (m := 224) (n := 480) (e := .bf16) _ _ fun d t i0 i1 => ?_
      rw [wt14_at, h256 t d i0]
      refine Eq.trans ?_ (dif_pos (show 0 + t.val < 480 by omega)).symm
      exact congrArg (fun z => P.wo z ⟨256 + d.val, i0⟩) (Fin.ext (Nat.zero_add _).symm)
    · refine piece2 (R := 480) (C := 512) (m := 256) (n := 480) (e := .bf16) _ _ fun d t i0 i1 => ?_
      rw [wt11_at, h0 t d i0]
      refine Eq.trans ?_ (dif_pos (show 0 + t.val < 480 by omega)).symm
      exact congrArg (fun z => P.wo z ⟨0 + d.val, i0⟩) (Fin.ext (Nat.zero_add _).symm)
  · simp only [woL, List.forall_mem_cons] at hn
    obtain ⟨n256, n0, -⟩ := hn
    have l0 : (y 0).val < 480 := (y 0).isLt
    have l1 : (y 1).val < 512 := (y 1).isLt
    by_cases hp : 480 ≤ (y 1).val
    · rw [hf y hp]; unfold gWo; rw [dif_neg (show ¬(y 1).val < 480 by omega)]
    exfalso
    have k256 : ¬(256 ≤ (y 0).val ∧ (y 0).val < 256 + 224) := fun h => n256 (mem_box (inb := inb_S480x512_S224x480_256_0) y (at2 h (by show 0 ≤ (y 1).val ∧ (y 1).val < 0 + 480; omega)))
    have k0 : ¬(0 ≤ (y 0).val ∧ (y 0).val < 0 + 256) := fun h => n0 (mem_box (inb := inb_S480x512_S256x480_0_0) y (at2 h (by show 0 ≤ (y 1).val ∧ (y 1).val < 0 + 480; omega)))
    omega
end

/-! ## w1 -/
section
def w1L (w1792 : Vec Ideal S480x128 .i8) (w1536 : Vec Ideal S480x256 .i8) (w1280 : Vec Ideal S480x256 .i8) (w1024 : Vec Ideal S480x256 .i8) (w768 : Vec Ideal S480x256 .i8) (w512 : Vec Ideal S480x256 .i8) (w256 : Vec Ideal S480x256 .i8) (w0 : Vec Ideal S480x256 .i8) : List (View.Piece (Elt Ideal) S1920x512 .bf16) :=
  [⟨Rect.unit ![1792, 0] S128x480.size inb_S1920x512_S128x480_1792_0, k0_pay25 w1792⟩,
    ⟨Rect.unit ![1536, 0] S256x480.size inb_S1920x512_S256x480_1536_0, k0_pay24 (k0_pay23 w1536)⟩,
    ⟨Rect.unit ![1280, 0] S256x480.size inb_S1920x512_S256x480_1280_0, k0_pay22 (iota Kind.tc S256x256 32 [0] iota_S256x256_d0_w32) (iota Kind.tc S256x256 32 [1] iota_S256x256_d1_w32) w1280⟩,
    ⟨Rect.unit ![1024, 0] S256x480.size inb_S1920x512_S256x480_1024_0, k0_pay21 w1024⟩,
    ⟨Rect.unit ![768, 0] S256x480.size inb_S1920x512_S256x480_768_0, k0_pay20 k0_pay19 w768⟩,
    ⟨Rect.unit ![512, 0] S256x480.size inb_S1920x512_S256x480_512_0, k0_pay18 w512⟩,
    ⟨Rect.unit ![256, 0] S256x480.size inb_S1920x512_S256x480_256_0, k0_pay17 k0_pay16 w256⟩,
    ⟨Rect.unit ![0, 0] S256x480.size inb_S1920x512_S256x480_0_0, k0_pay15 w0⟩]

variable {w1792 : Vec Ideal S480x128 .i8} {w1536 : Vec Ideal S480x256 .i8} {w1280 : Vec Ideal S480x256 .i8} {w1024 : Vec Ideal S480x256 .i8} {w768 : Vec Ideal S480x256 .i8} {w512 : Vec Ideal S480x256 .i8} {w256 : Vec Ideal S480x256 .i8} {w0 : Vec Ideal S480x256 .i8} {P : Spec.Par}

theorem w1_read (h1792 : ∀ (k : Fin 480) (g : Fin 128) (l : 1792 + g.val < 1920), Spec.wt (w1792 (ix2 k g)) = P.w1 k ⟨1792 + g.val, l⟩) (h1536 : ∀ (k : Fin 480) (g : Fin 256) (l : 1536 + g.val < 1920), Spec.wt (w1536 (ix2 k g)) = P.w1 k ⟨1536 + g.val, l⟩) (h1280 : ∀ (k : Fin 480) (g : Fin 256) (l : 1280 + g.val < 1920), Spec.wt (w1280 (ix2 k g)) = P.w1 k ⟨1280 + g.val, l⟩) (h1024 : ∀ (k : Fin 480) (g : Fin 256) (l : 1024 + g.val < 1920), Spec.wt (w1024 (ix2 k g)) = P.w1 k ⟨1024 + g.val, l⟩) (h768 : ∀ (k : Fin 480) (g : Fin 256) (l : 768 + g.val < 1920), Spec.wt (w768 (ix2 k g)) = P.w1 k ⟨768 + g.val, l⟩) (h512 : ∀ (k : Fin 480) (g : Fin 256) (l : 512 + g.val < 1920), Spec.wt (w512 (ix2 k g)) = P.w1 k ⟨512 + g.val, l⟩) (h256 : ∀ (k : Fin 480) (g : Fin 256) (l : 256 + g.val < 1920), Spec.wt (w256 (ix2 k g)) = P.w1 k ⟨256 + g.val, l⟩) (h0 : ∀ (k : Fin 480) (g : Fin 256) (l : 0 + g.val < 1920), Spec.wt (w0 (ix2 k g)) = P.w1 k ⟨0 + g.val, l⟩)
    (v : View sig .tc .vmem S1920x512 .bf16) (f : v.ty.Contents (Elt Ideal)) (hf : ∀ y : S1920x512.Idx, 480 ≤ (y 1).val → v.read (Elt Ideal) f y = 0) (y : S1920x512.Idx) :
    v.read (Elt Ideal) (v.writes (Elt Ideal) f (w1L w1792 w1536 w1280 w1024 w768 w512 w256 w0)) y = gW1 P y := by
  refine read_pieces v f (gW1 P) _ y ?_ fun hn => ?_
  · refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
    · refine piece2 (R := 1920) (C := 512) (m := 128) (n := 480) (e := .bf16) _ _ fun d t i0 i1 => ?_
      rw [wt25_at, h1792 t d i0]
      refine Eq.trans ?_ (dif_pos (show 0 + t.val < 480 by omega)).symm
      exact congrArg (fun z => P.w1 z ⟨1792 + d.val, i0⟩) (Fin.ext (Nat.zero_add _).symm)
    · refine piece2 (R := 1920) (C := 512) (m := 256) (n := 480) (e := .bf16) _ _ fun d t i0 i1 => ?_
      rw [wt24_at, h1536 t d i0]
      refine Eq.trans ?_ (dif_pos (show 0 + t.val < 480 by omega)).symm
      exact congrArg (fun z => P.w1 z ⟨1536 + d.val, i0⟩) (Fin.ext (Nat.zero_add _).symm)
    · refine piece2 (R := 1920) (C := 512) (m := 256) (n := 480) (e := .bf16) _ _ fun d t i0 i1 => ?_
      rw [wt22_at, h1280 t d i0]
      refine Eq.trans ?_ (dif_pos (show 0 + t.val < 480 by omega)).symm
      exact congrArg (fun z => P.w1 z ⟨1280 + d.val, i0⟩) (Fin.ext (Nat.zero_add _).symm)
    · refine piece2 (R := 1920) (C := 512) (m := 256) (n := 480) (e := .bf16) _ _ fun d t i0 i1 => ?_
      rw [wt21_at, h1024 t d i0]
      refine Eq.trans ?_ (dif_pos (show 0 + t.val < 480 by omega)).symm
      exact congrArg (fun z => P.w1 z ⟨1024 + d.val, i0⟩) (Fin.ext (Nat.zero_add _).symm)
    · refine piece2 (R := 1920) (C := 512) (m := 256) (n := 480) (e := .bf16) _ _ fun d t i0 i1 => ?_
      rw [wt20_at, h768 t d i0]
      refine Eq.trans ?_ (dif_pos (show 0 + t.val < 480 by omega)).symm
      exact congrArg (fun z => P.w1 z ⟨768 + d.val, i0⟩) (Fin.ext (Nat.zero_add _).symm)
    · refine piece2 (R := 1920) (C := 512) (m := 256) (n := 480) (e := .bf16) _ _ fun d t i0 i1 => ?_
      rw [wt18_at, h512 t d i0]
      refine Eq.trans ?_ (dif_pos (show 0 + t.val < 480 by omega)).symm
      exact congrArg (fun z => P.w1 z ⟨512 + d.val, i0⟩) (Fin.ext (Nat.zero_add _).symm)
    · refine piece2 (R := 1920) (C := 512) (m := 256) (n := 480) (e := .bf16) _ _ fun d t i0 i1 => ?_
      rw [wt17_at, h256 t d i0]
      refine Eq.trans ?_ (dif_pos (show 0 + t.val < 480 by omega)).symm
      exact congrArg (fun z => P.w1 z ⟨256 + d.val, i0⟩) (Fin.ext (Nat.zero_add _).symm)
    · refine piece2 (R := 1920) (C := 512) (m := 256) (n := 480) (e := .bf16) _ _ fun d t i0 i1 => ?_
      rw [wt15_at, h0 t d i0]
      refine Eq.trans ?_ (dif_pos (show 0 + t.val < 480 by omega)).symm
      exact congrArg (fun z => P.w1 z ⟨0 + d.val, i0⟩) (Fin.ext (Nat.zero_add _).symm)
  · simp only [w1L, List.forall_mem_cons] at hn
    obtain ⟨n1792, n1536, n1280, n1024, n768, n512, n256, n0, -⟩ := hn
    have l0 : (y 0).val < 1920 := (y 0).isLt
    have l1 : (y 1).val < 512 := (y 1).isLt
    by_cases hp : 480 ≤ (y 1).val
    · rw [hf y hp]; unfold gW1; rw [dif_neg (show ¬(y 1).val < 480 by omega)]
    exfalso
    have k1792 : ¬(1792 ≤ (y 0).val ∧ (y 0).val < 1792 + 128) := fun h => n1792 (mem_box (inb := inb_S1920x512_S128x480_1792_0) y (at2 h (by show 0 ≤ (y 1).val ∧ (y 1).val < 0 + 480; omega)))
    have k1536 : ¬(1536 ≤ (y 0).val ∧ (y 0).val < 1536 + 256) := fun h => n1536 (mem_box (inb := inb_S1920x512_S256x480_1536_0) y (at2 h (by show 0 ≤ (y 1).val ∧ (y 1).val < 0 + 480; omega)))
    have k1280 : ¬(1280 ≤ (y 0).val ∧ (y 0).val < 1280 + 256) := fun h => n1280 (mem_box (inb := inb_S1920x512_S256x480_1280_0) y (at2 h (by show 0 ≤ (y 1).val ∧ (y 1).val < 0 + 480; omega)))
    have k1024 : ¬(1024 ≤ (y 0).val ∧ (y 0).val < 1024 + 256) := fun h => n1024 (mem_box (inb := inb_S1920x512_S256x480_1024_0) y (at2 h (by show 0 ≤ (y 1).val ∧ (y 1).val < 0 + 480; omega)))
    have k768 : ¬(768 ≤ (y 0).val ∧ (y 0).val < 768 + 256) := fun h => n768 (mem_box (inb := inb_S1920x512_S256x480_768_0) y (at2 h (by show 0 ≤ (y 1).val ∧ (y 1).val < 0 + 480; omega)))
    have k512 : ¬(512 ≤ (y 0).val ∧ (y 0).val < 512 + 256) := fun h => n512 (mem_box (inb := inb_S1920x512_S256x480_512_0) y (at2 h (by show 0 ≤ (y 1).val ∧ (y 1).val < 0 + 480; omega)))
    have k256 : ¬(256 ≤ (y 0).val ∧ (y 0).val < 256 + 256) := fun h => n256 (mem_box (inb := inb_S1920x512_S256x480_256_0) y (at2 h (by show 0 ≤ (y 1).val ∧ (y 1).val < 0 + 480; omega)))
    have k0 : ¬(0 ≤ (y 0).val ∧ (y 0).val < 0 + 256) := fun h => n0 (mem_box (inb := inb_S1920x512_S256x480_0_0) y (at2 h (by show 0 ≤ (y 1).val ∧ (y 1).val < 0 + 480; omega)))
    omega
end

/-! ## w2 -/
section
def w2L (w256 : Vec Ideal S1920x224 .i8) (w0 : Vec Ideal S1920x256 .i8) : List (View.Piece (Elt Ideal) S480x1920 .bf16) :=
  [⟨Rect.unit ![256, 0] S224x1920.size inb_S480x1920_S224x1920_256_0, k0_pay28 w256⟩,
    ⟨Rect.unit ![0, 0] S256x1920.size inb_S480x1920_S256x1920_0_0, k0_pay27 k0_pay26 w0⟩]

variable {w256 : Vec Ideal S1920x224 .i8} {w0 : Vec Ideal S1920x256 .i8} {P : Spec.Par}

theorem w2_read (h256 : ∀ (k : Fin 1920) (g : Fin 224) (l : 256 + g.val < 480), Spec.wt (w256 (ix2 k g)) = P.w2 k ⟨256 + g.val, l⟩) (h0 : ∀ (k : Fin 1920) (g : Fin 256) (l : 0 + g.val < 480), Spec.wt (w0 (ix2 k g)) = P.w2 k ⟨0 + g.val, l⟩)
    (v : View sig .tc .vmem S480x1920 .bf16) (f : v.ty.Contents (Elt Ideal)) (y : S480x1920.Idx) :
    v.read (Elt Ideal) (v.writes (Elt Ideal) f (w2L w256 w0)) y = gW2 P y := by
  refine read_pieces v f (gW2 P) _ y ?_ fun hn => ?_
  · refine List.forall_mem_cons.2 ⟨?_, List.forall_mem_cons.2 ⟨?_, fun _ h => absurd h List.not_mem_nil⟩⟩
    · refine piece2 (R := 480) (C := 1920) (m := 224) (n := 1920) (e := .bf16) _ _ fun d t i0 i1 => ?_
      rw [wt28_at, h256 t d i0]
      exact congrArg (fun z => P.w2 z ⟨256 + d.val, i0⟩) (Fin.ext (Nat.zero_add _).symm)
    · refine piece2 (R := 480) (C := 1920) (m := 256) (n := 1920) (e := .bf16) _ _ fun d t i0 i1 => ?_
      rw [wt27_at, h0 t d i0]
      exact congrArg (fun z => P.w2 z ⟨0 + d.val, i0⟩) (Fin.ext (Nat.zero_add _).symm)
  · simp only [w2L, List.forall_mem_cons] at hn
    obtain ⟨n256, n0, -⟩ := hn
    have l0 : (y 0).val < 480 := (y 0).isLt
    have l1 : (y 1).val < 1920 := (y 1).isLt
    exfalso
    have k256 : ¬(256 ≤ (y 0).val ∧ (y 0).val < 256 + 224) := fun h => n256 (mem_box (inb := inb_S480x1920_S224x1920_256_0) y (at2 h (by show 0 ≤ (y 1).val ∧ (y 1).val < 0 + 1920; omega)))
    have k0 : ¬(0 ≤ (y 0).val ∧ (y 0).val < 0 + 256) := fun h => n0 (mem_box (inb := inb_S480x1920_S256x1920_0_0) y (at2 h (by show 0 ≤ (y 1).val ∧ (y 1).val < 0 + 1920; omega)))
    omega
end

/-- The rows of parameters, once stored, are the layer's. -/
theorem par_read {a1 a2 a3 : Elt Ideal .f32} {g b so bo s2 b2 : Vec Ideal S1x480 .f32} {s1 b1 : Vec Ideal S1x1920 .f32}
    {P : Spec.Par} (H : Rows a1 a2 a3 g b so bo s2 b2 s1 b1 P) (v : View sig .tc .vmem S7680x128 .f32)
    (f : v.ty.Contents (Elt Ideal)) (r : Fin 7680) (j : Fin 128) (hr : 960 ≤ r.val) :
    v.read (Elt Ideal) (v.writes (Elt Ideal) f (parL a1 a2 a3 g b so bo s2 b2 s1 b1)) (ix2 r j) = prow P r.val :=
  read_pieces v f (gPar P) _ (ix2 r j) (parL_agrees H) fun hn => absurd hn fun hn => parL_covers r j hr hn
end Cert.KernelIdeal.Val
end
-- ==== Proof.KernelPoint.lean ====
/- A point of the kernel, from its buffers and what they hold. -/
module
public import proofs.«01_k».proof.Proof.Spec
public import proofs.«01_k».proof.Proof.KernelBody
public import proofs.«01_k».proof.Proof.KernelLists
public import proofs.«01_k».proof.Proof.Gen.KernelIdeal.Value
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

/-- A block of columns of a weight, loaded through the view that drops its leading axis. -/
def ldw {p q : ℕ} {arg : Memref sig .tc .vmem ⟨3, ![1, p, q]⟩ .i8} (h : arg.IsWhole) (X : Vec Ideal ⟨3, ![1, p, q]⟩ .i8) (o n : ℕ)
    (inb : ∀ a, (![0, o] : Fin 2 → ℕ) a + (![p, n] : Fin 2 → ℕ) a ≤ (⟨2, ![p, q]⟩ : Shape).size a) : Vec Ideal ⟨2, ![p, n]⟩ .i8 :=
  View.readAt (Elt Ideal) ((arg.view.slice (Rect.unit (s := ⟨3, ![1, p, q]⟩) ![0, 0, 0] ![1, p, q] fun a => by
      fin_cases a <;> exact (Nat.zero_add _).le)).reshape ⟨2, ![p, q]⟩ (by
        show (⟨2, ![p, q]⟩ : Shape).numel = (⟨3, ![1, p, q]⟩ : Shape).numel
        simp [Shape.numel, Fin.prod_univ_succ]))
    (Rect.unit (s := ⟨2, ![p, q]⟩) ![0, o] ![p, n] inb).toLoadRect (h.unread X)

theorem ldw_at {p q : ℕ} {arg : Memref sig .tc .vmem ⟨3, ![1, p, q]⟩ .i8} (h : arg.IsWhole) (X : Vec Ideal ⟨3, ![1, p, q]⟩ .i8)
    (o n : ℕ) (inb) (d : Fin p) (k : Fin n) (hk : o + k.val < q) : ldw h X o n inb (ix2 d k) = X (ix3 0 d ⟨o + k.val, hk⟩) :=
  (load_weight h X 0 o d k (by omega) hk).trans (congrArg (fun z => X (ix3 0 z ⟨o + k.val, hk⟩)) (Fin.ext (Nat.zero_add _)))

/-- A point from its buffers and the contents of the operands' blocks. -/
def ptOf (i : grid0.Coords) (hc : k0_cond3 i = 1#1) (arg2 : Memref sig .tc .smem S12x4 .f32) (harg2 : arg2.IsWhole) (arg3 : Memref sig .tc .vmem S2x256x480 .f32) (harg3 : arg3.IsWhole) (arg18 : Memref sig .tc .vmem S16x480x512 .f32) (arg19 : Memref sig .tc .vmem S480x512 .bf16) (arg20 : Memref sig .tc .vmem S1920x512 .bf16) (arg21 : Memref sig .tc .vmem S480x1920 .bf16) (arg22 : Memref sig .tc .vmem S7680x128 .f32) (arg23 : Memref sig .tc .vmem S512x512 .bf16) (arg24 : Memref sig .tc .vmem S1920x512 .bf16) (arg25 : Memref sig .tc .vmem S2x480x256 .f32) (arg26 : Memref sig .tc .vmem S2x24x256 .f32)
    (f18 g18 : arg18.view.ty.Contents (Elt Ideal)) (f19 : arg19.view.ty.Contents (Elt Ideal)) (f20 : arg20.view.ty.Contents (Elt Ideal)) (f21 : arg21.view.ty.Contents (Elt Ideal)) (f22 : arg22.view.ty.Contents (Elt Ideal)) (f23 : arg23.view.ty.Contents (Elt Ideal)) (g24 : arg24.view.ty.Contents (Elt Ideal)) (f26 : arg26.view.ty.Contents (Elt Ideal)) (LC : List (View.Piece (Elt Ideal) S2x480x256 .f32))
    (x0 : Vec Ideal S12x4 .f32) (x1 : Vec Ideal S2x256x480 .f32) : Pt where
  n := (i 0).val
  o7 := k0_off7 i
  i7 := k0_off7_inb i hc
  a1 := View.readAt (Elt Ideal) arg2.view (Rect.unit (s := S12x4) (k0_off6 i) S1x1.size (k0_off6_inb i hc)).toLoadRect (harg2.unread x0) (Shape.Idx.first (show 0 < S1x1.numel from numel1_S1x1.symm ▸ Nat.one_pos))
  a3 := View.readAt (Elt Ideal) arg2.view (Rect.unit (s := S12x4) (k0_off8 i) S1x1.size (k0_off8_inb i hc)).toLoadRect (harg2.unread x0) (Shape.Idx.first (show 0 < S1x1.numel from numel1_S1x1.symm ▸ Nat.one_pos))
  xa := View.readAt (Elt Ideal) arg3.view (Rect.unit (s := S2x256x480) ![0, 0, 0] S1x256x480.size inb_S2x256x480_S1x256x480_0_0_0).toLoadRect (harg3.unread x1)
  xb := View.readAt (Elt Ideal) arg3.view (Rect.unit (s := S2x256x480) ![1, 0, 0] S1x256x480.size inb_S2x256x480_S1x256x480_1_0_0).toLoadRect (harg3.unread x1)
  dn := View.readAt (Elt Ideal) arg26.view (Rect.unit (s := S2x24x256) ![0, 0, 0] S1x24x256.size inb_S2x24x256_S1x24x256_0_0_0).toLoadRect f26
  dn' := View.readAt (Elt Ideal) arg26.view (Rect.unit (s := S2x24x256) ![1, 0, 0] S1x24x256.size inb_S2x24x256_S1x24x256_1_0_0).toLoadRect f26
  cv := fun h => arg25.view.readCov LC (Rect.unit (s := S2x480x256) ![0, 24 * h.val, 0] S1x24x256.size (heads0 h)).toLoadRect
  cv' := fun h => arg25.view.readCov LC (Rect.unit (s := S2x480x256) ![1, 24 * h.val, 0] S1x24x256.size (heads1 h)).toLoadRect
  v18 := arg18.view
  f18 := f18
  v19 := arg19.view
  f19 := f19
  v20 := arg20.view
  f20 := f20
  v21 := arg21.view
  f21 := f21
  v22 := arg22.view
  f22 := f22
  v23 := arg23.view
  f23 := f23
  v24 := arg24.view
  g24 := g24
  g18 := g18
end Cert.KernelIdeal.Val
end
-- ==== Proof.KernelGood.lean ====
/- A point's loads: what it takes from the operands' blocks, and what its stores read back as. -/
module
public import proofs.«01_k».proof.Proof.KernelPoint
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

/-! ## The layer's parameters off the operands' blocks -/

/-- Layer `l`'s parameters: rows of the tables and the staged blocks of the three weights. -/
def lp (l : Fin 12) (x0 : Vec Ideal S12x4 .f32) (x4 x5 : Vec Ideal S12x480 .f32) (x6 : Vec Ideal S1x480x480 .i8)
    (x7 x8 : Vec Ideal S12x480 .f32) (x9 : Vec Ideal S1x480x1920 .i8) (x10 x11 : Vec Ideal S12x1920 .f32)
    (x12 : Vec Ideal S1x1920x480 .i8) (x13 x14 : Vec Ideal S12x480 .f32) : Spec.Par where
  a1 := x0 (ix2 l 1)
  a2 := x0 (ix2 l 2)
  a3 := x0 (ix2 l 3)
  g k := x4 (ix2 l k)
  b k := x5 (ix2 l k)
  wo k d := Spec.wt (x6 (ix3 0 k d))
  so k := x7 (ix2 l k)
  bo k := x8 (ix2 l k)
  w1 k f := Spec.wt (x9 (ix3 0 k f))
  s1 k := x10 (ix2 l k)
  b1 k := x11 (ix2 l k)
  w2 f d := Spec.wt (x12 (ix3 0 f d))
  s2 k := x13 (ix2 l k)
  b2 k := x14 (ix2 l k)

/-- The two staged sequences' context, heads concatenated, and their denominators, at a token of the 512. -/
def raws (x2 : Vec Ideal S1x2x256x480 .f32) (k : Fin 480) (t : Fin 512) : EReal :=
  x2 (ix4 0 ⟨t.val / 256, by omega⟩ ⟨t.val % 256, by omega⟩ k)
def dens (x3 : Vec Ideal S1x2x20x256 .f32) (h : Fin 20) (t : Fin 512) : EReal :=
  x3 (ix4 0 ⟨t.val / 256, by omega⟩ h ⟨t.val % 256, by omega⟩)

/-- A load through a whole buffer, at a coordinate. -/
theorem rdw {sp : Space} {s : Shape} {e : EltTy} {arg : Memref sig .tc sp s e} (harg : arg.IsWhole) (X : Vec Ideal s e)
    {off size : Fin s.rank → ℕ} {inb} (x : (Rect.unit (s := s) off size inb).shape.Idx) (y : s.Idx)
    (hy : ∀ a, (y a).val = off a + (x a).val) :
    View.readAt (Elt Ideal) arg.view (Rect.unit (s := s) off size inb).toLoadRect (harg.unread X) x = X y :=
  (rd arg.view (harg.unread X) x y hy).trans (congrFun (harg.read_unread X) y)

section
variable {p : Pt}

/-- The two blocks a point writes out, and the stream it keeps, read back. -/
theorem outs_read (v : View sig .tc .vmem S1x2x256x480 .bf16) (f : v.ty.Contents (Elt Ideal)) (a : Fin 2) (q : Fin 256) (d : Fin 480) :
    v.read (Elt Ideal) (v.writes (Elt Ideal) f p.outs) (ix4 0 a q d) = p.new (ix2 d ⟨256 * a.val + q.val, by omega⟩) := by
  unfold Pt.outs
  fin_cases a
  · refine (View.read_writes_cons_miss_of_axis v f _ _ _ 1 1 1 rfl rfl rfl (Or.inl (show (0 : ℕ) < 1 by omega))).trans ?_
    refine (View.read_writes_cons_hit_of_coords v f _ _ _ (ix4 0 0 q d) _ (at4 rfl rfl ?_ ?_)).trans ?_
    · show q.val = 0 + 1 * q.val; omega
    · show d.val = 0 + 1 * d.val; omega
    · refine (out_first _ _ _ _ _ q d).trans (congrArg p.new ?_)
      exact congrArg (ix2 d) (Fin.ext (by show q.val = 256 * 0 + q.val; omega))
  · refine (View.read_writes_cons_hit_of_coords v f _ _ _ (ix4 0 0 q d) _ (at4 rfl rfl ?_ ?_)).trans ?_
    · show q.val = 0 + 1 * q.val; omega
    · show d.val = 0 + 1 * d.val; omega
    · refine (out_second _ _ _ _ _ q d).trans (congrArg p.new ?_)
      exact congrArg (ix2 d) (Fin.ext (by show 256 + q.val = 256 * 1 + q.val; omega))

theorem kept_read (v : View sig .tc .vmem S16x480x512 .f32) (j : Fin 16) (ho : p.o7 = ![j.val, 0, 0]) (f : v.ty.Contents (Elt Ideal)) (r : Fin 16) (d : Fin 480) (t : Fin 512) :
    v.read (Elt Ideal) (v.writes (Elt Ideal) f p.kept) (ix3 r d t)
      = if r.val = j.val then p.new (ix2 d t) else v.read (Elt Ideal) f (ix3 r d t) := by
  unfold Pt.kept
  split
  · next h =>
    obtain rfl : r = j := Fin.ext h
    refine (View.read_writes_cons_hit_of_coords v f _ _ _ (ix3 0 d t) _ (at3 ?_ ?_ ?_)).trans ?_
    · show r.val = p.o7 0 + 1 * 0; rw [ho]; rfl
    · show d.val = p.o7 1 + 1 * d.val; rw [ho]; show d.val = 0 + 1 * d.val; omega
    · show t.val = p.o7 2 + 1 * t.val; rw [ho]; show t.val = 0 + 1 * t.val; omega
    · exact out_store _ _ _ _ _ t d
  · next h =>
    have hn : ∀ (w : (Rect.unit (s := S16x480x512) p.o7 S1x480x512.size p.i7).shape.Idx → Elt Ideal .f32) L,
        v.read (Elt Ideal) (v.writes (Elt Ideal) f (⟨Rect.unit (s := S16x480x512) p.o7 S1x480x512.size p.i7, w⟩ :: L)) (ix3 r d t)
          = v.read (Elt Ideal) (v.writes (Elt Ideal) f L) (ix3 r d t) := fun w L =>
      View.read_writes_cons_miss_of_axis v f ⟨Rect.unit (s := S16x480x512) p.o7 S1x480x512.size p.i7, w⟩ L (ix3 r d t) 0 j.val 1
        (by show p.o7 0 = _; rw [ho]; rfl) rfl rfl (by
          have : r.val ≠ j.val := h
          show r.val < j.val ∨ j.val + 1 ≤ r.val
          omega)
    rw [hn]
    unfold Pt.mid
    rw [hn]
    rfl
end

/-! ## A point is good -/

section
variable {i : grid0.Coords} {hc : k0_cond3 i = 1#1} {arg2 : Memref sig .tc .smem S12x4 .f32} {harg2 : arg2.IsWhole} {arg3 : Memref sig .tc .vmem S2x256x480 .f32} {harg3 : arg3.IsWhole}
  {arg18 : Memref sig .tc .vmem S16x480x512 .f32} {arg19 : Memref sig .tc .vmem S480x512 .bf16} {arg20 : Memref sig .tc .vmem S1920x512 .bf16} {arg21 : Memref sig .tc .vmem S480x1920 .bf16} {arg22 : Memref sig .tc .vmem S7680x128 .f32} {arg23 : Memref sig .tc .vmem S512x512 .bf16} {arg24 : Memref sig .tc .vmem S1920x512 .bf16} {arg25 : Memref sig .tc .vmem S2x480x256 .f32} {arg26 : Memref sig .tc .vmem S2x24x256 .f32}
  {f18 g18 : arg18.view.ty.Contents (Elt Ideal)} {f19 : arg19.view.ty.Contents (Elt Ideal)} {f20 : arg20.view.ty.Contents (Elt Ideal)} {f21 : arg21.view.ty.Contents (Elt Ideal)} {f22 : arg22.view.ty.Contents (Elt Ideal)} {f23 : arg23.view.ty.Contents (Elt Ideal)} {g24 : arg24.view.ty.Contents (Elt Ideal)} {f26 : arg26.view.ty.Contents (Elt Ideal)} {LC : List (View.Piece (Elt Ideal) S2x480x256 .f32)}
  {x0 : Vec Ideal S12x4 .f32} {x1 : Vec Ideal S2x256x480 .f32} {x2 : Vec Ideal S1x2x256x480 .f32} {x3 : Vec Ideal S1x2x20x256 .f32}
  {arg4 : Memref sig .tc .vmem S1x2x256x480 .f32} {harg4 : arg4.IsWhole} {arg5 : Memref sig .tc .vmem S1x2x20x256 .f32} {harg5 : arg5.IsWhole}

/-- The context and the denominators as the point stores them. -/
abbrev ctxOf (harg4 : arg4.IsWhole) (x2 : Vec Ideal S1x2x256x480 .f32) : List (View.Piece (Elt Ideal) S2x480x256 .f32) :=
  ctxL (View.readAt (Elt Ideal) arg4.view (Rect.unit (s := S1x2x256x480) ![0, 0, 0, 0] S1x1x256x480.size inb_S1x2x256x480_S1x1x256x480_0_0_0_0).toLoadRect (harg4.unread x2))
    (View.readAt (Elt Ideal) arg4.view (Rect.unit (s := S1x2x256x480) ![0, 1, 0, 0] S1x1x256x480.size inb_S1x2x256x480_S1x1x256x480_0_1_0_0).toLoadRect (harg4.unread x2))
abbrev denOf (harg5 : arg5.IsWhole) (x3 : Vec Ideal S1x2x20x256 .f32) : List (View.Piece (Elt Ideal) S2x24x256 .f32) :=
  denL (View.readAt (Elt Ideal) arg5.view (Rect.unit (s := S1x2x20x256) ![0, 0, 0, 0] S1x1x20x256.size inb_S1x2x20x256_S1x1x20x256_0_0_0_0).toLoadRect (harg5.unread x3))
    (View.readAt (Elt Ideal) arg5.view (Rect.unit (s := S1x2x20x256) ![0, 1, 0, 0] S1x1x20x256.size inb_S1x2x20x256_S1x1x20x256_0_1_0_0).toLoadRect (harg5.unread x3))

theorem ctx_at (k : Fin 480) (q : Fin 256) (f : arg25.view.ty.Contents (Elt Ideal)) (a : Fin 2) (t : Fin 512) (ht : t.val = 256 * a.val + q.val) :
    arg25.view.read (Elt Ideal) (arg25.view.writes (Elt Ideal) f (ctxOf harg4 x2)) (ix3 a k q) = raws x2 k t := by
  rw [ctx_read]
  unfold gCtx raws
  have hq : q.val < 256 := q.isLt
  obtain rfl | rfl : a = 0 ∨ a = 1 := by omega
  · refine Eq.trans (if_pos (by exact rfl)) ?_
    refine rdw harg4 x2 _ _ (at4 rfl ?_ ?_ ?_)
    · show t.val / 256 = 0 + 0; have : t.val = 256 * 0 + q.val := ht; omega
    · show t.val % 256 = 0 + q.val; have : t.val = 256 * 0 + q.val := ht; omega
    · exact (Nat.zero_add _).symm
  · refine Eq.trans (if_neg (by show ¬(1 : ℕ) = 0; omega)) ?_
    refine rdw harg4 x2 _ _ (at4 rfl ?_ ?_ ?_)
    · show t.val / 256 = 1 + 0; have : t.val = 256 * 1 + q.val := ht; omega
    · show t.val % 256 = 0 + q.val; have : t.val = 256 * 1 + q.val := ht; omega
    · exact (Nat.zero_add _).symm

theorem den_at (h : Fin 20) (q : Fin 256) (f : arg26.view.ty.Contents (Elt Ideal)) (a : Fin 2) (t : Fin 512) (ht : t.val = 256 * a.val + q.val) :
    arg26.view.read (Elt Ideal) (arg26.view.writes (Elt Ideal) f (denOf harg5 x3)) (ix3 a ⟨h.val, by omega⟩ q) = dens x3 h t := by
  rw [den_read _ _ _ _ _ (show h.val < 20 from h.isLt)]
  unfold gDen dens
  have hq : q.val < 256 := q.isLt
  refine Eq.trans (dif_pos (by exact h.isLt)) ?_
  obtain rfl | rfl : a = 0 ∨ a = 1 := by omega
  · refine Eq.trans (if_pos (by exact rfl)) ?_
    refine rdw harg5 x3 _ _ (at4 rfl ?_ ?_ ?_)
    · show t.val / 256 = 0 + 0; have : t.val = 256 * 0 + q.val := ht; omega
    · exact (Nat.zero_add _).symm
    · show t.val % 256 = 0 + q.val; have : t.val = 256 * 0 + q.val := ht; omega
  · refine Eq.trans (if_neg (by show ¬(1 : ℕ) = 0; omega)) ?_
    refine rdw harg5 x3 _ _ (at4 rfl ?_ ?_ ?_)
    · show t.val / 256 = 1 + 0; have : t.val = 256 * 1 + q.val := ht; omega
    · exact (Nat.zero_add _).symm
    · show t.val % 256 = 0 + q.val; have : t.val = 256 * 1 + q.val := ht; omega

theorem ptOf_good (l : Fin 12) (hl : (i 0).val = l.val) (P : Spec.Par) (ha1 : x0 (ix2 l 1) = P.a1) (ha3 : x0 (ix2 l 3) = P.a3)
    (h : Fin 512 → Fin 480 → EReal)
    (h0 : l.val = 0 → ∀ (t : Fin 512) d, x1 (ix3 ⟨t.val / 256, by omega⟩ ⟨t.val % 256, by omega⟩ d) = h t d)
    (h1 : l.val ≠ 0 → ∀ (t : Fin 512) d, arg18.view.read (Elt Ideal) f18 (ix3 (i 1) d t) = h t d)
    (hwo : ∀ y, arg19.view.read (Elt Ideal) f19 y = gWo P y) (hw1 : ∀ y, arg20.view.read (Elt Ideal) f20 y = gW1 P y)
    (hw2 : ∀ y, arg21.view.read (Elt Ideal) f21 y = gW2 P y)
    (hpar : ∀ (r : Fin 7680) j, 960 ≤ r.val → arg22.view.read (Elt Ideal) f22 (ix2 r j) = prow P r.val)
    (hLC : LC = ctxOf harg4 x2) (f : arg26.view.ty.Contents (Elt Ideal)) (h26 : f26 = arg26.view.writes (Elt Ideal) f (denOf harg5 x3)) :
    (ptOf i hc arg2 harg2 arg3 harg3 arg18 arg19 arg20 arg21 arg22 arg23 arg24 arg25 arg26 f18 g18 f19 f20 f21 f22 f23 g24 f26 LC x0 x1).Good
      P h (raws x2) (dens x3) where
  a1 := (load_word harg2 x0 l 1 _ ((k0_off6_eq i).trans (by rw [hl]; rfl)) _).trans ha1
  a3 := (load_word harg2 x0 l 3 _ ((k0_off8_eq i).trans (by rw [hl]; rfl)) _).trans ha3
  hin d t := by
    refine (hin_at (i 0).val (by omega) _ _ _ d t).trans ?_
    rw [hl]
    split
    · next e =>
      rw [← h0 e]
      split
      · next e2 =>
        refine rdw harg3 x1 _ _ (at3 ?_ ?_ ?_)
        · show t.val / 256 = 0 + 0; omega
        · show t.val % 256 = 0 + t.val; omega
        · exact (Nat.zero_add _).symm
      · next e2 =>
        refine rdw harg3 x1 _ _ (at3 ?_ ?_ ?_)
        · show t.val / 256 = 1 + 0; omega
        · show t.val % 256 = 0 + (t.val - 256); omega
        · exact (Nat.zero_add _).symm
    · next e =>
      rw [← h1 e]
      have ho := k0_off7_eq i
      refine rd arg18.view f18 _ _ (at3 ?_ ?_ ?_)
      · show (i 1).val = k0_off7 i 0 + 0; rw [ho]; rfl
      · show d.val = k0_off7 i 1 + d.val; rw [ho]; exact (Nat.zero_add _).symm
      · show t.val = k0_off7 i 2 + t.val; rw [ho]; exact (Nat.zero_add _).symm
  wo := hwo
  w1 := hw1
  w2 := hw2
  par := hpar
  cv h e q := by
    subst hLC
    exact (rd arg25.view (arg25.view.writes (Elt Ideal) arg25.view.junk (ctxOf harg4 x2)) (ix3 0 e q) (ix3 0 ⟨24 * h.val + e.val, by omega⟩ q)
      (at3 rfl rfl (Nat.zero_add _).symm)).trans (ctx_at _ q _ 0 _ (by show q.val = 256 * 0 + q.val; omega))
  cv' h e q := by
    subst hLC
    exact (rd arg25.view (arg25.view.writes (Elt Ideal) arg25.view.junk (ctxOf harg4 x2)) (ix3 0 e q) (ix3 1 ⟨24 * h.val + e.val, by omega⟩ q)
      (at3 rfl rfl (Nat.zero_add _).symm)).trans (ctx_at _ q _ 1 _ (by show 256 + q.val = 256 * 1 + q.val; omega))
  dn h q := by
    subst h26
    exact (rd arg26.view (arg26.view.writes (Elt Ideal) f (denOf harg5 x3)) (ix3 0 ⟨h.val, by omega⟩ q) (ix3 0 ⟨h.val, by omega⟩ q)
      (at3 rfl (Nat.zero_add _).symm (Nat.zero_add _).symm)).trans (den_at h q _ 0 _ (by show q.val = 256 * 0 + q.val; omega))
  dn' h q := by
    subst h26
    exact (rd arg26.view (arg26.view.writes (Elt Ideal) f (denOf harg5 x3)) (ix3 0 ⟨h.val, by omega⟩ q) (ix3 1 ⟨h.val, by omega⟩ q)
      (at3 rfl (Nat.zero_add _).symm (Nat.zero_add _).symm)).trans (den_at h q _ 1 _ (by show 256 + q.val = 256 * 1 + q.val; omega))
end
end Cert.KernelIdeal.Val
end
-- ==== Proof.KernelHold.lean ====
/- What a layer's first point lays down: the three weights and the folded rows, as the layer's parameters. -/
module
public import proofs.«01_k».proof.Proof.KernelGood
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

section
variable {l : Fin 12} {x0 : Vec Ideal S12x4 .f32} {x4 x5 : Vec Ideal S12x480 .f32} {x6 : Vec Ideal S1x480x480 .i8}
  {x7 x8 : Vec Ideal S12x480 .f32} {x9 : Vec Ideal S1x480x1920 .i8} {x10 x11 : Vec Ideal S12x1920 .f32}
  {x12 : Vec Ideal S1x1920x480 .i8} {x13 x14 : Vec Ideal S12x480 .f32}
  {arg8 : Memref sig .tc .vmem S1x480x480 .i8} {arg11 : Memref sig .tc .vmem S1x480x1920 .i8} {arg14 : Memref sig .tc .vmem S1x1920x480 .i8}
  (harg8 : arg8.IsWhole) (harg11 : arg11.IsWhole) (harg14 : arg14.IsWhole)

/-- The stores that lay `wo` down. -/
abbrev woOf (x6 : Vec Ideal S1x480x480 .i8) : List (View.Piece (Elt Ideal) S480x512 .bf16) :=
  woL (ldw harg8 x6 256 224 inb_S480x480_S480x224_0_256) (ldw harg8 x6 0 256 inb_S480x480_S480x256_0_0)

theorem woOf_read (v : View sig .tc .vmem S480x512 .bf16) (f : v.ty.Contents (Elt Ideal)) (hf : ∀ y : S480x512.Idx, 480 ≤ (y 1).val → v.read (Elt Ideal) f y = 0) (y : S480x512.Idx) :
    v.read (Elt Ideal) (v.writes (Elt Ideal) f (woOf harg8 x6)) y = gWo (lp l x0 x4 x5 x6 x7 x8 x9 x10 x11 x12 x13 x14) y :=
  wo_read (P := (lp l x0 x4 x5 x6 x7 x8 x9 x10 x11 x12 x13 x14)) (fun k g e => congrArg Spec.wt (ldw_at harg8 x6 256 224 inb_S480x480_S480x224_0_256 k g e)) (fun k g e => congrArg Spec.wt (ldw_at harg8 x6 0 256 inb_S480x480_S480x256_0_0 k g e)) v f hf y

theorem woOf_fill (v : View sig .tc .vmem S480x512 .bf16) (y : S480x512.Idx) :
    v.read (Elt Ideal) (v.writes (Elt Ideal) v.junk (woOf harg8 x6 ++ [⟨Rect.unit ![0, 0] ![480, 512] inb_S480x512_S480x512_0_0, k0_pay1 (F := Ideal)⟩])) y = gWo (lp l x0 x4 x5 x6 x7 x8 x9 x10 x11 x12 x13 x14) y := by
  rw [View.writes_append]
  refine woOf_read harg8 v _ (fun z _ => ?_) y
  refine (View.read_writes_cons_hit_of_coords v _ _ _ _ z z (at2 ?_ ?_)).trans ?_
  · show (z 0).val = 0 + 1 * (z 0).val; omega
  · show (z 1).val = 0 + 1 * (z 1).val; omega
  · pointwise [k0_pay1]

/-- The stores that lay `w1` down. -/
abbrev w1Of (x9 : Vec Ideal S1x480x1920 .i8) : List (View.Piece (Elt Ideal) S1920x512 .bf16) :=
  w1L (ldw harg11 x9 1792 128 inb_S480x1920_S480x128_0_1792) (ldw harg11 x9 1536 256 inb_S480x1920_S480x256_0_1536) (ldw harg11 x9 1280 256 inb_S480x1920_S480x256_0_1280) (ldw harg11 x9 1024 256 inb_S480x1920_S480x256_0_1024) (ldw harg11 x9 768 256 inb_S480x1920_S480x256_0_768) (ldw harg11 x9 512 256 inb_S480x1920_S480x256_0_512) (ldw harg11 x9 256 256 inb_S480x1920_S480x256_0_256) (ldw harg11 x9 0 256 inb_S480x1920_S480x256_0_0)

theorem w1Of_read (v : View sig .tc .vmem S1920x512 .bf16) (f : v.ty.Contents (Elt Ideal)) (hf : ∀ y : S1920x512.Idx, 480 ≤ (y 1).val → v.read (Elt Ideal) f y = 0) (y : S1920x512.Idx) :
    v.read (Elt Ideal) (v.writes (Elt Ideal) f (w1Of harg11 x9)) y = gW1 (lp l x0 x4 x5 x6 x7 x8 x9 x10 x11 x12 x13 x14) y :=
  w1_read (P := (lp l x0 x4 x5 x6 x7 x8 x9 x10 x11 x12 x13 x14)) (fun k g e => congrArg Spec.wt (ldw_at harg11 x9 1792 128 inb_S480x1920_S480x128_0_1792 k g e)) (fun k g e => congrArg Spec.wt (ldw_at harg11 x9 1536 256 inb_S480x1920_S480x256_0_1536 k g e)) (fun k g e => congrArg Spec.wt (ldw_at harg11 x9 1280 256 inb_S480x1920_S480x256_0_1280 k g e)) (fun k g e => congrArg Spec.wt (ldw_at harg11 x9 1024 256 inb_S480x1920_S480x256_0_1024 k g e)) (fun k g e => congrArg Spec.wt (ldw_at harg11 x9 768 256 inb_S480x1920_S480x256_0_768 k g e)) (fun k g e => congrArg Spec.wt (ldw_at harg11 x9 512 256 inb_S480x1920_S480x256_0_512 k g e)) (fun k g e => congrArg Spec.wt (ldw_at harg11 x9 256 256 inb_S480x1920_S480x256_0_256 k g e)) (fun k g e => congrArg Spec.wt (ldw_at harg11 x9 0 256 inb_S480x1920_S480x256_0_0 k g e)) v f hf y

theorem w1Of_fill (v : View sig .tc .vmem S1920x512 .bf16) (y : S1920x512.Idx) :
    v.read (Elt Ideal) (v.writes (Elt Ideal) v.junk (w1Of harg11 x9 ++ [⟨Rect.unit ![0, 0] ![1920, 512] inb_S1920x512_S1920x512_0_0, k0_pay2 (F := Ideal)⟩])) y = gW1 (lp l x0 x4 x5 x6 x7 x8 x9 x10 x11 x12 x13 x14) y := by
  rw [View.writes_append]
  refine w1Of_read harg11 v _ (fun z _ => ?_) y
  refine (View.read_writes_cons_hit_of_coords v _ _ _ _ z z (at2 ?_ ?_)).trans ?_
  · show (z 0).val = 0 + 1 * (z 0).val; omega
  · show (z 1).val = 0 + 1 * (z 1).val; omega
  · pointwise [k0_pay2]

/-- The stores that lay `w2` down. -/
abbrev w2Of (x12 : Vec Ideal S1x1920x480 .i8) : List (View.Piece (Elt Ideal) S480x1920 .bf16) :=
  w2L (ldw harg14 x12 256 224 inb_S1920x480_S1920x224_0_256) (ldw harg14 x12 0 256 inb_S1920x480_S1920x256_0_0)

theorem w2Of_read (v : View sig .tc .vmem S480x1920 .bf16) (f : v.ty.Contents (Elt Ideal)) (y : S480x1920.Idx) :
    v.read (Elt Ideal) (v.writes (Elt Ideal) f (w2Of harg14 x12)) y = gW2 (lp l x0 x4 x5 x6 x7 x8 x9 x10 x11 x12 x13 x14) y :=
  w2_read (P := (lp l x0 x4 x5 x6 x7 x8 x9 x10 x11 x12 x13 x14)) (fun k g e => congrArg Spec.wt (ldw_at harg14 x12 256 224 inb_S1920x480_S1920x224_0_256 k g e)) (fun k g e => congrArg Spec.wt (ldw_at harg14 x12 0 256 inb_S1920x480_S1920x256_0_0 k g e)) v f y

end

section
variable {i : grid0.Coords} (hc1 : k0_cond2 i = 1#1) {arg2 : Memref sig .tc .smem S12x4 .f32} (harg2 : arg2.IsWhole)
  {arg6 : Memref sig .tc .vmem S12x480 .f32} (harg6 : arg6.IsWhole)
  {arg7 : Memref sig .tc .vmem S12x480 .f32} (harg7 : arg7.IsWhole)
  {arg9 : Memref sig .tc .vmem S12x480 .f32} (harg9 : arg9.IsWhole)
  {arg10 : Memref sig .tc .vmem S12x480 .f32} (harg10 : arg10.IsWhole)
  {arg15 : Memref sig .tc .vmem S12x480 .f32} (harg15 : arg15.IsWhole)
  {arg16 : Memref sig .tc .vmem S12x480 .f32} (harg16 : arg16.IsWhole)
  {arg12 : Memref sig .tc .vmem S12x1920 .f32} (harg12 : arg12.IsWhole)
  {arg13 : Memref sig .tc .vmem S12x1920 .f32} (harg13 : arg13.IsWhole)
  (x0 : Vec Ideal S12x4 .f32) (x4 x5 x7 x8 x13 x14 : Vec Ideal S12x480 .f32) (x10 x11 : Vec Ideal S12x1920 .f32)

/-- The stores that lay the folded rows down. -/
abbrev parOf : List (View.Piece (Elt Ideal) S7680x128 .f32) :=
  parL (View.readAt (Elt Ideal) arg2.view (Rect.unit (s := S12x4) (k0_off1 i) S1x1.size (k0_off1_inb i hc1)).toLoadRect (harg2.unread x0) (Shape.Idx.first (show 0 < S1x1.numel from numel1_S1x1.symm ▸ Nat.one_pos))) (View.readAt (Elt Ideal) arg2.view (Rect.unit (s := S12x4) (k0_off2 i) S1x1.size (k0_off2_inb i hc1)).toLoadRect (harg2.unread x0) (Shape.Idx.first (show 0 < S1x1.numel from numel1_S1x1.symm ▸ Nat.one_pos))) (View.readAt (Elt Ideal) arg2.view (Rect.unit (s := S12x4) (k0_off3 i) S1x1.size (k0_off3_inb i hc1)).toLoadRect (harg2.unread x0) (Shape.Idx.first (show 0 < S1x1.numel from numel1_S1x1.symm ▸ Nat.one_pos))) (View.readAt (Elt Ideal) arg6.view (Rect.unit (s := S12x480) (k0_off4 i) S1x480.size (k0_off4_inb i hc1)).toLoadRect (harg6.unread x4)) (View.readAt (Elt Ideal) arg7.view (Rect.unit (s := S12x480) (k0_off4 i) S1x480.size (k0_off4_inb i hc1)).toLoadRect (harg7.unread x5)) (View.readAt (Elt Ideal) arg9.view (Rect.unit (s := S12x480) (k0_off4 i) S1x480.size (k0_off4_inb i hc1)).toLoadRect (harg9.unread x7)) (View.readAt (Elt Ideal) arg10.view (Rect.unit (s := S12x480) (k0_off4 i) S1x480.size (k0_off4_inb i hc1)).toLoadRect (harg10.unread x8)) (View.readAt (Elt Ideal) arg15.view (Rect.unit (s := S12x480) (k0_off4 i) S1x480.size (k0_off4_inb i hc1)).toLoadRect (harg15.unread x13)) (View.readAt (Elt Ideal) arg16.view (Rect.unit (s := S12x480) (k0_off4 i) S1x480.size (k0_off4_inb i hc1)).toLoadRect (harg16.unread x14)) (View.readAt (Elt Ideal) arg12.view (Rect.unit (s := S12x1920) (k0_off5 i) S1x1920.size (k0_off5_inb i hc1)).toLoadRect (harg12.unread x10)) (View.readAt (Elt Ideal) arg13.view (Rect.unit (s := S12x1920) (k0_off5 i) S1x1920.size (k0_off5_inb i hc1)).toLoadRect (harg13.unread x11))

theorem parOf_read (l : Fin 12) (hl : (i 0).val = l.val) (x6 : Vec Ideal S1x480x480 .i8) (x9 : Vec Ideal S1x480x1920 .i8) (x12 : Vec Ideal S1x1920x480 .i8)
    (v : View sig .tc .vmem S7680x128 .f32) (f : v.ty.Contents (Elt Ideal)) (r : Fin 7680) (j : Fin 128) (hr : 960 ≤ r.val) :
    v.read (Elt Ideal) (v.writes (Elt Ideal) f (parOf hc1 harg2 harg6 harg7 harg9 harg10 harg15 harg16 harg12 harg13 x0 x4 x5 x7 x8 x13 x14 x10 x11)) (ix2 r j) = prow (lp l x0 x4 x5 x6 x7 x8 x9 x10 x11 x12 x13 x14) r.val :=
  par_read (P := (lp l x0 x4 x5 x6 x7 x8 x9 x10 x11 x12 x13 x14)) {
    a1 := load_word harg2 x0 l 1 _ ((k0_off1_eq i).trans (by rw [hl]; rfl)) _
    a2 := load_word harg2 x0 l 2 _ ((k0_off2_eq i).trans (by rw [hl]; rfl)) _
    a3 := load_word harg2 x0 l 3 _ ((k0_off3_eq i).trans (by rw [hl]; rfl)) _
    g := fun k => load_row harg6 x4 l _ ((k0_off4_eq i).trans (by rw [hl])) k
    b := fun k => load_row harg7 x5 l _ ((k0_off4_eq i).trans (by rw [hl])) k
    so := fun k => load_row harg9 x7 l _ ((k0_off4_eq i).trans (by rw [hl])) k
    bo := fun k => load_row harg10 x8 l _ ((k0_off4_eq i).trans (by rw [hl])) k
    s2 := fun k => load_row harg15 x13 l _ ((k0_off4_eq i).trans (by rw [hl])) k
    b2 := fun k => load_row harg16 x14 l _ ((k0_off4_eq i).trans (by rw [hl])) k
    s1 := fun k => load_row harg12 x10 l _ ((k0_off5_eq i).trans (by rw [hl])) k
    b1 := fun k => load_row harg13 x11 l _ ((k0_off5_eq i).trans (by rw [hl])) k
  } v f r j hr
end
end Cert.KernelIdeal.Val
end
-- ==== Proof.KernelStage.lean ====
/- The last layer number's points, which write the last block out again, and the blocks the windows stage. -/
module
public import proofs.«01_k».proof.Proof.KernelHold
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

theorem D_out (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : ¬cond0_0 i) (hc1 : ¬cond0_1 i) (hc2 : ¬cond0_2 i) (hc3 : cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32) (xs0 : Vec Ideal S16x480x512 .f32) (xs1 : Vec Ideal S480x512 .bf16) (xs2 : Vec Ideal S1920x512 .bf16) (xs3 : Vec Ideal S480x1920 .bf16) (xs4 : Vec Ideal S7680x128 .f32) (xs5 : Vec Ideal S512x512 .bf16) (xs8 : Vec Ideal S2x24x256 .f32)
    (a : Fin 2) (q : Fin 256) (d : Fin 480) : out0_D_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs3 xs4 xs5 xs8 (ix4 0 a q d) = xs0 (ix3 15 d ⟨256 * a.val + q.val, by omega⟩) := by
  refine (congrArg (fun L => VO0_15.read (Elt Ideal) (VO0_15.writes (Elt Ideal) VO0_15.junk L) (ix4 0 a q d)) (show (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs3 xs4 xs5 xs8).1
    = [⟨Rect.unit ![0, 1, 0, 0] S1x1x256x480.size inb_S1x2x256x480_S1x1x256x480_0_1_0_0, k0_pay10 (View.readAt (Elt Ideal) arg18.view (Rect.unit (s := S16x480x512) ![15, 0, 256] S1x480x256.size inb_S16x480x512_S1x480x256_15_0_256).toLoadRect (harg18.unread xs0))⟩,
      ⟨Rect.unit ![0, 0, 0, 0] S1x1x256x480.size inb_S1x2x256x480_S1x1x256x480_0_0_0_0, k0_pay9 (View.readAt (Elt Ideal) arg18.view (Rect.unit (s := S16x480x512) ![15, 0, 0] S1x480x256.size inb_S16x480x512_S1x480x256_15_0_0).toLoadRect (harg18.unread xs0))⟩] from by
      delta kernelRun0_D; rfl)).trans ?_
  obtain rfl | rfl : a = 0 ∨ a = 1 := by omega
  · refine (View.read_writes_cons_miss_of_axis VO0_15 _ _ _ _ 1 1 1 rfl rfl rfl (Or.inl (show (0 : ℕ) < 1 by omega))).trans ?_
    refine (View.read_writes_cons_hit_of_coords VO0_15 _ _ _ _ (ix4 0 0 q d) _ (at4 rfl rfl ?_ ?_)).trans ?_
    · show q.val = 0 + 1 * q.val; omega
    · show d.val = 0 + 1 * d.val; omega
    · refine (last_first _ q d).trans (rdw harg18 xs0 _ _ (at3 rfl ?_ ?_))
      · exact (Nat.zero_add _).symm
      · show 256 * 0 + q.val = 0 + q.val; omega
  · refine (View.read_writes_cons_hit_of_coords VO0_15 _ _ _ _ (ix4 0 0 q d) _ (at4 rfl rfl ?_ ?_)).trans ?_
    · show q.val = 0 + 1 * q.val; omega
    · show d.val = 0 + 1 * d.val; omega
    · refine (last_second _ q d).trans (rdw harg18 xs0 _ _ (at3 rfl ?_ ?_))
      · exact (Nat.zero_add _).symm
      · show 256 * 1 + q.val = 256 + q.val; omega

/-! ## What the windows stage -/

theorem c0 : ∀ t : Fin cfg0.N, ((grid0.coords t) 0).val = t.val / 16 := by decide +kernel
theorem c1 : ∀ t : Fin cfg0.N, ((grid0.coords t) 1).val = t.val % 16 := by decide +kernel
theorem e0 : ∀ t : Fin cfg0.N, win0_0.index t = fun _ => 0 := by decide +kernel
theorem e4 : ∀ t : Fin cfg0.N, win0_4.index t = fun _ => 0 := by decide +kernel
theorem e5 : ∀ t : Fin cfg0.N, win0_5.index t = fun _ => 0 := by decide +kernel
theorem e7 : ∀ t : Fin cfg0.N, win0_7.index t = fun _ => 0 := by decide +kernel
theorem e8 : ∀ t : Fin cfg0.N, win0_8.index t = fun _ => 0 := by decide +kernel
theorem e10 : ∀ t : Fin cfg0.N, win0_10.index t = fun _ => 0 := by decide +kernel
theorem e11 : ∀ t : Fin cfg0.N, win0_11.index t = fun _ => 0 := by decide +kernel
theorem e13 : ∀ t : Fin cfg0.N, win0_13.index t = fun _ => 0 := by decide +kernel
theorem e14 : ∀ t : Fin cfg0.N, win0_14.index t = fun _ => 0 := by decide +kernel
theorem e1 : ∀ t : Fin cfg0.N, t.val < 16 → win0_1.index t = ![t.val, 0, 0] := by decide +kernel
theorem e2 : ∀ t : Fin cfg0.N, t.val < 192 → win0_2.index t = ![t.val / 16, t.val % 16, 0, 0] := by decide +kernel
theorem e3 : ∀ t : Fin cfg0.N, t.val < 192 → win0_3.index t = ![t.val / 16, t.val % 16, 0, 0] := by decide +kernel
theorem e6 : ∀ t : Fin cfg0.N, t.val < 192 → win0_6.index t = ![t.val / 16, 0, 0] := by decide +kernel
theorem e9 : ∀ t : Fin cfg0.N, t.val < 192 → win0_9.index t = ![t.val / 16, 0, 0] := by decide +kernel
theorem e12 : ∀ t : Fin cfg0.N, t.val < 192 → win0_12.index t = ![t.val / 16, 0, 0] := by decide +kernel
theorem e15 : ∀ t : Fin cfg0.N, t.val < 192 → win0_15.index t = ![t.val / 16, t.val % 16, 0, 0] := by decide +kernel
theorem e15' : ∀ t : Fin cfg0.N, 192 ≤ t.val → win0_15.index t = ![11, 15, 0, 0] := by decide +kernel

section
variable (m : (ℓ : Loc nD τ sig) → Buf (Elt Ideal) ℓ) (c : Dev nD) (t : Fin cfg0.N)

theorem blk0 : iblk m c 0 t = m ((c : Thread nD τ).loc main_arg14) := by
  funext y
  blk_ext [iblk, V, e0 t]
theorem blk4 : iblk m c 4 t = m ((c : Thread nD τ).loc main_arg3) := by
  funext y
  blk_ext [iblk, V, e4 t]
theorem blk5 : iblk m c 5 t = m ((c : Thread nD τ).loc main_arg4) := by
  funext y
  blk_ext [iblk, V, e5 t]
theorem blk7 : iblk m c 7 t = m ((c : Thread nD τ).loc main_arg6) := by
  funext y
  blk_ext [iblk, V, e7 t]
theorem blk8 : iblk m c 8 t = m ((c : Thread nD τ).loc main_arg7) := by
  funext y
  blk_ext [iblk, V, e8 t]
theorem blk10 : iblk m c 10 t = m ((c : Thread nD τ).loc main_arg9) := by
  funext y
  blk_ext [iblk, V, e10 t]
theorem blk11 : iblk m c 11 t = m ((c : Thread nD τ).loc main_arg10) := by
  funext y
  blk_ext [iblk, V, e11 t]
theorem blk13 : iblk m c 13 t = m ((c : Thread nD τ).loc main_arg12) := by
  funext y
  blk_ext [iblk, V, e13 t]
theorem blk14 : iblk m c 14 t = m ((c : Thread nD τ).loc main_arg13) := by
  funext y
  blk_ext [iblk, V, e14 t]
theorem blk1 (h : t.val < 16) (a : Fin 2) (q : Fin 256) (d : Fin 480) : iblk m c 1 t (ix3 a q d) = m ((c : Thread nD τ).loc main_arg0) (ix3 ⟨2 * t.val + a.val, by omega⟩ q d) := by
  blk_ext [iblk, V, e1 t h]
theorem blk2 (h : t.val < 192) (a : Fin 2) (q : Fin 256) (d : Fin 480) : iblk m c 2 t (ix4 0 a q d) = m ((c : Thread nD τ).loc main_arg1) (ix4 ⟨t.val / 16, by omega⟩ ⟨2 * (t.val % 16) + a.val, by omega⟩ q d) := by
  blk_ext [iblk, V, e2 t h]
theorem blk3 (h : t.val < 192) (a : Fin 2) (d : Fin 20) (q : Fin 256) : iblk m c 3 t (ix4 0 a d q) = m ((c : Thread nD τ).loc main_arg2) (ix4 ⟨t.val / 16, by omega⟩ ⟨2 * (t.val % 16) + a.val, by omega⟩ d q) := by
  blk_ext [iblk, V, e3 t h]
theorem blk6 (h : t.val < 192) (a : Fin 480) (b : Fin 480) : iblk m c 6 t (ix3 0 a b) = m ((c : Thread nD τ).loc main_arg5) (ix3 ⟨t.val / 16, by omega⟩ a b) := by
  blk_ext [iblk, V, e6 t h]
theorem blk9 (h : t.val < 192) (a : Fin 480) (b : Fin 1920) : iblk m c 9 t (ix3 0 a b) = m ((c : Thread nD τ).loc main_arg8) (ix3 ⟨t.val / 16, by omega⟩ a b) := by
  blk_ext [iblk, V, e9 t h]
theorem blk12 (h : t.val < 192) (a : Fin 1920) (b : Fin 480) : iblk m c 12 t (ix3 0 a b) = m ((c : Thread nD τ).loc main_arg11) (ix3 ⟨t.val / 16, by omega⟩ a b) := by
  blk_ext [iblk, V, e12 t h]
end
end Cert.KernelIdeal.Val
end
-- ==== Proof.KernelGrid.lean ====
/- What the running buffers hold after each grid point, stated, and one point's layer as the reference's layer. -/
module
public import proofs.«01_k».proof.Proof.KernelStage
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

variable (m : (ℓ : Loc nD τ sig) → Buf (Elt Ideal) ℓ) (c : Dev nD)

/-- The parameters, off the launch memory. -/
def lays : Fin 12 → Spec.Par :=
  Spec.layer (m ((c : Thread nD τ).loc main_arg14)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))

/-- Token `k` of block `j` after `n` layers. -/
def row (j k n : ℕ) (d : Fin 480) : EReal :=
  Spec.tok root (lays m c) (m ((c : Thread nD τ).loc main_arg0)) (m ((c : Thread nD τ).loc main_arg1)) (m ((c : Thread nD τ).loc main_arg2))
    ⟨(2 * j + k / 256) % 32, Nat.mod_lt _ (by norm_num)⟩ ⟨k % 256, Nat.mod_lt _ (by norm_num)⟩ n d

/-- How many layers block `r` has been through after point `n`. -/
def cnt (n r : ℕ) : ℕ := min 12 (if r ≤ n % 16 then n / 16 + 1 else n / 16)

/-- What the buffers hold after point `n`: every block's stream, the layer's parameters, and the block written out. -/
structure Inv (n : ℕ) (hn : n < cfg0.N) : Prop where
  h : ∀ (r : Fin 16) (d : Fin 480) (k : Fin 512), 0 < cnt n r.val → (outsAt0 m c n hn).2.1 (ix3 r d k) = row m c r.val k.val (cnt n r.val) d
  wo : n < 192 → ∀ y, (outsAt0 m c n hn).2.2.1 y = gWo (lays m c (Spec.num (n / 16))) y
  w1 : n < 192 → ∀ y, (outsAt0 m c n hn).2.2.2.1 y = gW1 (lays m c (Spec.num (n / 16))) y
  w2 : n < 192 → ∀ y, (outsAt0 m c n hn).2.2.2.2.1 y = gW2 (lays m c (Spec.num (n / 16))) y
  par : n < 192 → ∀ (r : Fin 7680) j, 960 ≤ r.val → (outsAt0 m c n hn).2.2.2.2.2.1 (ix2 r j) = prow (lays m c (Spec.num (n / 16))) r.val
  o : ∀ (a : Fin 2) (q : Fin 256) (d : Fin 480),
    (outsAt0 m c n hn).1 (ix4 0 a q d) = row m c (if n < 192 then n % 16 else 15) (256 * a.val + q.val) (min 12 (n / 16 + 1)) d

variable (t : Fin cfg0.N)

theorem num_eq (h : t.val < 192) (w) : (⟨t.val / 16, w⟩ : Fin 12) = Spec.num (t.val / 16) :=
  Fin.ext (Nat.mod_eq_of_lt w).symm

theorem lp_eq (h : t.val < 192) :
    lp (Spec.num (t.val / 16)) (iblk m c 0 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) = lays m c (Spec.num (t.val / 16)) := by
  rw [← num_eq t h (by omega), blk0, blk4, blk5, blk7, blk8, blk10, blk11, blk13, blk14]
  unfold lp lays Spec.layer
  congr 1
  · exact funext fun k => funext fun d => congrArg Spec.wt (blk6 m c t h k d)
  · exact funext fun k => funext fun d => congrArg Spec.wt (blk9 m c t h k d)
  · exact funext fun k => funext fun d => congrArg Spec.wt (blk12 m c t h k d)

theorem inv480_eq : inv480 = ((1 / 480 : ℝ) : EReal) := by
  simp [inv480, Named.named, κ]

theorem root_eq : root = (((Real.sqrt 2)⁻¹ : ℝ) : EReal) := by
  simp [root, Named.named, κ]

theorem blk0_at (l : Fin 12) (n : Fin 4) : iblk m c 0 t (ix2 l n) = m ((c : Thread nD τ).loc main_arg14) (ix2 l n) := by rw [blk0]

theorem kout_row (h : t.val < 192) (hpos : ∀ i, (0 : EReal) < (m ((c : Thread nD τ).loc main_arg14) : Vec Ideal S12x4 .f32) i)
    (hden : ∀ i, (m ((c : Thread nD τ).loc main_arg2) : Vec Ideal S12x32x20x256 .f32) i ≠ (0 : EReal)) (k : Fin 512) (d : Fin 480) :
    Spec.kout inv480 root (lays m c (Spec.num (t.val / 16))) (Pt.ms (lays m c (Spec.num (t.val / 16)))
      (fun k d => row m c (t.val % 16) k.val (t.val / 16) d) (raws (iblk m c 2 t)) (dens (iblk m c 3 t)) k) d
      = row m c (t.val % 16) k.val (t.val / 16 + 1) d := by
  have hs : (⟨2 * (t.val % 16) + k.val / 256, by omega⟩ : Fin 32) = ⟨(2 * (t.val % 16) + k.val / 256) % 32, Nat.mod_lt _ (by norm_num)⟩ :=
    Fin.ext (Nat.mod_eq_of_lt (by omega)).symm
  have hr : ∀ e, raws (iblk m c 2 t) e k = m ((c : Thread nD τ).loc main_arg1)
      (ix4 (Spec.num (t.val / 16)) ⟨(2 * (t.val % 16) + k.val / 256) % 32, Nat.mod_lt _ (by norm_num)⟩ ⟨k.val % 256, Nat.mod_lt _ (by norm_num)⟩ e) := fun e => by
    rw [← hs, ← num_eq t h (by omega)]
    exact blk2 m c t h ⟨k.val / 256, by omega⟩ ⟨k.val % 256, by omega⟩ e
  have hd : ∀ e, dens (iblk m c 3 t) e k = m ((c : Thread nD τ).loc main_arg2)
      (ix4 (Spec.num (t.val / 16)) ⟨(2 * (t.val % 16) + k.val / 256) % 32, Nat.mod_lt _ (by norm_num)⟩ e ⟨k.val % 256, Nat.mod_lt _ (by norm_num)⟩) := fun e => by
    rw [← hs, ← num_eq t h (by omega)]
    exact blk3 m c t h ⟨k.val / 256, by omega⟩ e ⟨k.val % 256, by omega⟩
  refine (Spec.kstep_eq inv480_eq root_eq (lays m c (Spec.num (t.val / 16))) (fun e => raws (iblk m c 2 t) e k)
    (fun e => dens (iblk m c 3 t) (Spec.head e) k) (row m c (t.val % 16) k.val (t.val / 16))
    (hpos _) (hpos _) (hpos _) (fun e => by rw [hd]; exact hden _) d).trans ?_
  simp only [hr, hd]
  rfl

/-- What a point of the first layer reads of the stream it is given. -/
theorem given (h : t.val < 192) (h' : (Spec.num (t.val / 16)).val = 0) (k : Fin 512) (d : Fin 480) :
    iblk m c 1 t (ix3 ⟨k.val / 256, by omega⟩ ⟨k.val % 256, by omega⟩ d) = row m c (t.val % 16) k.val (t.val / 16) d := by
  have e : t.val / 16 = 0 := by have : t.val / 16 % 12 = 0 := h'; omega
  rw [e, blk1 m c t (by omega)]
  have hs : (⟨2 * t.val + k.val / 256, by omega⟩ : Fin 32) = ⟨(2 * (t.val % 16) + k.val / 256) % 32, Nat.mod_lt _ (by norm_num)⟩ :=
    Fin.ext (by rw [Nat.mod_eq_of_lt (a := t.val) (by omega)]; exact (Nat.mod_eq_of_lt (by omega)).symm)
  rw [hs]
  rfl

theorem row_congr {j j' k k' n n' : ℕ} (hj : j = j') (hk : k = k') (hn : n = n') (d : Fin 480) : row m c j k n d = row m c j' k' n' d := by
  subst hj hk hn; rfl

theorem l_eq (h : t.val < 192) : ((grid0.coords t) 0).val = (Spec.num (t.val / 16)).val := by
  rw [c0]; exact (Nat.mod_eq_of_lt (by omega)).symm
end Cert.KernelIdeal.Val
end
-- ==== Proof.KernelRunA.lean ====
/- What the stores of a point of case A leave, as pieces. -/
module
public import proofs.«01_k».proof.Proof.Spec
public import proofs.«01_k».proof.Proof.KernelBody
public import proofs.«01_k».proof.Proof.KernelLists
public import proofs.«01_k».proof.Proof.KernelPoint
public import proofs.«01_k».proof.Proof.Gen.KernelIdeal.Value
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

attribute [local irreducible] k0_pay1 k0_pay2 k0_pay3 k0_pay4 k0_pay5 k0_pay6 k0_pay7 k0_pay8 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay88 k0_pay89 k0_pay90 k0_pay91 k0_pay92 k0_pay93 k0_pay94 k0_pay95 k0_pay96 k0_pay97 k0_pay98 k0_pay99 k0_pay100 k0_pay101 k0_pay102 k0_pay103 k0_pay104 k0_pay105 k0_pay106 k0_pay107 k0_pay108 k0_pay109 k0_pay110 k0_pay111 k0_pay112 k0_pay113 k0_pay114 k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133 k0_pay134 k0_pay135 k0_pay136 k0_pay137 k0_pay138 k0_pay139 k0_pay140 k0_pay141 k0_pay142 k0_pay143 k0_pay144 k0_pay145 k0_pay146 k0_pay147 k0_pay148 k0_pay149 k0_pay150 k0_pay151 k0_pay152 k0_pay153 k0_pay154 k0_pay155 k0_pay156 k0_pay157 k0_pay158 k0_pay159 k0_pay160 k0_pay161 k0_pay162 k0_pay163 k0_pay164 k0_pay165 k0_pay166 k0_pay167 k0_pay168 k0_pay169 k0_pay170 k0_pay171 k0_pay172 k0_pay173 k0_pay174 k0_pay175 k0_pay176 k0_pay177 k0_pay178 k0_pay179 k0_pay180 k0_pay181
section
variable (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : cond0_0 i) (hc1 : cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32)
set_option maxHeartbeats 4000000 in
theorem A_xt1 : kernelRun0_A.sl.HS5_2 c i arg2 harg2 arg4 harg4 arg5 harg5 arg25 arg26 hc2 x0 x2 x3 = Pt.xt1 (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1) ++ [⟨Rect.unit ![0, 0] ![512, 512] inb_S512x512_S512x512_0_0, k0_pay3 (F := Ideal)⟩] := by
  delta kernelRun0_A.sl.HS5_2 kernelRun0_A.sl.v440 kernelRun0_A.sl.r_65 kernelRun0_A.sl.v430 kernelRun0_A.sl.r_46 kernelRun0_A.sl.v246 kernelRun0_A.sl.r_19 kernelRun0_A.sl.r_18 kernelRun0_A.sl.r_64 kernelRun0_A.sl.v420 kernelRun0_A.sl.r_63 kernelRun0_A.sl.v410 kernelRun0_A.sl.r_62 kernelRun0_A.sl.v400 kernelRun0_A.sl.r_61 kernelRun0_A.sl.v390 kernelRun0_A.sl.r_60 kernelRun0_A.sl.v380 kernelRun0_A.sl.r_59 kernelRun0_A.sl.v370 kernelRun0_A.sl.r_58 kernelRun0_A.sl.v360 kernelRun0_A.sl.r_57 kernelRun0_A.sl.v350 kernelRun0_A.sl.r_56 kernelRun0_A.sl.v340 kernelRun0_A.sl.r_55 kernelRun0_A.sl.v330 kernelRun0_A.sl.r_54 kernelRun0_A.sl.v320 kernelRun0_A.sl.r_53 kernelRun0_A.sl.v310 kernelRun0_A.sl.r_52 kernelRun0_A.sl.v300 kernelRun0_A.sl.r_51 kernelRun0_A.sl.v290 kernelRun0_A.sl.r_50 kernelRun0_A.sl.v280 kernelRun0_A.sl.r_49 kernelRun0_A.sl.v270 kernelRun0_A.sl.r_48 kernelRun0_A.sl.v260 kernelRun0_A.sl.r_47 kernelRun0_A.sl.v250 kernelRun0_A.sl.r_45 kernelRun0_A.sl.r_44 kernelRun0_A.sl.v235 kernelRun0_A.sl.r_20 kernelRun0_A.sl.v41 kernelRun0_A.sl.r_43 kernelRun0_A.sl.v225 kernelRun0_A.sl.r_42 kernelRun0_A.sl.v215 kernelRun0_A.sl.r_41 kernelRun0_A.sl.v205 kernelRun0_A.sl.r_40 kernelRun0_A.sl.r_39 kernelRun0_A.sl.v195 kernelRun0_A.sl.r_38 kernelRun0_A.sl.v185 kernelRun0_A.sl.r_37 kernelRun0_A.sl.v175 kernelRun0_A.sl.r_36 kernelRun0_A.sl.v165 kernelRun0_A.sl.r_35 kernelRun0_A.sl.r_34 kernelRun0_A.sl.v155 kernelRun0_A.sl.r_33 kernelRun0_A.sl.v145 kernelRun0_A.sl.r_32 kernelRun0_A.sl.v135_1 kernelRun0_A.sl.r_31 kernelRun0_A.sl.v125 kernelRun0_A.sl.r_30 kernelRun0_A.sl.r_29 kernelRun0_A.sl.v115 kernelRun0_A.sl.r_28 kernelRun0_A.sl.v105 kernelRun0_A.sl.r_27 kernelRun0_A.sl.v95 kernelRun0_A.sl.r_26 kernelRun0_A.sl.v85 kernelRun0_A.sl.r_25 kernelRun0_A.sl.r_24 kernelRun0_A.sl.v75 kernelRun0_A.sl.r_23 kernelRun0_A.sl.v65 kernelRun0_A.sl.r_22 kernelRun0_A.sl.v55 kernelRun0_A.sl.r_21 kernelRun0_A.sl.v45
  rfl
theorem A_hin : kernelRun0_A.sl.r_66 c i arg3 harg3 arg18 hc2 x1 = Pt.hin (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1) := by
  delta kernelRun0_A.sl.r_66 kernelRun0_A.sl.HS0_1
  try delta View.readCov
  rfl
theorem A_bo : kernelRun0_A.sl.v474 c i arg2 harg2 arg6 harg6 arg7 harg7 arg9 harg9 arg10 harg10 arg12 harg12 arg13 harg13 arg15 harg15 arg16 harg16 arg22 hc1 x0 x4 x5 x7 x8 x10 x11 x13 x14 = Pt.bo (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1) := by
  delta kernelRun0_A.sl.v474
  try delta View.readCov
  rfl
theorem A_first : kernelRun0_A.sl.v469 c i arg2 harg2 arg4 harg4 arg5 harg5 arg23 arg25 arg26 hc2 x0 x2 x3 = View.readAt (Elt Ideal) arg23.view (Rect.unit (s := S512x512) ![0, 0] S512x512.size inb_S512x512_S512x512_0_0).toLoadRect (arg23.view.writes (Elt Ideal) (arg23.view.writes (Elt Ideal) arg23.view.junk [⟨Rect.unit ![0, 0] ![512, 512] inb_S512x512_S512x512_0_0, k0_pay3 (F := Ideal)⟩]) (Pt.xt1 (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1))) := by
  delta kernelRun0_A.sl.v469
  try delta View.readCov
  rw [A_xt1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14] <;> rfl
theorem A_proj : kernelRun0_A.sl.r_67 c i arg2 harg2 arg4 harg4 arg5 harg5 arg6 harg6 arg7 harg7 arg8 harg8 arg9 harg9 arg10 harg10 arg12 harg12 arg13 harg13 arg15 harg15 arg16 harg16 arg19 arg22 arg23 arg25 arg26 hc1 hc2 x0 x2 x3 x4 x5 x6 x7 x8 x10 x11 x13 x14 = Pt.proj (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1) := by
  delta kernelRun0_A.sl.r_67 kernelRun0_A.sl.v471 kernelRun0_A.sl.v468
  try delta View.readCov
  rw [A_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14] <;> (delta Pt.proj Pt.par ptOf; dsimp only; try rfl)
theorem A_mid : kernelRun0_A.sl.HS0_2 c i arg2 harg2 arg3 harg3 arg4 harg4 arg5 harg5 arg6 harg6 arg7 harg7 arg8 harg8 arg9 harg9 arg10 harg10 arg12 harg12 arg13 harg13 arg15 harg15 arg16 harg16 arg18 arg19 arg22 arg23 arg25 arg26 hc1 hc2 x0 x1 x2 x3 x4 x5 x6 x7 x8 x10 x11 x13 x14 = Pt.mid (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1) ++ [⟨Rect.unit ![0, 0, 0] ![16, 480, 512] inb_S16x480x512_S16x480x512_0_0_0, k0_pay5 (F := Ideal)⟩] := by
  delta kernelRun0_A.sl.HS0_2 kernelRun0_A.sl.HS0_1
  try delta View.readCov
  rw [A_hin c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14, A_proj c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14, A_bo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14] <;> rfl
theorem A_xt2 : kernelRun0_A.sl.HS5_3 c i arg2 harg2 arg3 harg3 arg4 harg4 arg5 harg5 arg6 harg6 arg7 harg7 arg8 harg8 arg9 harg9 arg10 harg10 arg12 harg12 arg13 harg13 arg15 harg15 arg16 harg16 arg18 arg19 arg22 arg23 arg25 arg26 hc1 hc2 x0 x1 x2 x3 x4 x5 x6 x7 x8 x10 x11 x13 x14 = Pt.xt2 (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1) ++ [⟨Rect.unit ![0, 0] ![512, 512] inb_S512x512_S512x512_0_0, k0_pay3 (F := Ideal)⟩] := by
  delta kernelRun0_A.sl.HS5_3 kernelRun0_A.sl.v741 kernelRun0_A.sl.v738 kernelRun0_A.sl.r_86 kernelRun0_A.sl.r_80 kernelRun0_A.sl.r_76 kernelRun0_A.sl.r_70 kernelRun0_A.sl.r_68 kernelRun0_A.sl.r_75 kernelRun0_A.sl.r_69 kernelRun0_A.sl.r_74 kernelRun0_A.sl.r_72 kernelRun0_A.sl.r_73 kernelRun0_A.sl.r_71 kernelRun0_A.sl.r_78 kernelRun0_A.sl.r_85 kernelRun0_A.sl.r_79 kernelRun0_A.sl.r_84 kernelRun0_A.sl.r_82 kernelRun0_A.sl.r_83 kernelRun0_A.sl.r_81 kernelRun0_A.sl.r_77
  try delta View.readCov
  rw [A_hin c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14, A_proj c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14, A_bo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14, A_xt1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14] <;> rfl
theorem A_xt : kernelRun0_A.sl.v756 c i arg2 harg2 arg3 harg3 arg4 harg4 arg5 harg5 arg6 harg6 arg7 harg7 arg8 harg8 arg9 harg9 arg10 harg10 arg12 harg12 arg13 harg13 arg15 harg15 arg16 harg16 arg18 arg19 arg22 arg23 arg25 arg26 hc1 hc2 x0 x1 x2 x3 x4 x5 x6 x7 x8 x10 x11 x13 x14 = Pt.xt (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1) := by
  delta kernelRun0_A.sl.v756
  try delta View.readCov
  rw [A_xt2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14] <;> rfl
theorem A_hid : kernelRun0_A.sl.HS6_4 c i arg2 harg2 arg3 harg3 arg4 harg4 arg5 harg5 arg6 harg6 arg7 harg7 arg8 harg8 arg9 harg9 arg10 harg10 arg11 harg11 arg12 harg12 arg13 harg13 arg15 harg15 arg16 harg16 arg18 arg19 arg20 arg22 arg23 arg25 arg26 hc1 hc2 x0 x1 x2 x3 x4 x5 x6 x7 x8 x9 x10 x11 x13 x14 = Pt.hid (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1) := by
  delta kernelRun0_A.sl.HS6_4 kernelRun0_A.sl.v762 kernelRun0_A.sl.v759 kernelRun0_A.sl.v757 kernelRun0_A.sl.cst_254 kernelRun0_A.sl.r_87 kernelRun0_A.sl.r_89 kernelRun0_A.sl.v785 kernelRun0_A.sl.v782 kernelRun0_A.sl.v780 kernelRun0_A.sl.r_88 kernelRun0_A.sl.v808 kernelRun0_A.sl.v805 kernelRun0_A.sl.v803 kernelRun0_A.sl.v831 kernelRun0_A.sl.v828 kernelRun0_A.sl.r_90 kernelRun0_A.sl.v826
  try delta View.readCov
  rw [A_xt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14] <;> (delta Pt.hid Pt.par Pt.wrow ptOf; dsimp only; try rfl)
theorem A_lm : kernelRun0_A.sl.v850 c i arg2 harg2 arg3 harg3 arg4 harg4 arg5 harg5 arg6 harg6 arg7 harg7 arg8 harg8 arg9 harg9 arg10 harg10 arg12 harg12 arg13 harg13 arg15 harg15 arg16 harg16 arg18 arg19 arg22 arg23 arg25 arg26 hc1 hc2 x0 x1 x2 x3 x4 x5 x6 x7 x8 x10 x11 x13 x14 = Pt.lm (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1) := by
  delta kernelRun0_A.sl.v850
  try delta View.readCov
  rw [A_mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14] <;> rfl
theorem A_lh : kernelRun0_A.sl.v853 c i arg2 harg2 arg3 harg3 arg4 harg4 arg5 harg5 arg6 harg6 arg7 harg7 arg8 harg8 arg9 harg9 arg10 harg10 arg11 harg11 arg12 harg12 arg13 harg13 arg15 harg15 arg16 harg16 arg18 arg19 arg20 arg22 arg23 arg24 arg25 arg26 hc1 hc2 x0 x1 x2 x3 x4 x5 x6 x7 x8 x9 x10 x11 x13 x14 = Pt.lh (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1) := by
  delta kernelRun0_A.sl.v853
  try delta View.readCov
  rw [A_hid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14] <;> rfl
theorem A_new : kernelRun0_A.sl.r_91 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14 = Pt.new (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1) := by
  delta kernelRun0_A.sl.r_91 kernelRun0_A.sl.v858 kernelRun0_A.sl.v855 kernelRun0_A.sl.v852
  try delta View.readCov
  rw [A_lm c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14, A_lh c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14] <;> (delta Pt.new Pt.lw Pt.ls Pt.lb Pt.par ptOf; dsimp only; try rfl)
theorem A_pre : kernelRun0_A.sl.r_92 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14 = k0_pay181 (Pt.lm (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1)) (Pt.lw (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1)) (Pt.lh (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1)) (Pt.ls (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1)) (Pt.lb (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1)) := by
  delta kernelRun0_A.sl.r_92 kernelRun0_A.sl.v858 kernelRun0_A.sl.v855 kernelRun0_A.sl.v852
  try delta View.readCov
  rw [A_lm c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14, A_lh c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14] <;> (delta Pt.lw Pt.ls Pt.lb Pt.par ptOf; dsimp only; try rfl)
theorem A_outs : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14).1 = Pt.outs (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1) := by
  delta kernelRun0_A
  dsimp only
  try delta View.readCov
  rw [A_new c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14, A_pre c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14] <;> rfl
theorem A_kept : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14).2.1 = Pt.kept (ptOf i hc2 arg2 harg2 arg3 harg3 arg18 arg19 arg20 arg21 arg22 arg23 arg24 arg25 arg26 (arg18.view.writes (Elt Ideal) arg18.view.junk [⟨Rect.unit ![0, 0, 0] ![16, 480, 512] inb_S16x480x512_S16x480x512_0_0_0, k0_pay5 (F := Ideal)⟩]) (arg18.view.writes (Elt Ideal) arg18.view.junk [⟨Rect.unit ![0, 0, 0] ![16, 480, 512] inb_S16x480x512_S16x480x512_0_0_0, k0_pay5 (F := Ideal)⟩]) (arg19.view.writes (Elt Ideal) arg19.view.junk (kernelRun0_A.sl.HS1_3 c arg8 harg8 x6)) (arg20.view.writes (Elt Ideal) arg20.view.junk (kernelRun0_A.sl.HS2_9 c arg11 harg11 x9)) (arg21.view.writes (Elt Ideal) arg21.view.junk (kernelRun0_A.sl.HS3_2 c arg14 harg14 x12)) (arg22.view.writes (Elt Ideal) arg22.view.junk (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (arg23.view.writes (Elt Ideal) arg23.view.junk [⟨Rect.unit ![0, 0] ![512, 512] inb_S512x512_S512x512_0_0, k0_pay3 (F := Ideal)⟩]) arg24.view.junk (arg26.view.writes (Elt Ideal) arg26.view.junk (kernelRun0_A.sl.HS8_3 c arg5 harg5 x3)) (kernelRun0_A.sl.HS7_2 c arg4 harg4 x2) x0 x1) ++ [⟨Rect.unit ![0, 0, 0] ![16, 480, 512] inb_S16x480x512_S16x480x512_0_0_0, k0_pay5 (F := Ideal)⟩] := by
  delta kernelRun0_A
  dsimp only
  try delta View.readCov
  rw [A_lm c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14, A_lh c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14, A_mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 arg22 arg23 arg24 arg25 arg26 hc1 hc2 x0 x1 x2 x3 x4 x5 x6 x7 x8 x9 x10 x11 x12 x13 x14] <;> (delta Pt.kept Pt.lw Pt.ls Pt.lb Pt.par ptOf; dsimp only; try rfl)
set_option maxHeartbeats 2000000 in
theorem A_ctx : kernelRun0_A.sl.HS7_2 c arg4 harg4 x2 = ctxL (View.readAt (Elt Ideal) arg4.view (Rect.unit (s := S1x2x256x480) ![0, 0, 0, 0] S1x1x256x480.size inb_S1x2x256x480_S1x1x256x480_0_0_0_0).toLoadRect (harg4.unread x2)) (View.readAt (Elt Ideal) arg4.view (Rect.unit (s := S1x2x256x480) ![0, 1, 0, 0] S1x1x256x480.size inb_S1x2x256x480_S1x1x256x480_0_1_0_0).toLoadRect (harg4.unread x2)) := by
  delta kernelRun0_A.sl.HS7_2
  rfl
set_option maxHeartbeats 2000000 in
theorem A_den : kernelRun0_A.sl.HS8_3 c arg5 harg5 x3 = denL (View.readAt (Elt Ideal) arg5.view (Rect.unit (s := S1x2x20x256) ![0, 0, 0, 0] S1x1x20x256.size inb_S1x2x20x256_S1x1x20x256_0_0_0_0).toLoadRect (harg5.unread x3)) (View.readAt (Elt Ideal) arg5.view (Rect.unit (s := S1x2x20x256) ![0, 1, 0, 0] S1x1x20x256.size inb_S1x2x20x256_S1x1x20x256_0_1_0_0).toLoadRect (harg5.unread x3)) ++ [⟨Rect.unit ![0, 0, 0] ![2, 24, 256] inb_S2x24x256_S2x24x256_0_0_0, k0_pay4 (F := Ideal)⟩] := by
  delta kernelRun0_A.sl.HS8_3
  rfl
set_option maxHeartbeats 2000000 in
theorem A_wo : kernelRun0_A.sl.HS1_3 c arg8 harg8 x6 = woL (ldw harg8 x6 256 224 inb_S480x480_S480x224_0_256) (ldw harg8 x6 0 256 inb_S480x480_S480x256_0_0) ++ [⟨Rect.unit ![0, 0] ![480, 512] inb_S480x512_S480x512_0_0, k0_pay1 (F := Ideal)⟩] := by
  delta kernelRun0_A.sl.HS1_3 kernelRun0_A.sl.v30 kernelRun0_A.sl.cst_24 kernelRun0_A.sl.r kernelRun0_A.sl.v51
  rfl
set_option maxHeartbeats 2000000 in
theorem A_w1 : kernelRun0_A.sl.HS2_9 c arg11 harg11 x9 = w1L (ldw harg11 x9 1792 128 inb_S480x1920_S480x128_0_1792) (ldw harg11 x9 1536 256 inb_S480x1920_S480x256_0_1536) (ldw harg11 x9 1280 256 inb_S480x1920_S480x256_0_1280) (ldw harg11 x9 1024 256 inb_S480x1920_S480x256_0_1024) (ldw harg11 x9 768 256 inb_S480x1920_S480x256_0_768) (ldw harg11 x9 512 256 inb_S480x1920_S480x256_0_512) (ldw harg11 x9 256 256 inb_S480x1920_S480x256_0_256) (ldw harg11 x9 0 256 inb_S480x1920_S480x256_0_0) ++ [⟨Rect.unit ![0, 0] ![1920, 512] inb_S1920x512_S1920x512_0_0, k0_pay2 (F := Ideal)⟩] := by
  delta kernelRun0_A.sl.HS2_9 kernelRun0_A.sl.v72 kernelRun0_A.sl.v93 kernelRun0_A.sl.v114 kernelRun0_A.sl.v135 kernelRun0_A.sl.v156 kernelRun0_A.sl.v177 kernelRun0_A.sl.v164 kernelRun0_A.sl.v163 kernelRun0_A.sl.r_1 kernelRun0_A.sl.v198 kernelRun0_A.sl.v219
  rfl
set_option maxHeartbeats 2000000 in
theorem A_w2 : kernelRun0_A.sl.HS3_2 c arg14 harg14 x12 = w2L (ldw harg14 x12 256 224 inb_S1920x480_S1920x224_0_256) (ldw harg14 x12 0 256 inb_S1920x480_S1920x256_0_0) := by
  delta kernelRun0_A.sl.HS3_2 kernelRun0_A.sl.v240 kernelRun0_A.sl.v261
  rfl
set_option maxHeartbeats 2000000 in
theorem A_par : kernelRun0_A.sl.HS4_55 c i arg2 harg2 arg6 harg6 arg7 harg7 arg9 harg9 arg10 harg10 arg12 harg12 arg13 harg13 arg15 harg15 arg16 harg16 hc1 x0 x4 x5 x7 x8 x10 x11 x13 x14 = parL (View.readAt (Elt Ideal) arg2.view (Rect.unit (s := S12x4) (k0_off1 i) S1x1.size (k0_off1_inb i hc1)).toLoadRect (harg2.unread x0) (Shape.Idx.first (show 0 < S1x1.numel from numel1_S1x1.symm ▸ Nat.one_pos))) (View.readAt (Elt Ideal) arg2.view (Rect.unit (s := S12x4) (k0_off2 i) S1x1.size (k0_off2_inb i hc1)).toLoadRect (harg2.unread x0) (Shape.Idx.first (show 0 < S1x1.numel from numel1_S1x1.symm ▸ Nat.one_pos))) (View.readAt (Elt Ideal) arg2.view (Rect.unit (s := S12x4) (k0_off3 i) S1x1.size (k0_off3_inb i hc1)).toLoadRect (harg2.unread x0) (Shape.Idx.first (show 0 < S1x1.numel from numel1_S1x1.symm ▸ Nat.one_pos))) (View.readAt (Elt Ideal) arg6.view (Rect.unit (s := S12x480) (k0_off4 i) S1x480.size (k0_off4_inb i hc1)).toLoadRect (harg6.unread x4)) (View.readAt (Elt Ideal) arg7.view (Rect.unit (s := S12x480) (k0_off4 i) S1x480.size (k0_off4_inb i hc1)).toLoadRect (harg7.unread x5)) (View.readAt (Elt Ideal) arg9.view (Rect.unit (s := S12x480) (k0_off4 i) S1x480.size (k0_off4_inb i hc1)).toLoadRect (harg9.unread x7)) (View.readAt (Elt Ideal) arg10.view (Rect.unit (s := S12x480) (k0_off4 i) S1x480.size (k0_off4_inb i hc1)).toLoadRect (harg10.unread x8)) (View.readAt (Elt Ideal) arg15.view (Rect.unit (s := S12x480) (k0_off4 i) S1x480.size (k0_off4_inb i hc1)).toLoadRect (harg15.unread x13)) (View.readAt (Elt Ideal) arg16.view (Rect.unit (s := S12x480) (k0_off4 i) S1x480.size (k0_off4_inb i hc1)).toLoadRect (harg16.unread x14)) (View.readAt (Elt Ideal) arg12.view (Rect.unit (s := S12x1920) (k0_off5 i) S1x1920.size (k0_off5_inb i hc1)).toLoadRect (harg12.unread x10)) (View.readAt (Elt Ideal) arg13.view (Rect.unit (s := S12x1920) (k0_off5 i) S1x1920.size (k0_off5_inb i hc1)).toLoadRect (harg13.unread x11)) ++ [⟨Rect.unit ![0, 0] ![7680, 128] inb_S7680x128_S7680x128_0_0, k0_pay6 (F := Ideal)⟩] := by
  delta kernelRun0_A.sl.HS4_55 kernelRun0_A.sl.r_5 kernelRun0_A.sl.r_3 kernelRun0_A.sl.r_7 kernelRun0_A.sl.r_6 kernelRun0_A.sl.r_2 kernelRun0_A.sl.r_8 kernelRun0_A.sl.r_9 kernelRun0_A.sl.r_11 kernelRun0_A.sl.r_10 kernelRun0_A.sl.r_12 kernelRun0_A.sl.r_14 kernelRun0_A.sl.r_13 kernelRun0_A.sl.r_15 kernelRun0_A.sl.r_16 kernelRun0_A.sl.r_4 kernelRun0_A.sl.r_17
  rfl
theorem A_run_wo : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14).2.2.1 = kernelRun0_A.sl.HS1_3 c arg8 harg8 x6 := by
  delta kernelRun0_A
  rfl
theorem A_run_w1 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14).2.2.2.1 = kernelRun0_A.sl.HS2_9 c arg11 harg11 x9 := by
  delta kernelRun0_A
  rfl
theorem A_run_w2 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14).2.2.2.2.1 = kernelRun0_A.sl.HS3_2 c arg14 harg14 x12 := by
  delta kernelRun0_A
  rfl
theorem A_run_par : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14).2.2.2.2.2.1 = kernelRun0_A.sl.HS4_55 c i arg2 harg2 arg6 harg6 arg7 harg7 arg9 harg9 arg10 harg10 arg12 harg12 arg13 harg13 arg15 harg15 arg16 harg16 hc1 x0 x4 x5 x7 x8 x10 x11 x13 x14 := by
  delta kernelRun0_A
  rfl
end
end Cert.KernelIdeal.Val
end
-- ==== Proof.KernelStepA.lean ====
/- What the body leaves at the first point: the block it writes out, the streams it keeps and what its buffers hold. -/
module
public import proofs.«01_k».proof.Proof.KernelHold
public import proofs.«01_k».proof.Proof.KernelRunA
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

theorem A_lists (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : cond0_0 i) (hc1 : cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32)
    (l : Fin 12) (hl : (i 0).val = l.val) :
    (∀ (v : View sig .tc .vmem S480x512 .bf16) y, v.read (Elt Ideal) (v.writes (Elt Ideal) v.junk (kernelRun0_A.sl.HS1_3 c arg8 harg8 x6)) y = gWo (lp l x0 x4 x5 x6 x7 x8 x9 x10 x11 x12 x13 x14) y)
    ∧ (∀ (v : View sig .tc .vmem S1920x512 .bf16) y, v.read (Elt Ideal) (v.writes (Elt Ideal) v.junk (kernelRun0_A.sl.HS2_9 c arg11 harg11 x9)) y = gW1 (lp l x0 x4 x5 x6 x7 x8 x9 x10 x11 x12 x13 x14) y)
    ∧ (∀ (v : View sig .tc .vmem S480x1920 .bf16) f y, v.read (Elt Ideal) (v.writes (Elt Ideal) f (kernelRun0_A.sl.HS3_2 c arg14 harg14 x12)) y = gW2 (lp l x0 x4 x5 x6 x7 x8 x9 x10 x11 x12 x13 x14) y)
    ∧ (∀ (v : View sig .tc .vmem S7680x128 .f32) f (r : Fin 7680) (j : Fin 128), 960 ≤ r.val → v.read (Elt Ideal) (v.writes (Elt Ideal) f (kernelRun0_A.sl.HS4_55 c i arg2 harg2 arg6 harg6 arg7 harg7 arg9 harg9 arg10 harg10 arg12 harg12 arg13 harg13 arg15 harg15 arg16 harg16 hc1 x0 x4 x5 x7 x8 x10 x11 x13 x14)) (ix2 r j) = prow (lp l x0 x4 x5 x6 x7 x8 x9 x10 x11 x12 x13 x14) r.val) := by
  refine ⟨?_, ?_, ?_, ?_⟩
  · intro v y
    rw [A_wo]; exact woOf_fill harg8 v y
  · intro v y
    rw [A_w1]; exact w1Of_fill harg11 v y
  · intro v f y
    rw [A_w2]; exact w2Of_read harg14 v f y
  · intro v f r j hr
    rw [A_par, View.writes_append]; exact parOf_read hc1 harg2 harg6 harg7 harg9 harg10 harg15 harg16 harg12 harg13 x0 x4 x5 x7 x8 x13 x14 x10 x11 l hl x6 x9 x12 v _ r j hr

theorem A_out (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : cond0_0 i) (hc1 : cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32)
    (l : Fin 12) (hl : (i 0).val = l.val) (h : Fin 512 → Fin 480 → EReal)
    (h0 : l.val = 0 → ∀ (t : Fin 512) d, x1 (ix3 ⟨t.val / 256, by omega⟩ ⟨t.val % 256, by omega⟩ d) = h t d)
    (hz : l.val = 0)
    (a : Fin 2) (q : Fin 256) (d : Fin 480) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 (ix4 0 a q d) = Spec.kout inv480 root (lp l x0 x4 x5 x6 x7 x8 x9 x10 x11 x12 x13 x14) (Pt.ms (lp l x0 x4 x5 x6 x7 x8 x9 x10 x11 x12 x13 x14) h (raws x2) (dens x3) ⟨256 * a.val + q.val, by omega⟩) d := by
  refine (congrArg (fun L => VO0_15.read (Elt Ideal) (VO0_15.writes (Elt Ideal) VO0_15.junk L) (ix4 0 a q d)) (A_outs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14)).trans ?_
  refine (outs_read VO0_15 _ a q d).trans (Pt.Good.new ?_ d _)
  exact ptOf_good (i := i) l hl (lp l x0 x4 x5 x6 x7 x8 x9 x10 x11 x12 x13 x14) rfl rfl h h0 (fun e => absurd hz e)
      ((A_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 l hl).1 arg19.view) ((A_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 l hl).2.1 arg20.view)
      ((A_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 l hl).2.2.1 arg21.view _) ((A_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 l hl).2.2.2 arg22.view _)
      (A_ctx ..) _ ((congrArg (arg26.view.writes (Elt Ideal) arg26.view.junk) (A_den ..)).trans (View.writes_append ..))

theorem A_keep (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : cond0_0 i) (hc1 : cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32)
    (l : Fin 12) (hl : (i 0).val = l.val) (h : Fin 512 → Fin 480 → EReal)
    (h0 : l.val = 0 → ∀ (t : Fin 512) d, x1 (ix3 ⟨t.val / 256, by omega⟩ ⟨t.val % 256, by omega⟩ d) = h t d)
    (hz : l.val = 0)
    (d : Fin 480) (t : Fin 512) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 (ix3 (i 1) d t) = Spec.kout inv480 root (lp l x0 x4 x5 x6 x7 x8 x9 x10 x11 x12 x13 x14) (Pt.ms (lp l x0 x4 x5 x6 x7 x8 x9 x10 x11 x12 x13 x14) h (raws x2) (dens x3) t) d := by
  refine (congrArg (fun L => VS0_0.read (Elt Ideal) (VS0_0.writes (Elt Ideal) VS0_0.junk L) (ix3 (i 1) d t)) ((A_kept c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14))).trans ?_
  rw [View.writes_append]
  refine (kept_read VS0_0 (i 1) (k0_off7_eq i) _ (i 1) d t).trans ((if_pos rfl).trans (Pt.Good.new ?_ d t))
  exact ptOf_good (i := i) l hl (lp l x0 x4 x5 x6 x7 x8 x9 x10 x11 x12 x13 x14) rfl rfl h h0 (fun e => absurd hz e)
      ((A_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 l hl).1 arg19.view) ((A_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 l hl).2.1 arg20.view)
      ((A_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 l hl).2.2.1 arg21.view _) ((A_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 l hl).2.2.2 arg22.view _)
      (A_ctx ..) _ ((congrArg (arg26.view.writes (Elt Ideal) arg26.view.junk) (A_den ..)).trans (View.writes_append ..))

theorem A_s1 (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : cond0_0 i) (hc1 : cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32)
    (l : Fin 12) (hl : (i 0).val = l.val) (y) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 y = gWo (lp l x0 x4 x5 x6 x7 x8 x9 x10 x11 x12 x13 x14) y :=
  (congrArg (fun L => VS0_1.read (Elt Ideal) (VS0_1.writes (Elt Ideal) VS0_1.junk L) y) (A_run_wo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14)).trans (((A_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 l hl).1 VS0_1) y)

theorem A_s2 (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : cond0_0 i) (hc1 : cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32)
    (l : Fin 12) (hl : (i 0).val = l.val) (y) : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 y = gW1 (lp l x0 x4 x5 x6 x7 x8 x9 x10 x11 x12 x13 x14) y :=
  (congrArg (fun L => VS0_2.read (Elt Ideal) (VS0_2.writes (Elt Ideal) VS0_2.junk L) y) (A_run_w1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14)).trans (((A_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 l hl).2.1 VS0_2) y)

theorem A_s3 (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : cond0_0 i) (hc1 : cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32)
    (l : Fin 12) (hl : (i 0).val = l.val) (y) : sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 y = gW2 (lp l x0 x4 x5 x6 x7 x8 x9 x10 x11 x12 x13 x14) y :=
  (congrArg (fun L => VS0_3.read (Elt Ideal) (VS0_3.writes (Elt Ideal) VS0_3.junk L) y) (A_run_w2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14)).trans (((A_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 l hl).2.2.1 VS0_3 _) y)

theorem A_s4 (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : cond0_0 i) (hc1 : cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32)
    (l : Fin 12) (hl : (i 0).val = l.val) (r : Fin 7680) (j : Fin 128) (hr : 960 ≤ r.val) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 (ix2 r j) = prow (lp l x0 x4 x5 x6 x7 x8 x9 x10 x11 x12 x13 x14) r.val :=
  (congrArg (fun L => VS0_4.read (Elt Ideal) (VS0_4.writes (Elt Ideal) VS0_4.junk L) (ix2 r j)) (A_run_par c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14)).trans ((A_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 l hl).2.2.2 VS0_4 _ r j hr)

end Cert.KernelIdeal.Val
end
-- ==== Proof.KernelInvA.lean ====
/- The first point fills the buffers. -/
module
public import proofs.«01_k».proof.Proof.KernelGrid
public import proofs.«01_k».proof.Proof.KernelStepA
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

variable (m : (ℓ : Loc nD τ sig) → Buf (Elt Ideal) ℓ) (c : Dev nD) (t : Fin cfg0.N)
  (hpos : ∀ i, (0 : EReal) < (m ((c : Thread nD τ).loc main_arg14) : Vec Ideal S12x4 .f32) i)
  (hden : ∀ i, (m ((c : Thread nD τ).loc main_arg2) : Vec Ideal S12x32x20x256 .f32) i ≠ (0 : EReal))

theorem outsA_0 (h0 : t.val % 208 = 0) (h1 : t.val / 16 % 13 + 12 * (t.val % 16) ≤ 11) (h2 : t.val < 192) (h3 : ¬192 ≤ t.val) :
    (outsAt0 m c t.val t.isLt).1 = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by
  rw [outsAt0_A m c t h0 h1 h2 h3]

theorem outsA_1 (h0 : t.val % 208 = 0) (h1 : t.val / 16 % 13 + 12 * (t.val % 16) ≤ 11) (h2 : t.val < 192) (h3 : ¬192 ≤ t.val) :
    (outsAt0 m c t.val t.isLt).2.1 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by
  rw [outsAt0_A m c t h0 h1 h2 h3]

theorem outsA_2 (h0 : t.val % 208 = 0) (h1 : t.val / 16 % 13 + 12 * (t.val % 16) ≤ 11) (h2 : t.val < 192) (h3 : ¬192 ≤ t.val) :
    (outsAt0 m c t.val t.isLt).2.2.1 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by
  rw [outsAt0_A m c t h0 h1 h2 h3]

theorem outsA_3 (h0 : t.val % 208 = 0) (h1 : t.val / 16 % 13 + 12 * (t.val % 16) ≤ 11) (h2 : t.val < 192) (h3 : ¬192 ≤ t.val) :
    (outsAt0 m c t.val t.isLt).2.2.2.1 = sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by
  rw [outsAt0_A m c t h0 h1 h2 h3]

theorem outsA_4 (h0 : t.val % 208 = 0) (h1 : t.val / 16 % 13 + 12 * (t.val % 16) ≤ 11) (h2 : t.val < 192) (h3 : ¬192 ≤ t.val) :
    (outsAt0 m c t.val t.isLt).2.2.2.2.1 = sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by
  rw [outsAt0_A m c t h0 h1 h2 h3]

theorem outsA_5 (h0 : t.val % 208 = 0) (h1 : t.val / 16 % 13 + 12 * (t.val % 16) ≤ 11) (h2 : t.val < 192) (h3 : ¬192 ≤ t.val) :
    (outsAt0 m c t.val t.isLt).2.2.2.2.2.1 = sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by
  rw [outsAt0_A m c t h0 h1 h2 h3]

set_option maxHeartbeats 1000000 in
include hpos hden in
/-- The first point. -/
theorem inv_A (h0 : t.val % 208 = 0) (h1 : t.val / 16 % 13 + 12 * (t.val % 16) ≤ 11) (h2 : t.val < 192) (h3 : ¬192 ≤ t.val) :
    Inv m c t.val t.isLt := by
  refine ⟨fun r d k hc => ?_, fun h => ?_, fun h => ?_, fun h => ?_, fun h => ?_, fun a q d => ?_⟩
  · have hr : r = (grid0.coords t) 1 := Fin.ext (by
      show r.val = ((grid0.coords t) 1).val
      rw [c1]; unfold cnt at hc; split_ifs at hc <;> omega)
    have hr' : r.val = t.val % 16 := (congrArg Fin.val hr).trans (c1 t)
    have hn : cnt t.val r.val = t.val / 16 + 1 := by unfold cnt; split_ifs <;> omega
    refine (congrFun (outsA_1 m c t h0 h1 h2 h3) (ix3 r d k)).trans ?_
    rw [hn, hr', hr]
    refine (A_keep c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (l := Spec.num (t.val / 16)) (hl := l_eq t h2) (h := (fun k d => row m c (t.val % 16) k.val (t.val / 16) d)) (h0 := fun h k d => given m c t h2 h k d) (hz := by show t.val / 16 % 12 = 0; omega) (d := d) (t := k)).trans ?_
    rw [lp_eq m c t h2]; exact kout_row m c t h2 hpos hden k d
  · refine fun y => (congrFun (outsA_2 m c t h0 h1 h2 h3) y).trans ((A_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (l := Spec.num (t.val / 16)) (hl := l_eq t h2) (y := y)).trans ?_)
    rw [lp_eq m c t h2]
  · refine fun y => (congrFun (outsA_3 m c t h0 h1 h2 h3) y).trans ((A_s2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (l := Spec.num (t.val / 16)) (hl := l_eq t h2) (y := y)).trans ?_)
    rw [lp_eq m c t h2]
  · refine fun y => (congrFun (outsA_4 m c t h0 h1 h2 h3) y).trans ((A_s3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (l := Spec.num (t.val / 16)) (hl := l_eq t h2) (y := y)).trans ?_)
    rw [lp_eq m c t h2]
  · refine fun r j hr => (congrFun (outsA_5 m c t h0 h1 h2 h3) (ix2 r j)).trans ((A_s4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (l := Spec.num (t.val / 16)) (hl := l_eq t h2) (r := r) (j := j) (hr := hr)).trans ?_)
    rw [lp_eq m c t h2]
  · refine (congrFun (outsA_0 m c t h0 h1 h2 h3) (ix4 (0 : Fin 1) a q d)).trans ((A_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (l := Spec.num (t.val / 16)) (hl := l_eq t h2) (h := (fun k d => row m c (t.val % 16) k.val (t.val / 16) d)) (h0 := fun h k d => given m c t h2 h k d) (hz := by show t.val / 16 % 12 = 0; omega) (a := a) (q := q) (d := d)).trans ?_)
    rw [lp_eq m c t h2]; exact (kout_row m c t h2 hpos hden ⟨256 * a.val + q.val, by omega⟩ d).trans (row_congr m c (if_pos h2).symm rfl (by omega) d)
end Cert.KernelIdeal.Val
end
-- ==== Proof.KernelRunB.lean ====
/- What the stores of a point of case B leave, as pieces. -/
module
public import proofs.«01_k».proof.Proof.Spec
public import proofs.«01_k».proof.Proof.KernelBody
public import proofs.«01_k».proof.Proof.KernelLists
public import proofs.«01_k».proof.Proof.KernelPoint
public import proofs.«01_k».proof.Proof.Gen.KernelIdeal.Value
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

attribute [local irreducible] k0_pay7 k0_pay8 k0_pay97 k0_pay98 k0_pay99 k0_pay100 k0_pay101 k0_pay102 k0_pay103 k0_pay104 k0_pay105 k0_pay106 k0_pay107 k0_pay108 k0_pay109 k0_pay110 k0_pay111 k0_pay112 k0_pay113 k0_pay114 k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133 k0_pay134 k0_pay135 k0_pay136 k0_pay137 k0_pay138 k0_pay139 k0_pay140 k0_pay141 k0_pay142 k0_pay143 k0_pay144 k0_pay145 k0_pay146 k0_pay147 k0_pay148 k0_pay149 k0_pay150 k0_pay151 k0_pay152 k0_pay153 k0_pay154 k0_pay155 k0_pay156 k0_pay157 k0_pay158 k0_pay159 k0_pay160 k0_pay161 k0_pay162 k0_pay163 k0_pay164 k0_pay165 k0_pay166 k0_pay167 k0_pay168 k0_pay169 k0_pay170 k0_pay171 k0_pay172 k0_pay173 k0_pay174 k0_pay175 k0_pay176 k0_pay177 k0_pay178 k0_pay179 k0_pay180 k0_pay181
section
variable (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : ¬cond0_0 i) (hc1 : ¬cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32) (xs0 : Vec Ideal S16x480x512 .f32) (xs1 : Vec Ideal S480x512 .bf16) (xs2 : Vec Ideal S1920x512 .bf16) (xs3 : Vec Ideal S480x1920 .bf16) (xs4 : Vec Ideal S7680x128 .f32) (xs5 : Vec Ideal S512x512 .bf16) (xs8 : Vec Ideal S2x24x256 .f32)
set_option maxHeartbeats 4000000 in
theorem B_xt1 : kernelRun0_B.sl.HS5_1 c i arg2 harg2 arg4 harg4 arg5 harg5 arg25 arg26 harg26 hc2 x0 x2 x3 xs8 = Pt.xt1 (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1) := by
  delta kernelRun0_B.sl.HS5_1 kernelRun0_B.sl.v440 kernelRun0_B.sl.r_47 kernelRun0_B.sl.v430 kernelRun0_B.sl.r_28 kernelRun0_B.sl.v246 kernelRun0_B.sl.r_1 kernelRun0_B.sl.r kernelRun0_B.sl.r_46 kernelRun0_B.sl.v420 kernelRun0_B.sl.r_45 kernelRun0_B.sl.v410 kernelRun0_B.sl.r_44 kernelRun0_B.sl.v400 kernelRun0_B.sl.r_43 kernelRun0_B.sl.v390 kernelRun0_B.sl.r_42 kernelRun0_B.sl.v380 kernelRun0_B.sl.r_41 kernelRun0_B.sl.v370 kernelRun0_B.sl.r_40 kernelRun0_B.sl.v360 kernelRun0_B.sl.r_39 kernelRun0_B.sl.v350 kernelRun0_B.sl.r_38 kernelRun0_B.sl.v340 kernelRun0_B.sl.r_37 kernelRun0_B.sl.v330 kernelRun0_B.sl.r_36 kernelRun0_B.sl.v320 kernelRun0_B.sl.r_35 kernelRun0_B.sl.v310 kernelRun0_B.sl.r_34 kernelRun0_B.sl.v300 kernelRun0_B.sl.r_33 kernelRun0_B.sl.v290 kernelRun0_B.sl.r_32 kernelRun0_B.sl.v280 kernelRun0_B.sl.r_31 kernelRun0_B.sl.v270 kernelRun0_B.sl.r_30 kernelRun0_B.sl.v260 kernelRun0_B.sl.r_29 kernelRun0_B.sl.v250 kernelRun0_B.sl.r_27 kernelRun0_B.sl.r_26 kernelRun0_B.sl.v235 kernelRun0_B.sl.r_2 kernelRun0_B.sl.v41 kernelRun0_B.sl.r_25 kernelRun0_B.sl.v225 kernelRun0_B.sl.r_24 kernelRun0_B.sl.v215 kernelRun0_B.sl.r_23 kernelRun0_B.sl.v205 kernelRun0_B.sl.r_22 kernelRun0_B.sl.r_21 kernelRun0_B.sl.v195 kernelRun0_B.sl.r_20 kernelRun0_B.sl.v185 kernelRun0_B.sl.r_19 kernelRun0_B.sl.v175 kernelRun0_B.sl.r_18 kernelRun0_B.sl.v165 kernelRun0_B.sl.r_17 kernelRun0_B.sl.r_16 kernelRun0_B.sl.v155 kernelRun0_B.sl.r_15 kernelRun0_B.sl.v145 kernelRun0_B.sl.r_14 kernelRun0_B.sl.v135 kernelRun0_B.sl.r_13 kernelRun0_B.sl.v125 kernelRun0_B.sl.r_12 kernelRun0_B.sl.r_11 kernelRun0_B.sl.v115 kernelRun0_B.sl.r_10 kernelRun0_B.sl.v105 kernelRun0_B.sl.r_9 kernelRun0_B.sl.v95 kernelRun0_B.sl.r_8 kernelRun0_B.sl.v85 kernelRun0_B.sl.r_7 kernelRun0_B.sl.r_6 kernelRun0_B.sl.v75 kernelRun0_B.sl.r_5 kernelRun0_B.sl.v65 kernelRun0_B.sl.r_4 kernelRun0_B.sl.v55 kernelRun0_B.sl.r_3 kernelRun0_B.sl.v45
  rfl
theorem B_hin : kernelRun0_B.sl.r_48 c i arg3 harg3 arg18 harg18 hc2 x1 xs0 = Pt.hin (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1) := by
  delta kernelRun0_B.sl.r_48
  rfl
theorem B_bo : kernelRun0_B.sl.r_50 c arg22 harg22 xs4 = Pt.bo (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1) := by
  delta kernelRun0_B.sl.r_50
  rfl
theorem B_first : kernelRun0_B.sl.v469 c i arg2 harg2 arg4 harg4 arg5 harg5 arg23 harg23 arg25 arg26 harg26 hc2 x0 x2 x3 xs5 xs8 = View.readAt (Elt Ideal) arg23.view (Rect.unit (s := S512x512) ![0, 0] S512x512.size inb_S512x512_S512x512_0_0).toLoadRect (arg23.view.writes (Elt Ideal) (harg23.unread xs5) (Pt.xt1 (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1))) := by
  delta kernelRun0_B.sl.v469
  rw [B_xt1 c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8] <;> rfl
theorem B_proj : kernelRun0_B.sl.r_49 c i arg2 harg2 arg4 harg4 arg5 harg5 arg19 harg19 arg22 harg22 arg23 harg23 arg25 arg26 harg26 hc2 x0 x2 x3 xs1 xs4 xs5 xs8 = Pt.proj (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1) := by
  delta kernelRun0_B.sl.r_49
  rw [B_first c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8] <;> rfl
theorem B_mid : kernelRun0_B.sl.HS0_1 c i arg2 harg2 arg3 harg3 arg4 harg4 arg5 harg5 arg18 harg18 arg19 harg19 arg22 harg22 arg23 harg23 arg25 arg26 harg26 hc2 x0 x1 x2 x3 xs0 xs1 xs4 xs5 xs8 = Pt.mid (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1) := by
  delta kernelRun0_B.sl.HS0_1
  rw [B_hin c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8, B_proj c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8, B_bo c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8] <;> rfl
theorem B_xt2 : kernelRun0_B.sl.HS5_2 c i arg2 harg2 arg3 harg3 arg4 harg4 arg5 harg5 arg18 harg18 arg19 harg19 arg22 harg22 arg23 harg23 arg25 arg26 harg26 hc2 x0 x1 x2 x3 xs0 xs1 xs4 xs5 xs8 = Pt.xt2 (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1) := by
  delta kernelRun0_B.sl.HS5_2 kernelRun0_B.sl.r_69 kernelRun0_B.sl.r_63 kernelRun0_B.sl.r_59 kernelRun0_B.sl.r_53 kernelRun0_B.sl.r_51 kernelRun0_B.sl.r_58 kernelRun0_B.sl.r_52 kernelRun0_B.sl.r_57 kernelRun0_B.sl.r_55 kernelRun0_B.sl.r_56 kernelRun0_B.sl.r_54 kernelRun0_B.sl.r_61 kernelRun0_B.sl.r_68 kernelRun0_B.sl.r_62 kernelRun0_B.sl.r_67 kernelRun0_B.sl.r_65 kernelRun0_B.sl.r_66 kernelRun0_B.sl.r_64 kernelRun0_B.sl.r_60
  rw [B_hin c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8, B_proj c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8, B_bo c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8, B_xt1 c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8] <;> rfl
theorem B_xt : kernelRun0_B.sl.v756 c i arg2 harg2 arg3 harg3 arg4 harg4 arg5 harg5 arg18 harg18 arg19 harg19 arg22 harg22 arg23 harg23 arg25 arg26 harg26 hc2 x0 x1 x2 x3 xs0 xs1 xs4 xs5 xs8 = Pt.xt (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1) := by
  delta kernelRun0_B.sl.v756
  rw [B_xt2 c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8] <;> rfl
theorem B_hid : kernelRun0_B.sl.HS6_4 c i arg2 harg2 arg3 harg3 arg4 harg4 arg5 harg5 arg18 harg18 arg19 harg19 arg20 harg20 arg22 harg22 arg23 harg23 arg25 arg26 harg26 hc2 x0 x1 x2 x3 xs0 xs1 xs2 xs4 xs5 xs8 = Pt.hid (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1) := by
  delta kernelRun0_B.sl.HS6_4 kernelRun0_B.sl.cst_254 kernelRun0_B.sl.r_70 kernelRun0_B.sl.r_72 kernelRun0_B.sl.r_71 kernelRun0_B.sl.r_74 kernelRun0_B.sl.r_73
  rw [B_xt c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8] <;> rfl
theorem B_lm : kernelRun0_B.sl.v850 c i arg2 harg2 arg3 harg3 arg4 harg4 arg5 harg5 arg18 harg18 arg19 harg19 arg22 harg22 arg23 harg23 arg25 arg26 harg26 hc2 x0 x1 x2 x3 xs0 xs1 xs4 xs5 xs8 = Pt.lm (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1) := by
  delta kernelRun0_B.sl.v850
  rw [B_mid c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8] <;> rfl
theorem B_lh : kernelRun0_B.sl.v853 c i arg2 harg2 arg3 harg3 arg4 harg4 arg5 harg5 arg18 harg18 arg19 harg19 arg20 harg20 arg22 harg22 arg23 harg23 arg24 arg25 arg26 harg26 hc2 x0 x1 x2 x3 xs0 xs1 xs2 xs4 xs5 xs8 = Pt.lh (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1) := by
  delta kernelRun0_B.sl.v853
  rw [B_hid c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8] <;> rfl
theorem B_new : kernelRun0_B.sl.r_75 c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8 = Pt.new (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1) := by
  delta kernelRun0_B.sl.r_75
  rw [B_lm c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8, B_lh c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8] <;> rfl
theorem B_pre : kernelRun0_B.sl.r_76 c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8 = k0_pay181 (Pt.lm (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1)) (Pt.lw (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1)) (Pt.lh (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1)) (Pt.ls (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1)) (Pt.lb (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1)) := by
  delta kernelRun0_B.sl.r_76
  rw [B_lm c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8, B_lh c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8] <;> rfl
theorem B_outs : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs3 xs4 xs5 xs8).1 = Pt.outs (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1) := by
  delta kernelRun0_B
  dsimp only
  try delta View.readCov
  rw [B_new c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8, B_pre c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8] <;> rfl
theorem B_kept : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs3 xs4 xs5 xs8).2.1 = Pt.kept (ptOf i hc2 arg2 harg2 arg3 harg3 arg18 arg19 arg20 arg21 arg22 arg23 arg24 arg25 arg26 (harg18.unread xs0) arg18.view.junk (harg19.unread xs1) (harg20.unread xs2) (harg21.unread xs3) (harg22.unread xs4) (harg23.unread xs5) arg24.view.junk (arg26.view.writes (Elt Ideal) (harg26.unread xs8) (kernelRun0_B.sl.HS8_2 c arg5 harg5 x3)) (kernelRun0_B.sl.HS7_2 c arg4 harg4 x2) x0 x1) := by
  delta kernelRun0_B
  dsimp only
  try delta View.readCov
  rw [B_lm c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8, B_lh c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8, B_mid c i arg2 harg2 arg3 harg3 arg4 harg4 arg5 harg5 arg18 harg18 arg19 harg19 arg20 harg20 arg21 harg21 arg22 harg22 arg23 harg23 arg24 arg25 arg26 harg26 hc2 x0 x1 x2 x3 xs0 xs1 xs2 xs3 xs4 xs5 xs8] <;> rfl
set_option maxHeartbeats 2000000 in
theorem B_ctx : kernelRun0_B.sl.HS7_2 c arg4 harg4 x2 = ctxL (View.readAt (Elt Ideal) arg4.view (Rect.unit (s := S1x2x256x480) ![0, 0, 0, 0] S1x1x256x480.size inb_S1x2x256x480_S1x1x256x480_0_0_0_0).toLoadRect (harg4.unread x2)) (View.readAt (Elt Ideal) arg4.view (Rect.unit (s := S1x2x256x480) ![0, 1, 0, 0] S1x1x256x480.size inb_S1x2x256x480_S1x1x256x480_0_1_0_0).toLoadRect (harg4.unread x2)) := by
  delta kernelRun0_B.sl.HS7_2
  rfl
set_option maxHeartbeats 2000000 in
theorem B_den : kernelRun0_B.sl.HS8_2 c arg5 harg5 x3 = denL (View.readAt (Elt Ideal) arg5.view (Rect.unit (s := S1x2x20x256) ![0, 0, 0, 0] S1x1x20x256.size inb_S1x2x20x256_S1x1x20x256_0_0_0_0).toLoadRect (harg5.unread x3)) (View.readAt (Elt Ideal) arg5.view (Rect.unit (s := S1x2x20x256) ![0, 1, 0, 0] S1x1x20x256.size inb_S1x2x20x256_S1x1x20x256_0_1_0_0).toLoadRect (harg5.unread x3)) := by
  delta kernelRun0_B.sl.HS8_2
  rfl
end
end Cert.KernelIdeal.Val
end
-- ==== Proof.KernelStepB.lean ====
/- What the body leaves at a later point of a layer: the block it writes out, the streams it keeps and what its buffers hold. -/
module
public import proofs.«01_k».proof.Proof.KernelHold
public import proofs.«01_k».proof.Proof.KernelRunB
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

theorem B_out (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : ¬cond0_0 i) (hc1 : ¬cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32) (xs0 : Vec Ideal S16x480x512 .f32) (xs1 : Vec Ideal S480x512 .bf16) (xs2 : Vec Ideal S1920x512 .bf16) (xs3 : Vec Ideal S480x1920 .bf16) (xs4 : Vec Ideal S7680x128 .f32) (xs5 : Vec Ideal S512x512 .bf16) (xs8 : Vec Ideal S2x24x256 .f32)
    (l : Fin 12) (hl : (i 0).val = l.val) (h : Fin 512 → Fin 480 → EReal)
    (h0 : l.val = 0 → ∀ (t : Fin 512) d, x1 (ix3 ⟨t.val / 256, by omega⟩ ⟨t.val % 256, by omega⟩ d) = h t d)
    (h1 : l.val ≠ 0 → ∀ (t : Fin 512) d, xs0 (ix3 (i 1) d t) = h t d)
    (P : Spec.Par) (ha1 : x0 (ix2 l 1) = P.a1) (ha3 : x0 (ix2 l 3) = P.a3) (hwo : ∀ y, xs1 y = gWo P y) (hw1 : ∀ y, xs2 y = gW1 P y)
    (hw2 : ∀ y, xs3 y = gW2 P y) (hpar : ∀ (r : Fin 7680) j, 960 ≤ r.val → xs4 (ix2 r j) = prow P r.val)
    (a : Fin 2) (q : Fin 256) (d : Fin 480) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs3 xs4 xs5 xs8 (ix4 0 a q d) = Spec.kout inv480 root P (Pt.ms P h (raws x2) (dens x3) ⟨256 * a.val + q.val, by omega⟩) d := by
  refine (congrArg (fun L => VO0_15.read (Elt Ideal) (VO0_15.writes (Elt Ideal) VO0_15.junk L) (ix4 0 a q d)) (B_outs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs3 xs4 xs5 xs8)).trans ?_
  refine (outs_read VO0_15 _ a q d).trans (Pt.Good.new ?_ d _)
  exact ptOf_good (i := i) l hl P ha1 ha3 h h0 (fun e t d => (congrFun (harg18.read_unread xs0) _).trans (h1 e t d))
      (fun y => (congrFun (harg19.read_unread xs1) y).trans (hwo y)) (fun y => (congrFun (harg20.read_unread xs2) y).trans (hw1 y))
      (fun y => (congrFun (harg21.read_unread xs3) y).trans (hw2 y)) (fun r j hr => (congrFun (harg22.read_unread xs4) _).trans (hpar r j hr))
      (B_ctx ..) _ (congrArg (arg26.view.writes (Elt Ideal) (harg26.unread xs8)) (B_den ..))

theorem B_keep (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : ¬cond0_0 i) (hc1 : ¬cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32) (xs0 : Vec Ideal S16x480x512 .f32) (xs1 : Vec Ideal S480x512 .bf16) (xs2 : Vec Ideal S1920x512 .bf16) (xs3 : Vec Ideal S480x1920 .bf16) (xs4 : Vec Ideal S7680x128 .f32) (xs5 : Vec Ideal S512x512 .bf16) (xs8 : Vec Ideal S2x24x256 .f32)
    (l : Fin 12) (hl : (i 0).val = l.val) (h : Fin 512 → Fin 480 → EReal)
    (h0 : l.val = 0 → ∀ (t : Fin 512) d, x1 (ix3 ⟨t.val / 256, by omega⟩ ⟨t.val % 256, by omega⟩ d) = h t d)
    (h1 : l.val ≠ 0 → ∀ (t : Fin 512) d, xs0 (ix3 (i 1) d t) = h t d)
    (P : Spec.Par) (ha1 : x0 (ix2 l 1) = P.a1) (ha3 : x0 (ix2 l 3) = P.a3) (hwo : ∀ y, xs1 y = gWo P y) (hw1 : ∀ y, xs2 y = gW1 P y)
    (hw2 : ∀ y, xs3 y = gW2 P y) (hpar : ∀ (r : Fin 7680) j, 960 ≤ r.val → xs4 (ix2 r j) = prow P r.val)
    (r : Fin 16) (d : Fin 480) (t : Fin 512) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs3 xs4 xs5 xs8 (ix3 r d t) = if r.val = (i 1).val then Spec.kout inv480 root P (Pt.ms P h (raws x2) (dens x3) t) d else xs0 (ix3 r d t) := by
  refine (congrArg (fun L => arg18.view.read (Elt Ideal) (arg18.view.writes (Elt Ideal) (harg18.unread xs0) L) (ix3 r d t)) (B_kept c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs3 xs4 xs5 xs8)).trans ?_
  refine (kept_read arg18.view (i 1) (k0_off7_eq i) _ r d t).trans ?_
  split
  · refine Pt.Good.new ?_ d t
    exact ptOf_good (i := i) l hl P ha1 ha3 h h0 (fun e t d => (congrFun (harg18.read_unread xs0) _).trans (h1 e t d))
      (fun y => (congrFun (harg19.read_unread xs1) y).trans (hwo y)) (fun y => (congrFun (harg20.read_unread xs2) y).trans (hw1 y))
      (fun y => (congrFun (harg21.read_unread xs3) y).trans (hw2 y)) (fun r j hr => (congrFun (harg22.read_unread xs4) _).trans (hpar r j hr))
      (B_ctx ..) _ (congrArg (arg26.view.writes (Elt Ideal) (harg26.unread xs8)) (B_den ..))
  · exact congrFun (harg18.read_unread xs0) _

end Cert.KernelIdeal.Val
end
-- ==== Proof.KernelInvB.lean ====
/- A point that keeps its layer's weights keeps what the buffers hold. -/
module
public import proofs.«01_k».proof.Proof.KernelGrid
public import proofs.«01_k».proof.Proof.KernelStepB
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

variable (m : (ℓ : Loc nD τ sig) → Buf (Elt Ideal) ℓ) (c : Dev nD) (t : Fin cfg0.N)
  (hpos : ∀ i, (0 : EReal) < (m ((c : Thread nD τ).loc main_arg14) : Vec Ideal S12x4 .f32) i)
  (hden : ∀ i, (m ((c : Thread nD τ).loc main_arg2) : Vec Ideal S12x32x20x256 .f32) i ≠ (0 : EReal))

theorem outsB_0 (h0 : ¬t.val % 208 = 0) (h1 : ¬t.val / 16 % 13 + 12 * (t.val % 16) ≤ 11) (h2 : t.val < 192) (h3 : ¬192 ≤ t.val) :
    (outsAt0 m c t.val t.isLt).1 = out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_B m c t h0 h1 h2 h3]

theorem outsB_1 (h0 : ¬t.val % 208 = 0) (h1 : ¬t.val / 16 % 13 + 12 * (t.val % 16) ≤ 11) (h2 : t.val < 192) (h3 : ¬192 ≤ t.val) :
    (outsAt0 m c t.val t.isLt).2.1 = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_B m c t h0 h1 h2 h3]

theorem outsB_2 (h0 : ¬t.val % 208 = 0) (h1 : ¬t.val / 16 % 13 + 12 * (t.val % 16) ≤ 11) (h2 : t.val < 192) (h3 : ¬192 ≤ t.val) :
    (outsAt0 m c t.val t.isLt).2.2.1 = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_B m c t h0 h1 h2 h3]

theorem outsB_3 (h0 : ¬t.val % 208 = 0) (h1 : ¬t.val / 16 % 13 + 12 * (t.val % 16) ≤ 11) (h2 : t.val < 192) (h3 : ¬192 ≤ t.val) :
    (outsAt0 m c t.val t.isLt).2.2.2.1 = sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_B m c t h0 h1 h2 h3]

theorem outsB_4 (h0 : ¬t.val % 208 = 0) (h1 : ¬t.val / 16 % 13 + 12 * (t.val % 16) ≤ 11) (h2 : t.val < 192) (h3 : ¬192 ≤ t.val) :
    (outsAt0 m c t.val t.isLt).2.2.2.2.1 = sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_B m c t h0 h1 h2 h3]

theorem outsB_5 (h0 : ¬t.val % 208 = 0) (h1 : ¬t.val / 16 % 13 + 12 * (t.val % 16) ≤ 11) (h2 : t.val < 192) (h3 : ¬192 ≤ t.val) :
    (outsAt0 m c t.val t.isLt).2.2.2.2.2.1 = sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_B m c t h0 h1 h2 h3]

set_option maxHeartbeats 1000000 in
include hpos hden in
/-- Case B of the step: the buffers after the point, from the buffers before it. -/
theorem inv_B (h0 : ¬t.val % 208 = 0) (h1 : ¬t.val / 16 % 13 + 12 * (t.val % 16) ≤ 11) (h2 : t.val < 192) (h3 : ¬192 ≤ t.val)
    (IH : Inv m c (t.val - 1) (Nat.lt_of_le_of_lt (Nat.sub_le _ _) t.isLt)) :
    Inv m c t.val t.isLt := by
  have hx : (Spec.num (t.val / 16)).val ≠ 0 → ∀ (k : Fin 512) d,
      (outsAt0 m c (t.val - 1) (Nat.lt_of_le_of_lt (Nat.sub_le _ _) t.isLt)).2.1 (ix3 ((grid0.coords t) 1) d k) = row m c (t.val % 16) k.val (t.val / 16) d := fun h k d => by
    have h' : t.val / 16 ≠ 0 := fun e => h (by show t.val / 16 % 12 = 0; rw [e])
    have hc : cnt (t.val - 1) ((grid0.coords t) 1).val = t.val / 16 := by
      rw [c1]; unfold cnt; split_ifs <;> omega
    exact (IH.h ((grid0.coords t) 1) d k (by rw [hc]; omega)).trans (row_congr m c (c1 t) rfl hc d)
  have hq : (t.val - 1) / 16 = t.val / 16 := by omega
  have hwo := hq ▸ IH.wo (by omega)
  have hw1 := hq ▸ IH.w1 (by omega)
  have hw2 := hq ▸ IH.w2 (by omega)
  have hpar := hq ▸ IH.par (by omega)
  refine ⟨fun r d k hc => ?_, fun h => ?_, fun h => ?_, fun h => ?_, fun h => ?_, fun a q d => ?_⟩
  · refine (congrFun (outsB_1 m c t h0 h1 h2 h3) (ix3 r d k)).trans ((B_keep c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (l := Spec.num (t.val / 16)) (hl := l_eq t h2) (h := (fun k d => row m c (t.val % 16) k.val (t.val / 16) d)) (h0 := fun h k d => given m c t h2 h k d) (h1 := hx) (P := (lays m c (Spec.num (t.val / 16)))) (ha1 := blk0_at m c t _ _) (ha3 := blk0_at m c t _ _) (hwo := hwo) (hw1 := hw1) (hw2 := hw2) (hpar := hpar) (r := r) (d := d) (t := k)).trans ?_)
    by_cases hr : r.val = ((grid0.coords t) 1).val
    · have hr' := hr.trans (c1 t)
      have hn : cnt t.val r.val = t.val / 16 + 1 := by unfold cnt; split_ifs <;> omega
      refine (if_pos hr).trans ?_
      exact (kout_row m c t h2 hpos hden k d).trans (row_congr m c hr'.symm rfl hn.symm d)
    · have hr' : r.val ≠ t.val % 16 := fun e => hr (e.trans (c1 t).symm)
      have hn : cnt (t.val - 1) r.val = cnt t.val r.val := by unfold cnt; split_ifs <;> omega
      refine (if_neg hr).trans ((IH.h r d k (by rw [hn]; exact hc)).trans (row_congr m c rfl rfl hn d))
  · intro y
    rw [outsB_2 m c t h0 h1 h2 h3]
    unfold sout0_B_1
    exact hwo y
  · intro y
    rw [outsB_3 m c t h0 h1 h2 h3]
    unfold sout0_B_2
    exact hw1 y
  · intro y
    rw [outsB_4 m c t h0 h1 h2 h3]
    unfold sout0_B_3
    exact hw2 y
  · intro r j hr
    rw [outsB_5 m c t h0 h1 h2 h3]
    unfold sout0_B_4
    exact hpar r j hr
  · refine (congrFun (outsB_0 m c t h0 h1 h2 h3) (ix4 (0 : Fin 1) a q d)).trans ((B_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (l := Spec.num (t.val / 16)) (hl := l_eq t h2) (h := (fun k d => row m c (t.val % 16) k.val (t.val / 16) d)) (h0 := fun h k d => given m c t h2 h k d) (h1 := hx) (P := (lays m c (Spec.num (t.val / 16)))) (ha1 := blk0_at m c t _ _) (ha3 := blk0_at m c t _ _) (hwo := hwo) (hw1 := hw1) (hw2 := hw2) (hpar := hpar) (a := a) (q := q) (d := d)).trans ?_)
    exact (kout_row m c t h2 hpos hden ⟨256 * a.val + q.val, by omega⟩ d).trans (row_congr m c (if_pos h2).symm rfl (by omega) d)
end Cert.KernelIdeal.Val
end
-- ==== Proof.KernelRunC.lean ====
/- What the stores of a point of case C leave, as pieces. -/
module
public import proofs.«01_k».proof.Proof.Spec
public import proofs.«01_k».proof.Proof.KernelBody
public import proofs.«01_k».proof.Proof.KernelLists
public import proofs.«01_k».proof.Proof.KernelPoint
public import proofs.«01_k».proof.Proof.Gen.KernelIdeal.Value
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

attribute [local irreducible] k0_pay7 k0_pay8 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay88 k0_pay89 k0_pay90 k0_pay91 k0_pay92 k0_pay93 k0_pay94 k0_pay95 k0_pay96 k0_pay97 k0_pay98 k0_pay99 k0_pay100 k0_pay101 k0_pay102 k0_pay103 k0_pay104 k0_pay105 k0_pay106 k0_pay107 k0_pay108 k0_pay109 k0_pay110 k0_pay111 k0_pay112 k0_pay113 k0_pay114 k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133 k0_pay134 k0_pay135 k0_pay136 k0_pay137 k0_pay138 k0_pay139 k0_pay140 k0_pay141 k0_pay142 k0_pay143 k0_pay144 k0_pay145 k0_pay146 k0_pay147 k0_pay148 k0_pay149 k0_pay150 k0_pay151 k0_pay152 k0_pay153 k0_pay154 k0_pay155 k0_pay156 k0_pay157 k0_pay158 k0_pay159 k0_pay160 k0_pay161 k0_pay162 k0_pay163 k0_pay164 k0_pay165 k0_pay166 k0_pay167 k0_pay168 k0_pay169 k0_pay170 k0_pay171 k0_pay172 k0_pay173 k0_pay174 k0_pay175 k0_pay176 k0_pay177 k0_pay178 k0_pay179 k0_pay180 k0_pay181
section
variable (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : ¬cond0_0 i) (hc1 : cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32) (xs0 : Vec Ideal S16x480x512 .f32) (xs1 : Vec Ideal S480x512 .bf16) (xs2 : Vec Ideal S1920x512 .bf16) (xs5 : Vec Ideal S512x512 .bf16) (xs8 : Vec Ideal S2x24x256 .f32)
set_option maxHeartbeats 4000000 in
theorem C_xt1 : kernelRun0_C.sl.HS5_1 c i arg2 harg2 arg4 harg4 arg5 harg5 arg25 arg26 harg26 hc2 x0 x2 x3 xs8 = Pt.xt1 (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1) := by
  delta kernelRun0_C.sl.HS5_1 kernelRun0_C.sl.v440 kernelRun0_C.sl.r_65 kernelRun0_C.sl.v430 kernelRun0_C.sl.r_46 kernelRun0_C.sl.v246 kernelRun0_C.sl.r_19 kernelRun0_C.sl.r_18 kernelRun0_C.sl.r_64 kernelRun0_C.sl.v420 kernelRun0_C.sl.r_63 kernelRun0_C.sl.v410 kernelRun0_C.sl.r_62 kernelRun0_C.sl.v400 kernelRun0_C.sl.r_61 kernelRun0_C.sl.v390 kernelRun0_C.sl.r_60 kernelRun0_C.sl.v380 kernelRun0_C.sl.r_59 kernelRun0_C.sl.v370 kernelRun0_C.sl.r_58 kernelRun0_C.sl.v360 kernelRun0_C.sl.r_57 kernelRun0_C.sl.v350 kernelRun0_C.sl.r_56 kernelRun0_C.sl.v340 kernelRun0_C.sl.r_55 kernelRun0_C.sl.v330 kernelRun0_C.sl.r_54 kernelRun0_C.sl.v320 kernelRun0_C.sl.r_53 kernelRun0_C.sl.v310 kernelRun0_C.sl.r_52 kernelRun0_C.sl.v300 kernelRun0_C.sl.r_51 kernelRun0_C.sl.v290 kernelRun0_C.sl.r_50 kernelRun0_C.sl.v280 kernelRun0_C.sl.r_49 kernelRun0_C.sl.v270 kernelRun0_C.sl.r_48 kernelRun0_C.sl.v260 kernelRun0_C.sl.r_47 kernelRun0_C.sl.v250 kernelRun0_C.sl.r_45 kernelRun0_C.sl.r_44 kernelRun0_C.sl.v235 kernelRun0_C.sl.r_20 kernelRun0_C.sl.v41 kernelRun0_C.sl.r_43 kernelRun0_C.sl.v225 kernelRun0_C.sl.r_42 kernelRun0_C.sl.v215 kernelRun0_C.sl.r_41 kernelRun0_C.sl.v205 kernelRun0_C.sl.r_40 kernelRun0_C.sl.r_39 kernelRun0_C.sl.v195 kernelRun0_C.sl.r_38 kernelRun0_C.sl.v185 kernelRun0_C.sl.r_37 kernelRun0_C.sl.v175 kernelRun0_C.sl.r_36 kernelRun0_C.sl.v165 kernelRun0_C.sl.r_35 kernelRun0_C.sl.r_34 kernelRun0_C.sl.v155 kernelRun0_C.sl.r_33 kernelRun0_C.sl.v145 kernelRun0_C.sl.r_32 kernelRun0_C.sl.v135_1 kernelRun0_C.sl.r_31 kernelRun0_C.sl.v125 kernelRun0_C.sl.r_30 kernelRun0_C.sl.r_29 kernelRun0_C.sl.v115 kernelRun0_C.sl.r_28 kernelRun0_C.sl.v105 kernelRun0_C.sl.r_27 kernelRun0_C.sl.v95 kernelRun0_C.sl.r_26 kernelRun0_C.sl.v85 kernelRun0_C.sl.r_25 kernelRun0_C.sl.r_24 kernelRun0_C.sl.v75 kernelRun0_C.sl.r_23 kernelRun0_C.sl.v65 kernelRun0_C.sl.r_22 kernelRun0_C.sl.v55 kernelRun0_C.sl.r_21 kernelRun0_C.sl.v45
  rfl
theorem C_hin : kernelRun0_C.sl.r_66 c i arg3 harg3 arg18 harg18 hc2 x1 xs0 = Pt.hin (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1) := by
  delta kernelRun0_C.sl.r_66
  try delta View.readCov
  rfl
theorem C_bo : kernelRun0_C.sl.v474 c i arg2 harg2 arg6 harg6 arg7 harg7 arg9 harg9 arg10 harg10 arg12 harg12 arg13 harg13 arg15 harg15 arg16 harg16 arg22 hc1 x0 x4 x5 x7 x8 x10 x11 x13 x14 = Pt.bo (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1) := by
  delta kernelRun0_C.sl.v474
  try delta View.readCov
  rfl
theorem C_first : kernelRun0_C.sl.v469 c i arg2 harg2 arg4 harg4 arg5 harg5 arg23 harg23 arg25 arg26 harg26 hc2 x0 x2 x3 xs5 xs8 = View.readAt (Elt Ideal) arg23.view (Rect.unit (s := S512x512) ![0, 0] S512x512.size inb_S512x512_S512x512_0_0).toLoadRect (arg23.view.writes (Elt Ideal) (harg23.unread xs5) (Pt.xt1 (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1))) := by
  delta kernelRun0_C.sl.v469
  try delta View.readCov
  rw [C_xt1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8] <;> rfl
theorem C_proj : kernelRun0_C.sl.r_67 c i arg2 harg2 arg4 harg4 arg5 harg5 arg6 harg6 arg7 harg7 arg8 harg8 arg9 harg9 arg10 harg10 arg12 harg12 arg13 harg13 arg15 harg15 arg16 harg16 arg19 harg19 arg22 arg23 harg23 arg25 arg26 harg26 hc1 hc2 x0 x2 x3 x4 x5 x6 x7 x8 x10 x11 x13 x14 xs1 xs5 xs8 = Pt.proj (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1) := by
  delta kernelRun0_C.sl.r_67 kernelRun0_C.sl.v471
  try delta View.readCov
  rw [C_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8] <;> (delta Pt.proj Pt.par ptOf; dsimp only; try rfl)
theorem C_mid : kernelRun0_C.sl.HS0_1 c i arg2 harg2 arg3 harg3 arg4 harg4 arg5 harg5 arg6 harg6 arg7 harg7 arg8 harg8 arg9 harg9 arg10 harg10 arg12 harg12 arg13 harg13 arg15 harg15 arg16 harg16 arg18 harg18 arg19 harg19 arg22 arg23 harg23 arg25 arg26 harg26 hc1 hc2 x0 x1 x2 x3 x4 x5 x6 x7 x8 x10 x11 x13 x14 xs0 xs1 xs5 xs8 = Pt.mid (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1) := by
  delta kernelRun0_C.sl.HS0_1
  try delta View.readCov
  rw [C_hin c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8, C_proj c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8, C_bo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8] <;> rfl
theorem C_xt2 : kernelRun0_C.sl.HS5_2 c i arg2 harg2 arg3 harg3 arg4 harg4 arg5 harg5 arg6 harg6 arg7 harg7 arg8 harg8 arg9 harg9 arg10 harg10 arg12 harg12 arg13 harg13 arg15 harg15 arg16 harg16 arg18 harg18 arg19 harg19 arg22 arg23 harg23 arg25 arg26 harg26 hc1 hc2 x0 x1 x2 x3 x4 x5 x6 x7 x8 x10 x11 x13 x14 xs0 xs1 xs5 xs8 = Pt.xt2 (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1) := by
  delta kernelRun0_C.sl.HS5_2 kernelRun0_C.sl.v741 kernelRun0_C.sl.v738 kernelRun0_C.sl.r_86 kernelRun0_C.sl.r_80 kernelRun0_C.sl.r_76 kernelRun0_C.sl.r_70 kernelRun0_C.sl.r_68 kernelRun0_C.sl.r_75 kernelRun0_C.sl.r_69 kernelRun0_C.sl.r_74 kernelRun0_C.sl.r_72 kernelRun0_C.sl.r_73 kernelRun0_C.sl.r_71 kernelRun0_C.sl.r_78 kernelRun0_C.sl.r_85 kernelRun0_C.sl.r_79 kernelRun0_C.sl.r_84 kernelRun0_C.sl.r_82 kernelRun0_C.sl.r_83 kernelRun0_C.sl.r_81 kernelRun0_C.sl.r_77
  try delta View.readCov
  rw [C_hin c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8, C_proj c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8, C_bo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8, C_xt1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8] <;> rfl
theorem C_xt : kernelRun0_C.sl.v756 c i arg2 harg2 arg3 harg3 arg4 harg4 arg5 harg5 arg6 harg6 arg7 harg7 arg8 harg8 arg9 harg9 arg10 harg10 arg12 harg12 arg13 harg13 arg15 harg15 arg16 harg16 arg18 harg18 arg19 harg19 arg22 arg23 harg23 arg25 arg26 harg26 hc1 hc2 x0 x1 x2 x3 x4 x5 x6 x7 x8 x10 x11 x13 x14 xs0 xs1 xs5 xs8 = Pt.xt (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1) := by
  delta kernelRun0_C.sl.v756
  try delta View.readCov
  rw [C_xt2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8] <;> rfl
theorem C_hid : kernelRun0_C.sl.HS6_4 c i arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 arg20 harg20 arg22 arg23 harg23 arg25 arg26 harg26 hc1 hc2 x0 x1 x2 x3 x4 x5 x6 x7 x8 x9 x10 x11 x13 x14 xs0 xs1 xs2 xs5 xs8 = Pt.hid (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1) := by
  delta kernelRun0_C.sl.HS6_4 kernelRun0_C.sl.v762 kernelRun0_C.sl.v759 kernelRun0_C.sl.cst_254 kernelRun0_C.sl.r_87 kernelRun0_C.sl.r_89 kernelRun0_C.sl.v785 kernelRun0_C.sl.v782 kernelRun0_C.sl.r_88 kernelRun0_C.sl.v808 kernelRun0_C.sl.v805 kernelRun0_C.sl.v831 kernelRun0_C.sl.v828 kernelRun0_C.sl.r_90
  try delta View.readCov
  rw [C_xt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8] <;> (delta Pt.hid Pt.par Pt.wrow ptOf; dsimp only; try rfl)
theorem C_lm : kernelRun0_C.sl.v850 c i arg2 harg2 arg3 harg3 arg4 harg4 arg5 harg5 arg6 harg6 arg7 harg7 arg8 harg8 arg9 harg9 arg10 harg10 arg12 harg12 arg13 harg13 arg15 harg15 arg16 harg16 arg18 harg18 arg19 harg19 arg22 arg23 harg23 arg25 arg26 harg26 hc1 hc2 x0 x1 x2 x3 x4 x5 x6 x7 x8 x10 x11 x13 x14 xs0 xs1 xs5 xs8 = Pt.lm (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1) := by
  delta kernelRun0_C.sl.v850
  try delta View.readCov
  rw [C_mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8] <;> rfl
theorem C_lh : kernelRun0_C.sl.v853 c i arg2 harg2 arg3 harg3 arg4 harg4 arg5 harg5 arg6 harg6 arg7 harg7 arg8 harg8 arg9 harg9 arg10 harg10 arg11 harg11 arg12 harg12 arg13 harg13 arg15 harg15 arg16 harg16 arg18 harg18 arg19 harg19 arg20 harg20 arg22 arg23 harg23 arg24 arg25 arg26 harg26 hc1 hc2 x0 x1 x2 x3 x4 x5 x6 x7 x8 x9 x10 x11 x13 x14 xs0 xs1 xs2 xs5 xs8 = Pt.lh (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1) := by
  delta kernelRun0_C.sl.v853
  try delta View.readCov
  rw [C_hid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8] <;> rfl
theorem C_new : kernelRun0_C.sl.r_91 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8 = Pt.new (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1) := by
  delta kernelRun0_C.sl.r_91 kernelRun0_C.sl.v858 kernelRun0_C.sl.v855 kernelRun0_C.sl.v852
  try delta View.readCov
  rw [C_lm c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8, C_lh c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8] <;> (delta Pt.new Pt.lw Pt.ls Pt.lb Pt.par ptOf; dsimp only; try rfl)
theorem C_pre : kernelRun0_C.sl.r_92 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8 = k0_pay181 (Pt.lm (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1)) (Pt.lw (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1)) (Pt.lh (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1)) (Pt.ls (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1)) (Pt.lb (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1)) := by
  delta kernelRun0_C.sl.r_92 kernelRun0_C.sl.v858 kernelRun0_C.sl.v855 kernelRun0_C.sl.v852
  try delta View.readCov
  rw [C_lm c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8, C_lh c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8] <;> (delta Pt.lw Pt.ls Pt.lb Pt.par ptOf; dsimp only; try rfl)
theorem C_outs : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8).1 = Pt.outs (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1) := by
  delta kernelRun0_C
  dsimp only
  try delta View.readCov
  rw [C_new c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8, C_pre c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8] <;> rfl
theorem C_kept : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8).2.1 = Pt.kept (ptOf i hc2 arg2 harg2 arg3 harg3 arg18 arg19 arg20 arg21 arg22 arg23 arg24 arg25 arg26 (harg18.unread xs0) arg18.view.junk (arg19.view.writes (Elt Ideal) (harg19.unread xs1) (kernelRun0_C.sl.HS1_2 c arg8 harg8 x6)) (arg20.view.writes (Elt Ideal) (harg20.unread xs2) (kernelRun0_C.sl.HS2_8 c arg11 harg11 x9)) (arg21.view.writes (Elt Ideal) arg21.view.junk (kernelRun0_C.sl.HS3_2 c arg14 harg14 x12)) (arg22.view.writes (Elt Ideal) arg22.view.junk (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (harg23.unread xs5) arg24.view.junk (arg26.view.writes (Elt Ideal) (harg26.unread xs8) (kernelRun0_C.sl.HS8_2 c arg5 harg5 x3)) (kernelRun0_C.sl.HS7_2 c arg4 harg4 x2) x0 x1) := by
  delta kernelRun0_C
  dsimp only
  try delta View.readCov
  rw [C_lm c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8, C_lh c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8, C_mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 arg22 arg23 harg23 arg24 arg25 arg26 harg26 hc1 hc2 x0 x1 x2 x3 x4 x5 x6 x7 x8 x9 x10 x11 x12 x13 x14 xs0 xs1 xs2 xs5 xs8] <;> (delta Pt.kept Pt.lw Pt.ls Pt.lb Pt.par ptOf; dsimp only; try rfl)
set_option maxHeartbeats 2000000 in
theorem C_ctx : kernelRun0_C.sl.HS7_2 c arg4 harg4 x2 = ctxL (View.readAt (Elt Ideal) arg4.view (Rect.unit (s := S1x2x256x480) ![0, 0, 0, 0] S1x1x256x480.size inb_S1x2x256x480_S1x1x256x480_0_0_0_0).toLoadRect (harg4.unread x2)) (View.readAt (Elt Ideal) arg4.view (Rect.unit (s := S1x2x256x480) ![0, 1, 0, 0] S1x1x256x480.size inb_S1x2x256x480_S1x1x256x480_0_1_0_0).toLoadRect (harg4.unread x2)) := by
  delta kernelRun0_C.sl.HS7_2
  rfl
set_option maxHeartbeats 2000000 in
theorem C_den : kernelRun0_C.sl.HS8_2 c arg5 harg5 x3 = denL (View.readAt (Elt Ideal) arg5.view (Rect.unit (s := S1x2x20x256) ![0, 0, 0, 0] S1x1x20x256.size inb_S1x2x20x256_S1x1x20x256_0_0_0_0).toLoadRect (harg5.unread x3)) (View.readAt (Elt Ideal) arg5.view (Rect.unit (s := S1x2x20x256) ![0, 1, 0, 0] S1x1x20x256.size inb_S1x2x20x256_S1x1x20x256_0_1_0_0).toLoadRect (harg5.unread x3)) := by
  delta kernelRun0_C.sl.HS8_2
  rfl
set_option maxHeartbeats 2000000 in
theorem C_wo : kernelRun0_C.sl.HS1_2 c arg8 harg8 x6 = woL (ldw harg8 x6 256 224 inb_S480x480_S480x224_0_256) (ldw harg8 x6 0 256 inb_S480x480_S480x256_0_0) := by
  delta kernelRun0_C.sl.HS1_2 kernelRun0_C.sl.v30 kernelRun0_C.sl.cst_24 kernelRun0_C.sl.r kernelRun0_C.sl.v51
  rfl
set_option maxHeartbeats 2000000 in
theorem C_w1 : kernelRun0_C.sl.HS2_8 c arg11 harg11 x9 = w1L (ldw harg11 x9 1792 128 inb_S480x1920_S480x128_0_1792) (ldw harg11 x9 1536 256 inb_S480x1920_S480x256_0_1536) (ldw harg11 x9 1280 256 inb_S480x1920_S480x256_0_1280) (ldw harg11 x9 1024 256 inb_S480x1920_S480x256_0_1024) (ldw harg11 x9 768 256 inb_S480x1920_S480x256_0_768) (ldw harg11 x9 512 256 inb_S480x1920_S480x256_0_512) (ldw harg11 x9 256 256 inb_S480x1920_S480x256_0_256) (ldw harg11 x9 0 256 inb_S480x1920_S480x256_0_0) := by
  delta kernelRun0_C.sl.HS2_8 kernelRun0_C.sl.v72 kernelRun0_C.sl.v93 kernelRun0_C.sl.v114 kernelRun0_C.sl.v135 kernelRun0_C.sl.v156 kernelRun0_C.sl.v177 kernelRun0_C.sl.v164 kernelRun0_C.sl.v163 kernelRun0_C.sl.r_1 kernelRun0_C.sl.v198 kernelRun0_C.sl.v219
  rfl
set_option maxHeartbeats 2000000 in
theorem C_w2 : kernelRun0_C.sl.HS3_2 c arg14 harg14 x12 = w2L (ldw harg14 x12 256 224 inb_S1920x480_S1920x224_0_256) (ldw harg14 x12 0 256 inb_S1920x480_S1920x256_0_0) := by
  delta kernelRun0_C.sl.HS3_2 kernelRun0_C.sl.v240 kernelRun0_C.sl.v261
  rfl
set_option maxHeartbeats 2000000 in
theorem C_par : kernelRun0_C.sl.HS4_54 c i arg2 harg2 arg6 harg6 arg7 harg7 arg9 harg9 arg10 harg10 arg12 harg12 arg13 harg13 arg15 harg15 arg16 harg16 hc1 x0 x4 x5 x7 x8 x10 x11 x13 x14 = parL (View.readAt (Elt Ideal) arg2.view (Rect.unit (s := S12x4) (k0_off1 i) S1x1.size (k0_off1_inb i hc1)).toLoadRect (harg2.unread x0) (Shape.Idx.first (show 0 < S1x1.numel from numel1_S1x1.symm ▸ Nat.one_pos))) (View.readAt (Elt Ideal) arg2.view (Rect.unit (s := S12x4) (k0_off2 i) S1x1.size (k0_off2_inb i hc1)).toLoadRect (harg2.unread x0) (Shape.Idx.first (show 0 < S1x1.numel from numel1_S1x1.symm ▸ Nat.one_pos))) (View.readAt (Elt Ideal) arg2.view (Rect.unit (s := S12x4) (k0_off3 i) S1x1.size (k0_off3_inb i hc1)).toLoadRect (harg2.unread x0) (Shape.Idx.first (show 0 < S1x1.numel from numel1_S1x1.symm ▸ Nat.one_pos))) (View.readAt (Elt Ideal) arg6.view (Rect.unit (s := S12x480) (k0_off4 i) S1x480.size (k0_off4_inb i hc1)).toLoadRect (harg6.unread x4)) (View.readAt (Elt Ideal) arg7.view (Rect.unit (s := S12x480) (k0_off4 i) S1x480.size (k0_off4_inb i hc1)).toLoadRect (harg7.unread x5)) (View.readAt (Elt Ideal) arg9.view (Rect.unit (s := S12x480) (k0_off4 i) S1x480.size (k0_off4_inb i hc1)).toLoadRect (harg9.unread x7)) (View.readAt (Elt Ideal) arg10.view (Rect.unit (s := S12x480) (k0_off4 i) S1x480.size (k0_off4_inb i hc1)).toLoadRect (harg10.unread x8)) (View.readAt (Elt Ideal) arg15.view (Rect.unit (s := S12x480) (k0_off4 i) S1x480.size (k0_off4_inb i hc1)).toLoadRect (harg15.unread x13)) (View.readAt (Elt Ideal) arg16.view (Rect.unit (s := S12x480) (k0_off4 i) S1x480.size (k0_off4_inb i hc1)).toLoadRect (harg16.unread x14)) (View.readAt (Elt Ideal) arg12.view (Rect.unit (s := S12x1920) (k0_off5 i) S1x1920.size (k0_off5_inb i hc1)).toLoadRect (harg12.unread x10)) (View.readAt (Elt Ideal) arg13.view (Rect.unit (s := S12x1920) (k0_off5 i) S1x1920.size (k0_off5_inb i hc1)).toLoadRect (harg13.unread x11)) := by
  delta kernelRun0_C.sl.HS4_54 kernelRun0_C.sl.r_5 kernelRun0_C.sl.r_3 kernelRun0_C.sl.r_7 kernelRun0_C.sl.r_6 kernelRun0_C.sl.r_2 kernelRun0_C.sl.r_8 kernelRun0_C.sl.r_9 kernelRun0_C.sl.r_11 kernelRun0_C.sl.r_10 kernelRun0_C.sl.r_12 kernelRun0_C.sl.r_14 kernelRun0_C.sl.r_13 kernelRun0_C.sl.r_15 kernelRun0_C.sl.r_16 kernelRun0_C.sl.r_4 kernelRun0_C.sl.r_17
  rfl
theorem C_run_wo : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8).2.2.1 = kernelRun0_C.sl.HS1_2 c arg8 harg8 x6 := by
  delta kernelRun0_C
  rfl
theorem C_run_w1 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8).2.2.2.1 = kernelRun0_C.sl.HS2_8 c arg11 harg11 x9 := by
  delta kernelRun0_C
  rfl
theorem C_run_w2 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8).2.2.2.2.1 = kernelRun0_C.sl.HS3_2 c arg14 harg14 x12 := by
  delta kernelRun0_C
  rfl
theorem C_run_par : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8).2.2.2.2.2.1 = kernelRun0_C.sl.HS4_54 c i arg2 harg2 arg6 harg6 arg7 harg7 arg9 harg9 arg10 harg10 arg12 harg12 arg13 harg13 arg15 harg15 arg16 harg16 hc1 x0 x4 x5 x7 x8 x10 x11 x13 x14 := by
  delta kernelRun0_C
  rfl
end
end Cert.KernelIdeal.Val
end
-- ==== Proof.KernelStepC.lean ====
/- What the body leaves at a later layer's first point: the block it writes out, the streams it keeps and what its buffers hold. -/
module
public import proofs.«01_k».proof.Proof.KernelHold
public import proofs.«01_k».proof.Proof.KernelRunC
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

theorem C_lists (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : ¬cond0_0 i) (hc1 : cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32) (xs0 : Vec Ideal S16x480x512 .f32) (xs1 : Vec Ideal S480x512 .bf16) (xs2 : Vec Ideal S1920x512 .bf16) (xs5 : Vec Ideal S512x512 .bf16) (xs8 : Vec Ideal S2x24x256 .f32)
    (l : Fin 12) (hl : (i 0).val = l.val) :
    (∀ (v : View sig .tc .vmem S480x512 .bf16) f (_ : ∀ y : S480x512.Idx, 480 ≤ (y 1).val → v.read (Elt Ideal) f y = 0) y, v.read (Elt Ideal) (v.writes (Elt Ideal) f (kernelRun0_C.sl.HS1_2 c arg8 harg8 x6)) y = gWo (lp l x0 x4 x5 x6 x7 x8 x9 x10 x11 x12 x13 x14) y)
    ∧ (∀ (v : View sig .tc .vmem S1920x512 .bf16) f (_ : ∀ y : S1920x512.Idx, 480 ≤ (y 1).val → v.read (Elt Ideal) f y = 0) y, v.read (Elt Ideal) (v.writes (Elt Ideal) f (kernelRun0_C.sl.HS2_8 c arg11 harg11 x9)) y = gW1 (lp l x0 x4 x5 x6 x7 x8 x9 x10 x11 x12 x13 x14) y)
    ∧ (∀ (v : View sig .tc .vmem S480x1920 .bf16) f y, v.read (Elt Ideal) (v.writes (Elt Ideal) f (kernelRun0_C.sl.HS3_2 c arg14 harg14 x12)) y = gW2 (lp l x0 x4 x5 x6 x7 x8 x9 x10 x11 x12 x13 x14) y)
    ∧ (∀ (v : View sig .tc .vmem S7680x128 .f32) f (r : Fin 7680) (j : Fin 128), 960 ≤ r.val → v.read (Elt Ideal) (v.writes (Elt Ideal) f (kernelRun0_C.sl.HS4_54 c i arg2 harg2 arg6 harg6 arg7 harg7 arg9 harg9 arg10 harg10 arg12 harg12 arg13 harg13 arg15 harg15 arg16 harg16 hc1 x0 x4 x5 x7 x8 x10 x11 x13 x14)) (ix2 r j) = prow (lp l x0 x4 x5 x6 x7 x8 x9 x10 x11 x12 x13 x14) r.val) := by
  refine ⟨?_, ?_, ?_, ?_⟩
  · intro v f hf y
    rw [C_wo]; exact woOf_read harg8 v f hf y
  · intro v f hf y
    rw [C_w1]; exact w1Of_read harg11 v f hf y
  · intro v f y
    rw [C_w2]; exact w2Of_read harg14 v f y
  · intro v f r j hr
    rw [C_par]; exact parOf_read hc1 harg2 harg6 harg7 harg9 harg10 harg15 harg16 harg12 harg13 x0 x4 x5 x7 x8 x13 x14 x10 x11 l hl x6 x9 x12 v f r j hr

theorem C_out (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : ¬cond0_0 i) (hc1 : cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32) (xs0 : Vec Ideal S16x480x512 .f32) (xs1 : Vec Ideal S480x512 .bf16) (xs2 : Vec Ideal S1920x512 .bf16) (xs5 : Vec Ideal S512x512 .bf16) (xs8 : Vec Ideal S2x24x256 .f32)
    (l : Fin 12) (hl : (i 0).val = l.val) (h : Fin 512 → Fin 480 → EReal)
    (h0 : l.val = 0 → ∀ (t : Fin 512) d, x1 (ix3 ⟨t.val / 256, by omega⟩ ⟨t.val % 256, by omega⟩ d) = h t d)
    (h1 : l.val ≠ 0 → ∀ (t : Fin 512) d, xs0 (ix3 (i 1) d t) = h t d)
    (hf1 : ∀ y : S480x512.Idx, 480 ≤ (y 1).val → xs1 y = 0) (hf2 : ∀ y : S1920x512.Idx, 480 ≤ (y 1).val → xs2 y = 0)
    (a : Fin 2) (q : Fin 256) (d : Fin 480) :
    out0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8 (ix4 0 a q d) = Spec.kout inv480 root (lp l x0 x4 x5 x6 x7 x8 x9 x10 x11 x12 x13 x14) (Pt.ms (lp l x0 x4 x5 x6 x7 x8 x9 x10 x11 x12 x13 x14) h (raws x2) (dens x3) ⟨256 * a.val + q.val, by omega⟩) d := by
  refine (congrArg (fun L => VO0_15.read (Elt Ideal) (VO0_15.writes (Elt Ideal) VO0_15.junk L) (ix4 0 a q d)) (C_outs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8)).trans ?_
  refine (outs_read VO0_15 _ a q d).trans (Pt.Good.new ?_ d _)
  exact ptOf_good (i := i) l hl (lp l x0 x4 x5 x6 x7 x8 x9 x10 x11 x12 x13 x14) rfl rfl h h0 (fun e t d => (congrFun (harg18.read_unread xs0) _).trans (h1 e t d))
      ((C_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8 l hl).1 arg19.view _ fun y hy => (congrFun (harg19.read_unread xs1) y).trans (hf1 y hy)) ((C_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8 l hl).2.1 arg20.view _ fun y hy => (congrFun (harg20.read_unread xs2) y).trans (hf2 y hy))
      ((C_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8 l hl).2.2.1 arg21.view _) ((C_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8 l hl).2.2.2 arg22.view _)
      (C_ctx ..) _ (congrArg (arg26.view.writes (Elt Ideal) (harg26.unread xs8)) (C_den ..))

theorem C_keep (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : ¬cond0_0 i) (hc1 : cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32) (xs0 : Vec Ideal S16x480x512 .f32) (xs1 : Vec Ideal S480x512 .bf16) (xs2 : Vec Ideal S1920x512 .bf16) (xs5 : Vec Ideal S512x512 .bf16) (xs8 : Vec Ideal S2x24x256 .f32)
    (l : Fin 12) (hl : (i 0).val = l.val) (h : Fin 512 → Fin 480 → EReal)
    (h0 : l.val = 0 → ∀ (t : Fin 512) d, x1 (ix3 ⟨t.val / 256, by omega⟩ ⟨t.val % 256, by omega⟩ d) = h t d)
    (h1 : l.val ≠ 0 → ∀ (t : Fin 512) d, xs0 (ix3 (i 1) d t) = h t d)
    (hf1 : ∀ y : S480x512.Idx, 480 ≤ (y 1).val → xs1 y = 0) (hf2 : ∀ y : S1920x512.Idx, 480 ≤ (y 1).val → xs2 y = 0)
    (r : Fin 16) (d : Fin 480) (t : Fin 512) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8 (ix3 r d t) = if r.val = (i 1).val then Spec.kout inv480 root (lp l x0 x4 x5 x6 x7 x8 x9 x10 x11 x12 x13 x14) (Pt.ms (lp l x0 x4 x5 x6 x7 x8 x9 x10 x11 x12 x13 x14) h (raws x2) (dens x3) t) d else xs0 (ix3 r d t) := by
  refine (congrArg (fun L => arg18.view.read (Elt Ideal) (arg18.view.writes (Elt Ideal) (harg18.unread xs0) L) (ix3 r d t)) (C_kept c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8)).trans ?_
  refine (kept_read arg18.view (i 1) (k0_off7_eq i) _ r d t).trans ?_
  split
  · refine Pt.Good.new ?_ d t
    exact ptOf_good (i := i) l hl (lp l x0 x4 x5 x6 x7 x8 x9 x10 x11 x12 x13 x14) rfl rfl h h0 (fun e t d => (congrFun (harg18.read_unread xs0) _).trans (h1 e t d))
      ((C_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8 l hl).1 arg19.view _ fun y hy => (congrFun (harg19.read_unread xs1) y).trans (hf1 y hy)) ((C_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8 l hl).2.1 arg20.view _ fun y hy => (congrFun (harg20.read_unread xs2) y).trans (hf2 y hy))
      ((C_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8 l hl).2.2.1 arg21.view _) ((C_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8 l hl).2.2.2 arg22.view _)
      (C_ctx ..) _ (congrArg (arg26.view.writes (Elt Ideal) (harg26.unread xs8)) (C_den ..))
  · exact congrFun (harg18.read_unread xs0) _

theorem C_s1 (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : ¬cond0_0 i) (hc1 : cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32) (xs0 : Vec Ideal S16x480x512 .f32) (xs1 : Vec Ideal S480x512 .bf16) (xs2 : Vec Ideal S1920x512 .bf16) (xs5 : Vec Ideal S512x512 .bf16) (xs8 : Vec Ideal S2x24x256 .f32)
    (l : Fin 12) (hl : (i 0).val = l.val)
    (hf1 : ∀ y : S480x512.Idx, 480 ≤ (y 1).val → xs1 y = 0) (hf2 : ∀ y : S1920x512.Idx, 480 ≤ (y 1).val → xs2 y = 0) (y) : sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8 y = gWo (lp l x0 x4 x5 x6 x7 x8 x9 x10 x11 x12 x13 x14) y :=
  (congrArg (fun L => arg19.view.read (Elt Ideal) (arg19.view.writes (Elt Ideal) (harg19.unread xs1) L) y) (C_run_wo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8)).trans (((C_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8 l hl).1 arg19.view _ fun y hy => (congrFun (harg19.read_unread xs1) y).trans (hf1 y hy)) y)

theorem C_s2 (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : ¬cond0_0 i) (hc1 : cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32) (xs0 : Vec Ideal S16x480x512 .f32) (xs1 : Vec Ideal S480x512 .bf16) (xs2 : Vec Ideal S1920x512 .bf16) (xs5 : Vec Ideal S512x512 .bf16) (xs8 : Vec Ideal S2x24x256 .f32)
    (l : Fin 12) (hl : (i 0).val = l.val)
    (hf1 : ∀ y : S480x512.Idx, 480 ≤ (y 1).val → xs1 y = 0) (hf2 : ∀ y : S1920x512.Idx, 480 ≤ (y 1).val → xs2 y = 0) (y) : sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8 y = gW1 (lp l x0 x4 x5 x6 x7 x8 x9 x10 x11 x12 x13 x14) y :=
  (congrArg (fun L => arg20.view.read (Elt Ideal) (arg20.view.writes (Elt Ideal) (harg20.unread xs2) L) y) (C_run_w1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8)).trans (((C_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8 l hl).2.1 arg20.view _ fun y hy => (congrFun (harg20.read_unread xs2) y).trans (hf2 y hy)) y)

theorem C_s3 (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : ¬cond0_0 i) (hc1 : cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32) (xs0 : Vec Ideal S16x480x512 .f32) (xs1 : Vec Ideal S480x512 .bf16) (xs2 : Vec Ideal S1920x512 .bf16) (xs5 : Vec Ideal S512x512 .bf16) (xs8 : Vec Ideal S2x24x256 .f32)
    (l : Fin 12) (hl : (i 0).val = l.val)
    (hf1 : ∀ y : S480x512.Idx, 480 ≤ (y 1).val → xs1 y = 0) (hf2 : ∀ y : S1920x512.Idx, 480 ≤ (y 1).val → xs2 y = 0) (y) : sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8 y = gW2 (lp l x0 x4 x5 x6 x7 x8 x9 x10 x11 x12 x13 x14) y :=
  (congrArg (fun L => VS0_3.read (Elt Ideal) (VS0_3.writes (Elt Ideal) VS0_3.junk L) y) (C_run_w2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8)).trans (((C_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8 l hl).2.2.1 VS0_3 _) y)

theorem C_s4 (c : Dev nD) (i : grid0.Coords) (arg2 : Memref sig .tc .smem S12x4 .f32) (harg2 : arg2.IsWhole) (arg3 : Memref sig .tc .vmem S2x256x480 .f32) (harg3 : arg3.IsWhole) (arg4 : Memref sig .tc .vmem S1x2x256x480 .f32) (harg4 : arg4.IsWhole) (arg5 : Memref sig .tc .vmem S1x2x20x256 .f32) (harg5 : arg5.IsWhole) (arg6 : Memref sig .tc .vmem S12x480 .f32) (harg6 : arg6.IsWhole) (arg7 : Memref sig .tc .vmem S12x480 .f32) (harg7 : arg7.IsWhole) (arg8 : Memref sig .tc .vmem S1x480x480 .i8) (harg8 : arg8.IsWhole) (arg9 : Memref sig .tc .vmem S12x480 .f32) (harg9 : arg9.IsWhole) (arg10 : Memref sig .tc .vmem S12x480 .f32) (harg10 : arg10.IsWhole) (arg11 : Memref sig .tc .vmem S1x480x1920 .i8) (harg11 : arg11.IsWhole) (arg12 : Memref sig .tc .vmem S12x1920 .f32) (harg12 : arg12.IsWhole) (arg13 : Memref sig .tc .vmem S12x1920 .f32) (harg13 : arg13.IsWhole) (arg14 : Memref sig .tc .vmem S1x1920x480 .i8) (harg14 : arg14.IsWhole) (arg15 : Memref sig .tc .vmem S12x480 .f32) (harg15 : arg15.IsWhole) (arg16 : Memref sig .tc .vmem S12x480 .f32) (harg16 : arg16.IsWhole) (arg17 : Memref sig .tc .vmem S1x2x256x480 .bf16) (harg17 : arg17.IsWhole) (arg18 : Memref sig .tc .vmem S16x480x512 .f32) (harg18 : arg18.IsWhole) (arg19 : Memref sig .tc .vmem S480x512 .bf16) (harg19 : arg19.IsWhole) (arg20 : Memref sig .tc .vmem S1920x512 .bf16) (harg20 : arg20.IsWhole) (arg21 : Memref sig .tc .vmem S480x1920 .bf16) (harg21 : arg21.IsWhole) (arg22 : Memref sig .tc .vmem S7680x128 .f32) (harg22 : arg22.IsWhole) (arg23 : Memref sig .tc .vmem S512x512 .bf16) (harg23 : arg23.IsWhole) (arg24 : Memref sig .tc .vmem S1920x512 .bf16) (harg24 : arg24.IsWhole) (arg25 : Memref sig .tc .vmem S2x480x256 .f32) (harg25 : arg25.IsWhole) (arg26 : Memref sig .tc .vmem S2x24x256 .f32) (harg26 : arg26.IsWhole) (hc0 : ¬cond0_0 i) (hc1 : cond0_1 i) (hc2 : cond0_2 i) (hc3 : ¬cond0_3 i)
    (x0 : Vec Ideal S12x4 .f32) (x1 : Vec Ideal S2x256x480 .f32) (x2 : Vec Ideal S1x2x256x480 .f32) (x3 : Vec Ideal S1x2x20x256 .f32) (x4 : Vec Ideal S12x480 .f32) (x5 : Vec Ideal S12x480 .f32) (x6 : Vec Ideal S1x480x480 .i8) (x7 : Vec Ideal S12x480 .f32) (x8 : Vec Ideal S12x480 .f32) (x9 : Vec Ideal S1x480x1920 .i8) (x10 : Vec Ideal S12x1920 .f32) (x11 : Vec Ideal S12x1920 .f32) (x12 : Vec Ideal S1x1920x480 .i8) (x13 : Vec Ideal S12x480 .f32) (x14 : Vec Ideal S12x480 .f32) (xs0 : Vec Ideal S16x480x512 .f32) (xs1 : Vec Ideal S480x512 .bf16) (xs2 : Vec Ideal S1920x512 .bf16) (xs5 : Vec Ideal S512x512 .bf16) (xs8 : Vec Ideal S2x24x256 .f32)  (xs4 : Vec Ideal S7680x128 .f32)
    (l : Fin 12) (hl : (i 0).val = l.val)
    (hf1 : ∀ y : S480x512.Idx, 480 ≤ (y 1).val → xs1 y = 0) (hf2 : ∀ y : S1920x512.Idx, 480 ≤ (y 1).val → xs2 y = 0) (r : Fin 7680) (j : Fin 128) (hr : 960 ≤ r.val) :
    sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8 xs4 (ix2 r j) = prow (lp l x0 x4 x5 x6 x7 x8 x9 x10 x11 x12 x13 x14) r.val :=
  (congrArg (fun L => arg22.view.read (Elt Ideal) (arg22.view.writes (Elt Ideal) (harg22.unread xs4) L) (ix2 r j)) (C_run_par c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8)).trans ((C_lists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 xs0 xs1 xs2 xs5 xs8 l hl).2.2.2 arg22.view _ r j hr)

end Cert.KernelIdeal.Val
end
-- ==== Proof.KernelInvC.lean ====
/- A point that opens a layer keeps what the buffers hold. -/
module
public import proofs.«01_k».proof.Proof.KernelGrid
public import proofs.«01_k».proof.Proof.KernelStepC
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

variable (m : (ℓ : Loc nD τ sig) → Buf (Elt Ideal) ℓ) (c : Dev nD) (t : Fin cfg0.N)
  (hpos : ∀ i, (0 : EReal) < (m ((c : Thread nD τ).loc main_arg14) : Vec Ideal S12x4 .f32) i)
  (hden : ∀ i, (m ((c : Thread nD τ).loc main_arg2) : Vec Ideal S12x32x20x256 .f32) i ≠ (0 : EReal))

theorem outsC_0 (h0 : ¬t.val % 208 = 0) (h1 : t.val / 16 % 13 + 12 * (t.val % 16) ≤ 11) (h2 : t.val < 192) (h3 : ¬192 ≤ t.val) :
    (outsAt0 m c t.val t.isLt).1 = out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_C m c t h0 h1 h2 h3]

theorem outsC_1 (h0 : ¬t.val % 208 = 0) (h1 : t.val / 16 % 13 + 12 * (t.val % 16) ≤ 11) (h2 : t.val < 192) (h3 : ¬192 ≤ t.val) :
    (outsAt0 m c t.val t.isLt).2.1 = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_C m c t h0 h1 h2 h3]

theorem outsC_2 (h0 : ¬t.val % 208 = 0) (h1 : t.val / 16 % 13 + 12 * (t.val % 16) ≤ 11) (h2 : t.val < 192) (h3 : ¬192 ≤ t.val) :
    (outsAt0 m c t.val t.isLt).2.2.1 = sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_C m c t h0 h1 h2 h3]

theorem outsC_3 (h0 : ¬t.val % 208 = 0) (h1 : t.val / 16 % 13 + 12 * (t.val % 16) ≤ 11) (h2 : t.val < 192) (h3 : ¬192 ≤ t.val) :
    (outsAt0 m c t.val t.isLt).2.2.2.1 = sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_C m c t h0 h1 h2 h3]

theorem outsC_4 (h0 : ¬t.val % 208 = 0) (h1 : t.val / 16 % 13 + 12 * (t.val % 16) ≤ 11) (h2 : t.val < 192) (h3 : ¬192 ≤ t.val) :
    (outsAt0 m c t.val t.isLt).2.2.2.2.1 = sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_C m c t h0 h1 h2 h3]

theorem outsC_5 (h0 : ¬t.val % 208 = 0) (h1 : t.val / 16 % 13 + 12 * (t.val % 16) ≤ 11) (h2 : t.val < 192) (h3 : ¬192 ≤ t.val) :
    (outsAt0 m c t.val t.isLt).2.2.2.2.2.1 = sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (outsAt0 m c (t.val - 1) (Nat.lt_of_le_of_lt (Nat.sub_le _ _) t.isLt)).2.2.2.2.2.1 := by
  rw [outsAt0_C m c t h0 h1 h2 h3]

set_option maxHeartbeats 1000000 in
include hpos hden in
/-- Case C of the step: the buffers after the point, from the buffers before it. -/
theorem inv_C (h0 : ¬t.val % 208 = 0) (h1 : t.val / 16 % 13 + 12 * (t.val % 16) ≤ 11) (h2 : t.val < 192) (h3 : ¬192 ≤ t.val)
    (IH : Inv m c (t.val - 1) (Nat.lt_of_le_of_lt (Nat.sub_le _ _) t.isLt)) :
    Inv m c t.val t.isLt := by
  have hx : (Spec.num (t.val / 16)).val ≠ 0 → ∀ (k : Fin 512) d,
      (outsAt0 m c (t.val - 1) (Nat.lt_of_le_of_lt (Nat.sub_le _ _) t.isLt)).2.1 (ix3 ((grid0.coords t) 1) d k) = row m c (t.val % 16) k.val (t.val / 16) d := fun h k d => by
    have h' : t.val / 16 ≠ 0 := fun e => h (by show t.val / 16 % 12 = 0; rw [e])
    have hc : cnt (t.val - 1) ((grid0.coords t) 1).val = t.val / 16 := by
      rw [c1]; unfold cnt; split_ifs <;> omega
    exact (IH.h ((grid0.coords t) 1) d k (by rw [hc]; omega)).trans (row_congr m c (c1 t) rfl hc d)
  have hf1 : ∀ y : S480x512.Idx, 480 ≤ (y 1).val → (outsAt0 m c (t.val - 1) (Nat.lt_of_le_of_lt (Nat.sub_le _ _) t.isLt)).2.2.1 y = (0 : EReal) := fun y hy =>
    (IH.wo (by omega) y).trans (dif_neg (by omega))
  have hf2 : ∀ y : S1920x512.Idx, 480 ≤ (y 1).val → (outsAt0 m c (t.val - 1) (Nat.lt_of_le_of_lt (Nat.sub_le _ _) t.isLt)).2.2.2.1 y = (0 : EReal) := fun y hy =>
    (IH.w1 (by omega) y).trans (dif_neg (by omega))
  refine ⟨fun r d k hc => ?_, fun h => ?_, fun h => ?_, fun h => ?_, fun h => ?_, fun a q d => ?_⟩
  · refine (congrFun (outsC_1 m c t h0 h1 h2 h3) (ix3 r d k)).trans ((C_keep c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (l := Spec.num (t.val / 16)) (hl := l_eq t h2) (h := (fun k d => row m c (t.val % 16) k.val (t.val / 16) d)) (h0 := fun h k d => given m c t h2 h k d) (h1 := hx) (hf1 := hf1) (hf2 := hf2) (r := r) (d := d) (t := k)).trans ?_)
    by_cases hr : r.val = ((grid0.coords t) 1).val
    · have hr' := hr.trans (c1 t)
      have hn : cnt t.val r.val = t.val / 16 + 1 := by unfold cnt; split_ifs <;> omega
      refine (if_pos hr).trans ?_
      rw [lp_eq m c t h2]; exact (kout_row m c t h2 hpos hden k d).trans (row_congr m c hr'.symm rfl hn.symm d)
    · have hr' : r.val ≠ t.val % 16 := fun e => hr (e.trans (c1 t).symm)
      have hn : cnt (t.val - 1) r.val = cnt t.val r.val := by unfold cnt; split_ifs <;> omega
      refine (if_neg hr).trans ((IH.h r d k (by rw [hn]; exact hc)).trans (row_congr m c rfl rfl hn d))
  · refine fun y => (congrFun (outsC_2 m c t h0 h1 h2 h3) y).trans ((C_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (l := Spec.num (t.val / 16)) (hl := l_eq t h2) (hf1 := hf1) (hf2 := hf2) (y := y)).trans ?_)
    rw [lp_eq m c t h2]
  · refine fun y => (congrFun (outsC_3 m c t h0 h1 h2 h3) y).trans ((C_s2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (l := Spec.num (t.val / 16)) (hl := l_eq t h2) (hf1 := hf1) (hf2 := hf2) (y := y)).trans ?_)
    rw [lp_eq m c t h2]
  · refine fun y => (congrFun (outsC_4 m c t h0 h1 h2 h3) y).trans ((C_s3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (l := Spec.num (t.val / 16)) (hl := l_eq t h2) (hf1 := hf1) (hf2 := hf2) (y := y)).trans ?_)
    rw [lp_eq m c t h2]
  · refine fun r j hr => (congrFun (outsC_5 m c t h0 h1 h2 h3) (ix2 r j)).trans ((C_s4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (outsAt0 m c (t.val - 1) (Nat.lt_of_le_of_lt (Nat.sub_le _ _) t.isLt)).2.2.2.2.2.1 (l := Spec.num (t.val / 16)) (hl := l_eq t h2) (hf1 := hf1) (hf2 := hf2) (r := r) (j := j) (hr := hr)).trans ?_)
    rw [lp_eq m c t h2]
  · refine (congrFun (outsC_0 m c t h0 h1 h2 h3) (ix4 (0 : Fin 1) a q d)).trans ((C_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (l := Spec.num (t.val / 16)) (hl := l_eq t h2) (h := (fun k d => row m c (t.val % 16) k.val (t.val / 16) d)) (h0 := fun h k d => given m c t h2 h k d) (h1 := hx) (hf1 := hf1) (hf2 := hf2) (a := a) (q := q) (d := d)).trans ?_)
    rw [lp_eq m c t h2]; exact (kout_row m c t h2 hpos hden ⟨256 * a.val + q.val, by omega⟩ d).trans (row_congr m c (if_pos h2).symm rfl (by omega) d)
end Cert.KernelIdeal.Val
end
-- ==== Proof.KernelInvD.lean ====
/- A point after the last layer keeps what the buffers hold. -/
module
public import proofs.«01_k».proof.Proof.KernelGrid
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

variable (m : (ℓ : Loc nD τ sig) → Buf (Elt Ideal) ℓ) (c : Dev nD) (t : Fin cfg0.N)
  (hpos : ∀ i, (0 : EReal) < (m ((c : Thread nD τ).loc main_arg14) : Vec Ideal S12x4 .f32) i)
  (hden : ∀ i, (m ((c : Thread nD τ).loc main_arg2) : Vec Ideal S12x32x20x256 .f32) i ≠ (0 : EReal))

theorem outsD_0 (h0 : ¬t.val % 208 = 0) (h1 : ¬t.val / 16 % 13 + 12 * (t.val % 16) ≤ 11) (h2 : ¬t.val < 192) (h3 : 192 ≤ t.val) :
    (outsAt0 m c t.val t.isLt).1 = out0_D_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_D m c t h0 h1 h2 h3]

theorem outsD_1 (h0 : ¬t.val % 208 = 0) (h1 : ¬t.val / 16 % 13 + 12 * (t.val % 16) ≤ 11) (h2 : ¬t.val < 192) (h3 : 192 ≤ t.val) :
    (outsAt0 m c t.val t.isLt).2.1 = sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_D m c t h0 h1 h2 h3]

theorem outsD_2 (h0 : ¬t.val % 208 = 0) (h1 : ¬t.val / 16 % 13 + 12 * (t.val % 16) ≤ 11) (h2 : ¬t.val < 192) (h3 : 192 ≤ t.val) :
    (outsAt0 m c t.val t.isLt).2.2.1 = sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_D m c t h0 h1 h2 h3]

theorem outsD_3 (h0 : ¬t.val % 208 = 0) (h1 : ¬t.val / 16 % 13 + 12 * (t.val % 16) ≤ 11) (h2 : ¬t.val < 192) (h3 : 192 ≤ t.val) :
    (outsAt0 m c t.val t.isLt).2.2.2.1 = sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_D m c t h0 h1 h2 h3]

theorem outsD_4 (h0 : ¬t.val % 208 = 0) (h1 : ¬t.val / 16 % 13 + 12 * (t.val % 16) ≤ 11) (h2 : ¬t.val < 192) (h3 : 192 ≤ t.val) :
    (outsAt0 m c t.val t.isLt).2.2.2.2.1 = sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_D m c t h0 h1 h2 h3]

theorem outsD_5 (h0 : ¬t.val % 208 = 0) (h1 : ¬t.val / 16 % 13 + 12 * (t.val % 16) ≤ 11) (h2 : ¬t.val < 192) (h3 : 192 ≤ t.val) :
    (outsAt0 m c t.val t.isLt).2.2.2.2.2.1 = sout0_D_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_D m c t h0 h1 h2 h3]

set_option maxHeartbeats 1000000 in
/-- Case D of the step: the buffers after the point, from the buffers before it. -/
theorem inv_D (h0 : ¬t.val % 208 = 0) (h1 : ¬t.val / 16 % 13 + 12 * (t.val % 16) ≤ 11) (h2 : ¬t.val < 192) (h3 : 192 ≤ t.val)
    (IH : Inv m c (t.val - 1) (Nat.lt_of_le_of_lt (Nat.sub_le _ _) t.isLt)) :
    Inv m c t.val t.isLt := by
  refine ⟨fun r d k hc => ?_, fun h => ?_, fun h => ?_, fun h => ?_, fun h => ?_, fun a q d => ?_⟩
  · have hn : cnt (t.val - 1) r.val = cnt t.val r.val := by unfold cnt; split_ifs <;> omega
    rw [outsD_1 m c t h0 h1 h2 h3]
    unfold sout0_D_0
    exact ((IH.h r d k (by rw [hn]; exact hc)).trans (row_congr m c rfl rfl hn d))
  · exact absurd h h2
  · exact absurd h h2
  · exact absurd h h2
  · exact absurd h h2
  · have hn : cnt (t.val - 1) 15 = min 12 (t.val / 16 + 1) := by unfold cnt; split_ifs <;> omega
    refine (congrFun (outsD_0 m c t h0 h1 h2 h3) (ix4 (0 : Fin 1) a q d)).trans ((D_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (a := a) (q := q) (d := d)).trans ?_)
    refine (IH.h 15 d ⟨256 * a.val + q.val, by omega⟩ (by show 0 < cnt (t.val - 1) 15; rw [hn]; omega)).trans (row_congr m c ?_ rfl hn d)
    exact (if_neg h2).symm
end Cert.KernelIdeal.Val
end
-- ==== Proof.KernelVal.lean ====
/- The kernel's result array: the stream after every layer. -/
module
public import proofs.«01_k».proof.Proof.KernelInvA
public import proofs.«01_k».proof.Proof.KernelInvB
public import proofs.«01_k».proof.Proof.KernelInvC
public import proofs.«01_k».proof.Proof.KernelInvD
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.KernelIdeal.Val
open Cert.KernelIdeal Cert.KernelIdeal.Gen

variable (m : (ℓ : Loc nD τ sig) → Buf (Elt Ideal) ℓ) (c : Dev nD)

theorem N_eq : cfg0.N = 208 := by decide +kernel

section
variable (hpos : ∀ i, (0 : EReal) < (m ((c : Thread nD τ).loc main_arg14) : Vec Ideal S12x4 .f32) i)
  (hden : ∀ i, (m ((c : Thread nD τ).loc main_arg2) : Vec Ideal S12x32x20x256 .f32) i ≠ (0 : EReal))

include hpos hden in
/-- Every point keeps the buffers as stated. -/
theorem inv_all : ∀ (n : ℕ) (hn : n < cfg0.N), Inv m c n hn
  | 0, hn => inv_A m c ⟨0, hn⟩ hpos hden (by show 0 % 208 = 0; rfl) (by show 0 / 16 % 13 + 12 * (0 % 16) ≤ 11; decide) (by show 0 < 192; decide) (by show ¬192 ≤ 0; decide)
  | n + 1, hn => by
    have IH := inv_all n (Nat.lt_of_succ_lt hn)
    have hN := N_eq
    by_cases h2 : n + 1 < 192
    · by_cases h1 : (n + 1) / 16 % 13 + 12 * ((n + 1) % 16) ≤ 11
      · exact inv_C m c ⟨n + 1, hn⟩ hpos hden (by show ¬(n + 1) % 208 = 0; omega) h1 h2 (Nat.not_le.mpr h2) IH
      · exact inv_B m c ⟨n + 1, hn⟩ hpos hden (by show ¬(n + 1) % 208 = 0; omega) h1 h2 (Nat.not_le.mpr h2) IH
    · exact inv_D m c ⟨n + 1, hn⟩ (by show ¬(n + 1) % 208 = 0; omega)
        (by show ¬((n + 1) / 16 % 13 + 12 * ((n + 1) % 16) ≤ 11); omega) h2 (Nat.not_lt.mp h2) IH
end

theorem row_res (j k n : ℕ) (d : Fin 480) (i : S12x32x256x480.Idx) (h0 : (i 0).val + 1 = n) (h1 : (i 1).val = (2 * j + k / 256) % 32)
    (h2 : (i 2).val = k % 256) (h3 : (i 3).val = d.val) :
    row m c j k n d = Spec.res root (lays m c) (m ((c : Thread nD τ).loc main_arg0)) (m ((c : Thread nD τ).loc main_arg1)) (m ((c : Thread nD τ).loc main_arg2)) i := by
  subst h0
  have e1 : (⟨(2 * j + k / 256) % 32, Nat.mod_lt _ (by norm_num)⟩ : Fin 32) = i 1 := Fin.ext h1.symm
  have e2 : (⟨k % 256, Nat.mod_lt _ (by norm_num)⟩ : Fin 256) = i 2 := Fin.ext h2.symm
  have e3 : d = i 3 := Fin.ext h3.symm
  unfold row Spec.res
  rw [e1, e2, e3]

/-- The result array after the run: the stream after every layer, off the launch memory. -/
theorem final (hpos : ∀ i, (0 : EReal) < (m ((c : Thread nD τ).loc main_arg14) : Vec Ideal S12x4 .f32) i)
    (hden : ∀ i, (m ((c : Thread nD τ).loc main_arg2) : Vec Ideal S12x32x20x256 .f32) i ≠ (0 : EReal)) :
    (dats m 0 c).arrAt 15 cfg0.N
      = Spec.res root (lays m c) (m ((c : Thread nD τ).loc main_arg0)) (m ((c : Thread nD τ).loc main_arg1)) (m ((c : Thread nD τ).loc main_arg2)) := by
  refine (dats m 0 c).arrAt_eq_of_covers 15 _ (by decide +kernel) fun t hf y => ?_
  have hN : t.val < 208 := lt_of_lt_of_eq t.isLt N_eq
  have hy0 : (y 0).val = 0 := Nat.lt_one_iff.mp (y 0).isLt
  have hy1 : (y 1).val < 2 := (y 1).isLt
  have hy2 : (y 2).val < 256 := (y 2).isLt
  have hy : y = ix4 (0 : Fin 1) (⟨(y 1).val, hy1⟩ : Fin 2) (⟨(y 2).val, hy2⟩ : Fin 256) (⟨(y 3).val, (y 3).isLt⟩ : Fin 480) := by
    funext a
    obtain ⟨a, ha⟩ := a
    match a, ha with
    | 0, _ => exact Fin.ext hy0
    | 1, _ => rfl
    | 2, _ => rfl
    | 3, _ => rfl
  have key := (inv_all m c hpos hden t.val t.isLt).o (⟨(y 1).val, hy1⟩ : Fin 2) (⟨(y 2).val, hy2⟩ : Fin 256) (⟨(y 3).val, (y 3).isLt⟩ : Fin 480)
  rw [← hy] at key
  blk_simp
  rw [after0_15]
  refine Eq.trans key (row_res m c _ _ _ _ _ ?_ ?_ ?_ ?_)
  all_goals
    by_cases h : t.val < 192
    · have e := e15 t h
      blk_simp [e]
      try simp [h]
      try omega
    · have e := e15' t (Nat.not_lt.mp h)
      blk_simp [e]
      try simp [h]
      try omega
end Cert.KernelIdeal.Val
end
-- ==== Proof.ReferenceVal.lean ====
/- The reference, one layer at a time: what its loop's trip computes at a token is `Spec.step`, so the stream before trip `k`
   is `Spec.stream` and the block a trip stores is the stream after it. -/
module
public import proofs.«01_k».proof.Proof.Spec
public import proofs.«01_k».proof.Proof.Gen.ReferenceIdeal.Value
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.ReferenceIdeal.Val
open Cert.ReferenceIdeal Cert.ReferenceIdeal.Gen

/-- The root of one half, as the program names it. -/
abbrev root : EReal := (Named.named κ "inv_sqrt2" 0x3F3504F3#32 : Ideal .f32)

section
variable (a1 a2 a3 : Elt Ideal .f32) (h mb : FVec Ideal S8192x480 .f32) (cx : Vec Ideal S1x8192x480 .f32)
  (wo : Vec Ideal S1x480x480 .i8) (so bo g b s2 b2 : Vec Ideal S1x480 .f32) (w1 : Vec Ideal S1x480x1920 .i8)
  (s1 b1 : Vec Ideal S1x1920 .f32) (w2 : Vec Ideal S1x1920x480 .i8)

/-- The layer's parameters from the blocks one trip loads. -/
def par : Spec.Par where
  a1 := a1
  a2 := a2
  a3 := a3
  g k := g (ix2 0 k)
  b k := b (ix2 0 k)
  wo k d := Spec.wt (wo (ix3 0 k d))
  so k := so (ix2 0 k)
  bo k := bo (ix2 0 k)
  w1 k f := Spec.wt (w1 (ix3 0 k f))
  s1 k := s1 (ix2 0 k)
  b1 k := b1 (ix2 0 k)
  w2 f d := Spec.wt (w2 (ix3 0 f d))
  s2 k := s2 (ix2 0 k)
  b2 k := b2 (ix2 0 k)

theorem code (x : EReal) : FloatOps.sitofp (F := Ideal) FTy.bf16 (FloatOps.fptosi (F := Ideal) (φ := FTy.f32) 8
    (min (Ideal.ofBits FTy.f32 1123942400#32)
      (max (Ideal.ofBits FTy.f32 3271426048#32) (Ideal.liftRound Ideal.roundHalfEven x)))) = Spec.q x :=
  Spec.code_eq _ _ x

theorem mid_at (r : Fin 8192) (d : Fin 480) :
    k0_pay4 h a1 cx wo so bo (ix2 r d)
      = Spec.mid (par a1 a2 a3 wo so bo g b s2 b2 w1 s1 b1 w2) (fun k => cx (ix3 0 r k)) (fun k => h (ix2 r k)) d := by
  pointwise [k0_pay4]
  simp only [code]
  rfl

theorem mean_at (r : Fin 8192) (d : Fin 480) :
    k0_pay5 h a1 cx wo so bo (ix2 r d)
      = Spec.mean (fun d => Spec.mid (par a1 a2 a3 wo so bo g b s2 b2 w1 s1 b1 w2) (fun k => cx (ix3 0 r k)) (fun k => h (ix2 r k)) d) := by
  pointwise [k0_pay5]
  simp only [mid_at a1 a2 a3 h cx wo so bo g b s2 b2 w1 s1 b1 w2]
  rfl

theorem hid_at (r : Fin 8192) (f : Fin 1920) (hm : ∀ k, mb (ix2 r k) = Spec.mean (fun d => h (ix2 r d))) :
    k0_pay6 a2 h g b mb w1 s1 b1 (ix2 r f)
      = Spec.hid root (par a1 a2 a3 wo so bo g b s2 b2 w1 s1 b1 w2) (fun k => h (ix2 r k)) f := by
  pointwise [k0_pay6]
  simp only [code, hm]
  rfl

theorem out_at (r : Fin 8192) (d : Fin 480) (hid : FVec Ideal S8192x1920 .f32)
    (hh : ∀ f, hid (ix2 r f)
      = Spec.hid root (par a1 a2 a3 wo so bo g b s2 b2 w1 s1 b1 w2) (fun k => h (ix2 r k)) f) :
    k0_pay2 a3 h hid w2 s2 b2 (ix2 r d)
      = Spec.out root (par a1 a2 a3 wo so bo g b s2 b2 w1 s1 b1 w2) (fun k => h (ix2 r k)) d := by
  pointwise [k0_pay2]
  simp only [code, hh]
  rfl

theorem step_at (r : Fin 8192) (d : Fin 480) :
    k0_pay2 a3 (k0_pay4 h a1 cx wo so bo)
        (k0_pay6 a2 (k0_pay4 h a1 cx wo so bo) g b (k0_pay5 h a1 cx wo so bo) w1 s1 b1) w2 s2 b2 (ix2 r d)
      = Spec.step root (par a1 a2 a3 wo so bo g b s2 b2 w1 s1 b1 w2) (fun k => cx (ix3 0 r k)) (fun k => h (ix2 r k)) d := by
  have hm : ∀ k, (k0_pay4 h a1 cx wo so bo) (ix2 r k) = _ :=
    fun k => mid_at a1 a2 a3 h cx wo so bo g b s2 b2 w1 s1 b1 w2 r k
  rw [out_at a1 a2 a3 (k0_pay4 h a1 cx wo so bo) wo so bo g b s2 b2 w1 s1 b1 w2 r d _
    (fun f => hid_at a1 a2 a3 _ _ wo so bo g b s2 b2 w1 s1 b1 w2 r f fun k => by
      rw [mean_at a1 a2 a3 h cx wo so bo g b s2 b2 w1 s1 b1 w2]; simp only [hm])]
  simp only [hm]
  rfl
end

/-! ## What one trip loads -/

/-- Row `l` of a table, and leading block `l` of a stack. -/
abbrev row {n : ℕ} {α : Type} (x : (⟨2, ![12, n]⟩ : Shape).Idx → α) (l : Fin 12) : (⟨2, ![1, n]⟩ : Shape).Idx → α :=
  fun y => x (ix2 l (y 1))
abbrev block {a b : ℕ} {α : Type} (x : (⟨3, ![12, a, b]⟩ : Shape).Idx → α) (l : Fin 12) :
    (⟨3, ![1, a, b]⟩ : Shape).Idx → α :=
  fun y => x (ix3 l (y 1) (y 2))

theorem load_row {n : ℕ} {sp : Space} {e : EltTy} {arg : Memref sig .tc sp ⟨2, ![12, n]⟩ e} (h : arg.IsWhole)
    (X : Vec Ideal ⟨2, ![12, n]⟩ e) (l : Fin 12) (off : Fin 2 → ℕ) (eo : off = ![l.val, 0]) (inb) :
    View.readAt (Elt Ideal) arg.view (Rect.unit (s := ⟨2, ![12, n]⟩) off ![1, n] inb).toLoadRect (h.unread X) = row X l := by
  subst eo
  funext (y : (⟨2, ![1, n]⟩ : Shape).Idx)
  rw [h.readAt_unread]
  have h0 : (y 0).val < 1 := (y 0).isLt
  refine congrArg X (funext fun a => Fin.ext ?_)
  fin_cases a <;> (show _ + _ * _ = _) <;> simp [Rect.unit, Rect.toLoadRect] <;> omega

theorem load_block {p q : ℕ} {sp : Space} {e : EltTy} {arg : Memref sig .tc sp ⟨3, ![12, p, q]⟩ e} (h : arg.IsWhole)
    (X : Vec Ideal ⟨3, ![12, p, q]⟩ e) (l : Fin 12) (off : Fin 3 → ℕ) (eo : off = ![l.val, 0, 0]) (inb) :
    View.readAt (Elt Ideal) arg.view (Rect.unit (s := ⟨3, ![12, p, q]⟩) off ![1, p, q] inb).toLoadRect (h.unread X)
      = block X l := by
  subst eo
  funext (y : (⟨3, ![1, p, q]⟩ : Shape).Idx)
  rw [h.readAt_unread]
  have h0 : (y 0).val < 1 := (y 0).isLt
  refine congrArg X (funext fun a => Fin.ext ?_)
  fin_cases a <;> (show _ + _ * _ = _) <;> simp [Rect.unit, Rect.toLoadRect] <;> omega

theorem load_word {arg : Memref sig .tc .smem S12x4 .f32} (h : arg.IsWhole)
    (X : Vec Ideal S12x4 .f32) (l : Fin 12) (n : Fin 4) (off : Fin 2 → ℕ) (eo : off = ![l.val, n.val]) (inb) (hp) :
    View.readAt (Elt Ideal) arg.view (Rect.unit (s := S12x4) off S1x1.size inb).toLoadRect (h.unread X)
      (Shape.Idx.first hp) = X (ix2 l n) := by
  subst eo
  rw [h.readAt_unread]
  refine congrArg X (funext fun a => Fin.ext ?_)
  fin_cases a <;> (show _ + _ * _ = _) <;> simp [Rect.unit, Rect.toLoadRect, Shape.Idx.first]

section
variable (c : Dev nD) (arg0 : Memref sig .tc .smem S12x4 .f32) (harg0 : arg0.IsWhole) (arg1 : Memref sig .tc .vmem S8192x480 .f32) (harg1 : arg1.IsWhole) (arg2 : Memref sig .tc .vmem S12x8192x480 .f32) (harg2 : arg2.IsWhole) (arg3 : Memref sig .tc .vmem S12x480 .f32) (harg3 : arg3.IsWhole) (arg4 : Memref sig .tc .vmem S12x480 .f32) (harg4 : arg4.IsWhole) (arg5 : Memref sig .tc .vmem S12x480x480 .i8) (harg5 : arg5.IsWhole) (arg6 : Memref sig .tc .vmem S12x480 .f32) (harg6 : arg6.IsWhole) (arg7 : Memref sig .tc .vmem S12x480 .f32) (harg7 : arg7.IsWhole) (arg8 : Memref sig .tc .vmem S12x480x1920 .i8) (harg8 : arg8.IsWhole) (arg9 : Memref sig .tc .vmem S12x1920 .f32) (harg9 : arg9.IsWhole) (arg10 : Memref sig .tc .vmem S12x1920 .f32) (harg10 : arg10.IsWhole) (arg11 : Memref sig .tc .vmem S12x1920x480 .i8) (harg11 : arg11.IsWhole) (arg12 : Memref sig .tc .vmem S12x480 .f32) (harg12 : arg12.IsWhole) (arg13 : Memref sig .tc .vmem S12x480 .f32) (harg13 : arg13.IsWhole) (arg14 : Memref sig .tc .vmem S12x32x256x480 .bf16) (harg14 : arg14.IsWhole)
  (x0 : Vec Ideal S12x4 .f32) (x2 : Vec Ideal S12x8192x480 .f32) (x3 : Vec Ideal S12x480 .f32) (x4 : Vec Ideal S12x480 .f32) (x5 : Vec Ideal S12x480x480 .i8) (x6 : Vec Ideal S12x480 .f32) (x7 : Vec Ideal S12x480 .f32) (x8 : Vec Ideal S12x480x1920 .i8) (x9 : Vec Ideal S12x1920 .f32) (x10 : Vec Ideal S12x1920 .f32) (x11 : Vec Ideal S12x1920x480 .i8) (x12 : Vec Ideal S12x480 .f32) (x13 : Vec Ideal S12x480 .f32)

theorem trip_val (k : Fin k0_t1_loop.trips) (l : Fin 12) (hl : l.val = k.val) (acc : FVec Ideal S8192x480 .f32) :
    tripR_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (harg0.unread x0) (harg2.unread x2) (harg3.unread x3) (harg4.unread x4) (harg5.unread x5) (harg6.unread x6) (harg7.unread x7) (harg8.unread x8) (harg9.unread x9) (harg10.unread x10) (harg11.unread x11) (harg12.unread x12) (harg13.unread x13) k acc
      = k0_pay2 (x0 (ix2 l 3)) (k0_pay4 acc (x0 (ix2 l 1)) (block x2 l) (block x5 l) (row x6 l) (row x7 l))
        (k0_pay6 (x0 (ix2 l 2)) (k0_pay4 acc (x0 (ix2 l 1)) (block x2 l) (block x5 l) (row x6 l) (row x7 l))
          (row x3 l) (row x4 l) (k0_pay5 acc (x0 (ix2 l 1)) (block x2 l) (block x5 l) (row x6 l) (row x7 l))
          (block x8 l) (row x9 l) (row x10 l)) (block x11 l) (row x12 l) (row x13 l) := by
  have e1 := k0_off1_eq k; have e2 := k0_off2_eq k; have e3 := k0_off3_eq k; have e4 := k0_off4_eq k
  have e5 := k0_off5_eq k; have e6 := k0_off6_eq k; have e7 := k0_off7_eq k; have e8 := k0_off8_eq k
  have e9 := k0_off9_eq k
  rw [← hl] at e1 e2 e3 e4 e5 e6 e7 e8 e9
  have w1 := load_word harg0 x0 l 1 _ e1 (k0_off1_inb k) (Nat.lt_of_lt_of_eq Nat.one_pos numel1_S1x1.symm)
  have w2 := load_word harg0 x0 l 2 _ e2 (k0_off2_inb k) (Nat.lt_of_lt_of_eq Nat.one_pos numel1_S1x1.symm)
  have w3 := load_word harg0 x0 l 3 _ e3 (k0_off3_inb k) (Nat.lt_of_lt_of_eq Nat.one_pos numel1_S1x1.symm)
  have b2 := load_block harg2 x2 l _ e4 (k0_off4_inb k)
  have b5 := load_block harg5 x5 l _ e5 (k0_off5_inb k)
  have b8 := load_block harg8 x8 l _ e7 (k0_off7_inb k)
  have b11 := load_block harg11 x11 l _ e9 (k0_off9_inb k)
  have r3 := load_row harg3 x3 l _ e6 (k0_off6_inb k)
  have r4 := load_row harg4 x4 l _ e6 (k0_off6_inb k)
  have r6 := load_row harg6 x6 l _ e6 (k0_off6_inb k)
  have r7 := load_row harg7 x7 l _ e6 (k0_off6_inb k)
  have r9 := load_row harg9 x9 l _ e8 (k0_off8_inb k)
  have r10 := load_row harg10 x10 l _ e8 (k0_off8_inb k)
  have r12 := load_row harg12 x12 l _ e6 (k0_off6_inb k)
  have r13 := load_row harg13 x13 l _ e6 (k0_off6_inb k)
  rw [← w1, ← w2, ← w3, ← b2, ← b5, ← b8, ← b11, ← r3, ← r4, ← r6, ← r7, ← r9, ← r10, ← r12, ← r13]
  unfold tripR_k0_t1 trip_k0_t1
  rfl

theorem stored_at (a : Elt Ideal .f32) (h : FVec Ideal S8192x480 .f32) (hid : FVec Ideal S8192x1920 .f32)
    (w : Vec Ideal S1x1920x480 .i8) (s b : Vec Ideal S1x480 .f32) (x : S1x32x256x480.Idx) :
    k0_pay3 a h hid w s b x = k0_pay2 a h hid w s b (ix2 ⟨(x 1).val * 256 + (x 2).val, by
      have h1 : (x 1).val < 32 := (x 1).isLt
      have h2 : (x 2).val < 256 := (x 2).isLt
      omega⟩ (x 3)) := by
  pointwise [k0_pay3]
  blk_ext

theorem trip_pieces (k : Fin k0_t1_loop.trips) (acc : FVec Ideal S8192x480 .f32) :
    ∃ (a : Elt Ideal .f32) (h : FVec Ideal S8192x480 .f32) (hid : FVec Ideal S8192x1920 .f32)
      (w : Vec Ideal S1x1920x480 .i8) (s b : Vec Ideal S1x480 .f32),
    tripR_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (harg0.unread x0) (harg2.unread x2) (harg3.unread x3) (harg4.unread x4) (harg5.unread x5) (harg6.unread x6) (harg7.unread x7) (harg8.unread x8) (harg9.unread x9) (harg10.unread x10) (harg11.unread x11) (harg12.unread x12) (harg13.unread x13) k acc = k0_pay2 a h hid w s b ∧
    tripL_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (harg0.unread x0) (harg2.unread x2) (harg3.unread x3) (harg4.unread x4) (harg5.unread x5) (harg6.unread x6) (harg7.unread x7) (harg8.unread x8) (harg9.unread x9) (harg10.unread x10) (harg11.unread x11) (harg12.unread x12) (harg13.unread x13) k acc
      = [⟨Rect.unit (s := S12x32x256x480) (k0_off10 k) ![1, 32, 256, 480] (k0_off10_inb k), k0_pay3 a h hid w s b⟩] := by
  unfold tripR_k0_t1 tripL_k0_t1 trip_k0_t1
  exact ⟨_, _, _, _, _, _, rfl, rfl⟩
end

section

/-- Layer `l`'s parameters, the context row and the stream of token `r`, off the region's operands. -/
def lay (x0 : Vec Ideal S12x4 .f32) (x2 : Vec Ideal S12x8192x480 .f32) (x3 : Vec Ideal S12x480 .f32) (x4 : Vec Ideal S12x480 .f32) (x5 : Vec Ideal S12x480x480 .i8) (x6 : Vec Ideal S12x480 .f32) (x7 : Vec Ideal S12x480 .f32) (x8 : Vec Ideal S12x480x1920 .i8) (x9 : Vec Ideal S12x1920 .f32) (x10 : Vec Ideal S12x1920 .f32) (x11 : Vec Ideal S12x1920x480 .i8) (x12 : Vec Ideal S12x480 .f32) (x13 : Vec Ideal S12x480 .f32) (l : Fin 12) : Spec.Par :=
  par (x0 (ix2 l 1)) (x0 (ix2 l 2)) (x0 (ix2 l 3)) (block x5 l) (row x6 l) (row x7 l) (row x3 l) (row x4 l) (row x12 l)
    (row x13 l) (block x8 l) (row x9 l) (row x10 l) (block x11 l)

def str (x0 : Vec Ideal S12x4 .f32) (x2 : Vec Ideal S12x8192x480 .f32) (x3 : Vec Ideal S12x480 .f32) (x4 : Vec Ideal S12x480 .f32) (x5 : Vec Ideal S12x480x480 .i8) (x6 : Vec Ideal S12x480 .f32) (x7 : Vec Ideal S12x480 .f32) (x8 : Vec Ideal S12x480x1920 .i8) (x9 : Vec Ideal S12x1920 .f32) (x10 : Vec Ideal S12x1920 .f32) (x11 : Vec Ideal S12x1920x480 .i8) (x12 : Vec Ideal S12x480 .f32) (x13 : Vec Ideal S12x480 .f32) (x1 : Vec Ideal S8192x480 .f32) (r : Fin 8192) : ℕ → Fin 480 → EReal :=
  Spec.stream root (fun l => lay x0 x2 x3 x4 x5 x6 x7 x8 x9 x10 x11 x12 x13 (Spec.num l)) (fun l k => x2 (ix3 (Spec.num l) r k)) (fun k => x1 (ix2 r k))

/-- The result, at coordinates. -/
def result (x0 : Vec Ideal S12x4 .f32) (x2 : Vec Ideal S12x8192x480 .f32) (x3 : Vec Ideal S12x480 .f32) (x4 : Vec Ideal S12x480 .f32) (x5 : Vec Ideal S12x480x480 .i8) (x6 : Vec Ideal S12x480 .f32) (x7 : Vec Ideal S12x480 .f32) (x8 : Vec Ideal S12x480x1920 .i8) (x9 : Vec Ideal S12x1920 .f32) (x10 : Vec Ideal S12x1920 .f32) (x11 : Vec Ideal S12x1920x480 .i8) (x12 : Vec Ideal S12x480 .f32) (x13 : Vec Ideal S12x480 .f32) (x1 : Vec Ideal S8192x480 .f32) (i : S12x32x256x480.Idx) : EReal :=
  str x0 x2 x3 x4 x5 x6 x7 x8 x9 x10 x11 x12 x13 x1 ⟨(i 1).val * 256 + (i 2).val, by
    have h1 : (i 1).val < 32 := (i 1).isLt
    have h2 : (i 2).val < 256 := (i 2).isLt
    omega⟩ ((i 0).val + 1) (i 3)

variable (c : Dev nD) (arg0 : Memref sig .tc .smem S12x4 .f32) (harg0 : arg0.IsWhole) (arg1 : Memref sig .tc .vmem S8192x480 .f32) (harg1 : arg1.IsWhole) (arg2 : Memref sig .tc .vmem S12x8192x480 .f32) (harg2 : arg2.IsWhole) (arg3 : Memref sig .tc .vmem S12x480 .f32) (harg3 : arg3.IsWhole) (arg4 : Memref sig .tc .vmem S12x480 .f32) (harg4 : arg4.IsWhole) (arg5 : Memref sig .tc .vmem S12x480x480 .i8) (harg5 : arg5.IsWhole) (arg6 : Memref sig .tc .vmem S12x480 .f32) (harg6 : arg6.IsWhole) (arg7 : Memref sig .tc .vmem S12x480 .f32) (harg7 : arg7.IsWhole) (arg8 : Memref sig .tc .vmem S12x480x1920 .i8) (harg8 : arg8.IsWhole) (arg9 : Memref sig .tc .vmem S12x1920 .f32) (harg9 : arg9.IsWhole) (arg10 : Memref sig .tc .vmem S12x1920 .f32) (harg10 : arg10.IsWhole) (arg11 : Memref sig .tc .vmem S12x1920x480 .i8) (harg11 : arg11.IsWhole) (arg12 : Memref sig .tc .vmem S12x480 .f32) (harg12 : arg12.IsWhole) (arg13 : Memref sig .tc .vmem S12x480 .f32) (harg13 : arg13.IsWhole) (arg14 : Memref sig .tc .vmem S12x32x256x480 .bf16) (harg14 : arg14.IsWhole)
  (x0 : Vec Ideal S12x4 .f32) (x2 : Vec Ideal S12x8192x480 .f32) (x3 : Vec Ideal S12x480 .f32) (x4 : Vec Ideal S12x480 .f32) (x5 : Vec Ideal S12x480x480 .i8) (x6 : Vec Ideal S12x480 .f32) (x7 : Vec Ideal S12x480 .f32) (x8 : Vec Ideal S12x480x1920 .i8) (x9 : Vec Ideal S12x1920 .f32) (x10 : Vec Ideal S12x1920 .f32) (x11 : Vec Ideal S12x1920x480 .i8) (x12 : Vec Ideal S12x480 .f32) (x13 : Vec Ideal S12x480 .f32) (x1 : Vec Ideal S8192x480 .f32)

theorem state_val (k : ℕ) (hk : k ≤ k0_t1_loop.trips) :
    (∀ r d, (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (harg0.unread x0) (harg2.unread x2) (harg3.unread x3) (harg4.unread x4) (harg5.unread x5) (harg6.unread x6) (harg7.unread x7) (harg8.unread x8) (harg9.unread x9) (harg10.unread x10) (harg11.unread x11) (harg12.unread x12) (harg13.unread x13) x1 k).1 (ix2 r d) = str x0 x2 x3 x4 x5 x6 x7 x8 x9 x10 x11 x12 x13 x1 r k d)
    ∧ ∀ p ∈ (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (harg0.unread x0) (harg2.unread x2) (harg3.unread x3) (harg4.unread x4) (harg5.unread x5) (harg6.unread x6) (harg7.unread x7) (harg8.unread x8) (harg9.unread x9) (harg10.unread x10) (harg11.unread x11) (harg12.unread x12) (harg13.unread x13) x1 k).2, ∀ x, p.2 x = result x0 x2 x3 x4 x5 x6 x7 x8 x9 x10 x11 x12 x13 x1 (p.1.emb x) := by
  induction k with
  | zero => exact ⟨fun r d => rfl, fun p hp => absurd hp List.not_mem_nil⟩
  | succ k ih =>
    obtain ⟨ih1, ih2⟩ := ih (by omega)
    have hk12 : k < 12 := lt_of_lt_of_le hk k0_t1_abs.2.1
    have hl : (Spec.num k).val = k := Nat.mod_eq_of_lt hk12
    have e := st_k0_t1_succ (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (harg0.unread x0) (harg2.unread x2) (harg3.unread x3) (harg4.unread x4) (harg5.unread x5) (harg6.unread x6) (harg7.unread x7) (harg8.unread x8) (harg9.unread x9) (harg10.unread x10) (harg11.unread x11) (harg12.unread x12) (harg13.unread x13) x1 ⟨k, hk⟩
    have hR : ∀ r d, tripR_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (harg0.unread x0) (harg2.unread x2) (harg3.unread x3) (harg4.unread x4) (harg5.unread x5) (harg6.unread x6) (harg7.unread x7) (harg8.unread x8) (harg9.unread x9) (harg10.unread x10) (harg11.unread x11) (harg12.unread x12) (harg13.unread x13) ⟨k, hk⟩
        (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (harg0.unread x0) (harg2.unread x2) (harg3.unread x3) (harg4.unread x4) (harg5.unread x5) (harg6.unread x6) (harg7.unread x7) (harg8.unread x8) (harg9.unread x9) (harg10.unread x10) (harg11.unread x11) (harg12.unread x12) (harg13.unread x13) x1 k).1 (ix2 r d) = str x0 x2 x3 x4 x5 x6 x7 x8 x9 x10 x11 x12 x13 x1 r (k + 1) d := by
      intro r d
      rw [trip_val c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x2 x3 x4 x5 x6 x7 x8 x9 x10 x11 x12 x13 ⟨k, hk⟩ (Spec.num k) hl, step_at]
      simp only [ih1]
      rfl
    obtain ⟨a, h, hid, w, s, b, hT, hL⟩ := trip_pieces c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x2 x3 x4 x5 x6 x7 x8 x9 x10 x11 x12 x13 ⟨k, hk⟩ (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (harg0.unread x0) (harg2.unread x2) (harg3.unread x3) (harg4.unread x4) (harg5.unread x5) (harg6.unread x6) (harg7.unread x7) (harg8.unread x8) (harg9.unread x9) (harg10.unread x10) (harg11.unread x11) (harg12.unread x12) (harg13.unread x13) x1 k).1
    rw [show k + 1 = (⟨k, hk⟩ : Fin k0_t1_loop.trips).val + 1 from rfl, e]
    refine ⟨hR, fun p hp => ?_⟩
    dsimp only at hp
    rcases List.mem_append.1 hp with hp | hp
    · rw [hL] at hp
      obtain rfl := List.mem_singleton.1 hp
      intro (x : S1x32x256x480.Idx)
      refine (stored_at a h hid w s b x).trans (Eq.trans (congrFun hT.symm _) ((hR _ _).trans ?_))
      have e10 := k0_off10_eq ⟨k, hk⟩
      have x0l : (x 0).val < 1 := (x 0).isLt
      have h0 : (((Rect.unit (s := S12x32x256x480) (k0_off10 ⟨k, hk⟩) ![1, 32, 256, 480] (k0_off10_inb ⟨k, hk⟩)).emb x) 0).val = k := by
        show k0_off10 ⟨k, hk⟩ 0 + 1 * (x 0).val = k
        rw [e10]; simp
      have h1 : (((Rect.unit (s := S12x32x256x480) (k0_off10 ⟨k, hk⟩) ![1, 32, 256, 480] (k0_off10_inb ⟨k, hk⟩)).emb x) 1).val = (x 1).val := by
        show k0_off10 ⟨k, hk⟩ 1 + 1 * (x 1).val = _
        rw [e10]; simp
      have h2 : (((Rect.unit (s := S12x32x256x480) (k0_off10 ⟨k, hk⟩) ![1, 32, 256, 480] (k0_off10_inb ⟨k, hk⟩)).emb x) 2).val = (x 2).val := by
        show k0_off10 ⟨k, hk⟩ 2 + 1 * (x 2).val = _
        rw [e10]; simp
      have h3 : (((Rect.unit (s := S12x32x256x480) (k0_off10 ⟨k, hk⟩) ![1, 32, 256, 480] (k0_off10_inb ⟨k, hk⟩)).emb x) 3).val = (x 3).val := by
        show k0_off10 ⟨k, hk⟩ 3 + 1 * (x 3).val = _
        rw [e10]; simp
      unfold result
      simp only [h0, h1, h2]
      exact congrArg _ (Fin.ext h3.symm)
    · exact ih2 p hp
end

section
variable (m : (ℓ : Loc nD τ sig) → Buf (Elt Ideal) ℓ)

theorem outs_val (c : Dev nD) (t : Fin cfg0.N) (y : S12x32x256x480.Idx) :
    outsAt0 (F := Ideal) m c t y = result (iblk m c 0 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 1 t) y := by
  unfold outsAt0 out0_A_14
  refine View.read_writes_apply_of_pieces _ _ (show S12x32x256x480.Idx → Elt Ideal EltTy.bf16 from result (iblk m c 0 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 1 t)) _ ?_ y (cover0_A_14 ..)
  intro p hp x
  unfold kernelRun0_A at hp
  have hx : k0_pay1 (View.readAt (Elt Ideal) (View.whole cc0_stg1_0)
      (Rect.unit ![0, 0] ![8192, 480] inb_S8192x480_S8192x480_0_0).toLoadRect ((hs0_1 t).unread (iblk m c 1 t)))
      = iblk m c 1 t := by
    funext (y : S8192x480.Idx)
    pointwise [k0_pay1]
    refine (Memref.IsWhole.readAt_unread (hs0_1 t) ..).trans ?_
    exact congrArg _ (by idx_ext)
  dsimp only at hp
  exact (state_val c _ (hs0_0 t) _ (hs0_1 t) _ (hs0_2 t) _ (hs0_3 t) _ (hs0_4 t) _ (hs0_5 t) _ (hs0_6 t) _ (hs0_7 t)
    _ (hs0_8 t) _ (hs0_9 t) _ (hs0_10 t) _ (hs0_11 t) _ (hs0_12 t) _ (hs0_13 t) _ (hs0_14 t) _ _ _ _ _ _ _ _ _ _ _ _ _ _
     _ le_rfl).2 p (by rw [← hx]; exact hp) x

/-- The parameters, off the launch memory. -/
def lays (c : Dev nD) : Fin 12 → Spec.Par :=
  Spec.layer (m ((c : Thread nD τ).loc main_arg14)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))

theorem entry_h0 (c : Dev nD) (s : Fin 32) (p : Fin 256) (k : Fin 480) (h) :
    iblk m c 1 t0_0 (ix2 ⟨s.val * 256 + p.val, h⟩ k) = m ((c : Thread nD τ).loc main_arg0) (ix3 s p k) := by
  have e : win0_1.index t0_0 = fun _ => 0 := by decide +kernel
  have e' : win0_2.index t0_0 = fun _ => 0 := by decide +kernel
  blk_simp [iblk]
  entry_read
  pointwise
  blk_ext [e]

theorem entry_ctx (c : Dev nD) (l : Fin 12) (s : Fin 32) (p : Fin 256) (k : Fin 480) (h) :
    iblk m c 2 t0_0 (ix3 l ⟨s.val * 256 + p.val, h⟩ k)
      = Ideal.div (m ((c : Thread nD τ).loc main_arg1) (ix4 l s p k)) (m ((c : Thread nD τ).loc main_arg2) (ix4 l s (Spec.head k) p)) := by
  have e : win0_1.index t0_0 = fun _ => 0 := by decide +kernel
  have e' : win0_2.index t0_0 = fun _ => 0 := by decide +kernel
  blk_simp [iblk]
  entry_read
  pointwise
  refine congrArg₂ Ideal.div (congrArg _ ?_) (congrArg _ ?_)
  · blk_ext [e']
  · blk_ext [e']

theorem entry_0 (c : Dev nD) : iblk m c 0 t0_0 = m ((c : Thread nD τ).loc main_arg14) := by
  funext y
  have e : win0_0.index t0_0 = fun _ => 0 := by decide +kernel
  blk_ext [iblk, V, e]

theorem entry_3 (c : Dev nD) : iblk m c 3 t0_0 = m ((c : Thread nD τ).loc main_arg3) := by
  funext y
  have e : win0_3.index t0_0 = fun _ => 0 := by decide +kernel
  blk_ext [iblk, V, e]

theorem entry_4 (c : Dev nD) : iblk m c 4 t0_0 = m ((c : Thread nD τ).loc main_arg4) := by
  funext y
  have e : win0_4.index t0_0 = fun _ => 0 := by decide +kernel
  blk_ext [iblk, V, e]

theorem entry_5 (c : Dev nD) : iblk m c 5 t0_0 = m ((c : Thread nD τ).loc main_arg5) := by
  funext y
  have e : win0_5.index t0_0 = fun _ => 0 := by decide +kernel
  blk_ext [iblk, V, e]

theorem entry_6 (c : Dev nD) : iblk m c 6 t0_0 = m ((c : Thread nD τ).loc main_arg6) := by
  funext y
  have e : win0_6.index t0_0 = fun _ => 0 := by decide +kernel
  blk_ext [iblk, V, e]

theorem entry_7 (c : Dev nD) : iblk m c 7 t0_0 = m ((c : Thread nD τ).loc main_arg7) := by
  funext y
  have e : win0_7.index t0_0 = fun _ => 0 := by decide +kernel
  blk_ext [iblk, V, e]

theorem entry_8 (c : Dev nD) : iblk m c 8 t0_0 = m ((c : Thread nD τ).loc main_arg8) := by
  funext y
  have e : win0_8.index t0_0 = fun _ => 0 := by decide +kernel
  blk_ext [iblk, V, e]

theorem entry_9 (c : Dev nD) : iblk m c 9 t0_0 = m ((c : Thread nD τ).loc main_arg9) := by
  funext y
  have e : win0_9.index t0_0 = fun _ => 0 := by decide +kernel
  blk_ext [iblk, V, e]

theorem entry_10 (c : Dev nD) : iblk m c 10 t0_0 = m ((c : Thread nD τ).loc main_arg10) := by
  funext y
  have e : win0_10.index t0_0 = fun _ => 0 := by decide +kernel
  blk_ext [iblk, V, e]

theorem entry_11 (c : Dev nD) : iblk m c 11 t0_0 = m ((c : Thread nD τ).loc main_arg11) := by
  funext y
  have e : win0_11.index t0_0 = fun _ => 0 := by decide +kernel
  blk_ext [iblk, V, e]

theorem entry_12 (c : Dev nD) : iblk m c 12 t0_0 = m ((c : Thread nD τ).loc main_arg12) := by
  funext y
  have e : win0_12.index t0_0 = fun _ => 0 := by decide +kernel
  blk_ext [iblk, V, e]

theorem entry_13 (c : Dev nD) : iblk m c 13 t0_0 = m ((c : Thread nD τ).loc main_arg13) := by
  funext y
  have e : win0_13.index t0_0 = fun _ => 0 := by decide +kernel
  blk_ext [iblk, V, e]

/-- The entry contents the windows stage: the stream, the context over its softmax denominator, and the parameters. -/
theorem final (c : Dev nD) : (dats m 0 c).arrAt 14 cfg0.N
    = Spec.res root (lays m c) (m ((c : Thread nD τ).loc main_arg0)) (m ((c : Thread nD τ).loc main_arg1)) (m ((c : Thread nD τ).loc main_arg2)) := by
  refine (dats m 0 c).arrAt_eq_of_after_last 14 t0_0 (by decide +kernel) _ fun j => ?_
  blk_simp
  rw [after0_14, outs_val]
  rw [entry_0, entry_3, entry_4, entry_5, entry_6, entry_7, entry_8, entry_9, entry_10, entry_11, entry_12, entry_13]
  unfold result str
  exact congrArg₂ (fun cx h => Spec.stream root (fun l => lays m c (Spec.num l)) cx h ((j 0).val + 1) (j 3))
    (funext fun l => funext fun k => entry_ctx m c (Spec.num l) (j 1) (j 2) k _) (funext fun k => entry_h0 m c (j 1) (j 2) k _)
end
end Cert.ReferenceIdeal.Val

end
-- ==== Proof.lean ====
/- The claims of this certificate: the kernel's two programs and the reference run to the end in their frames with every
   semaphore at zero, each named constant stands for the bits it replaces, and over exact arithmetic the kernel's result is the
   reference's wherever every activation scale is positive and no softmax denominator is zero. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Loops
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Pre
public import proofs.«01_k».proof.Proof.KernelVal
public import proofs.«01_k».proof.Proof.ReferenceVal
public import proofs.«01_k».proof.Proof.Gen.KernelIdeal.Value
public import proofs.«01_k».proof.Proof.Gen.ReferenceIdeal.Value
public import Idealize.ShloMosaic.Adequacy
public import Idealize.ShloMosaic.Lib.Claim
public import Idealize.ShloMosaic.Init

@[expose] public section

noncomputable section

namespace Cert.Proof

open Idealize.ShloMosaic Idealize.SL.Sem Cert.Kernel

theorem preserves : Cert.preserves_Kernel_KernelIdeal :=
  ⟨IdealRules.named_const.statement Cert.KernelIdeal.κ "inv_sqrt2" .f32 0x3F3504F3#32 _ rfl,
    IdealRules.named_const.statement Cert.KernelIdeal.κ "mean" .f32 0x3B088889#32 _ rfl⟩

/-- Both programs name the same root of one half. -/
theorem roots : Cert.KernelIdeal.Val.root = Cert.ReferenceIdeal.Val.root :=
  Cert.KernelIdeal.Val.root_eq.trans (by simp [Cert.ReferenceIdeal.Val.root, Named.named, Cert.ReferenceIdeal.κ])

theorem algebraic : Cert.algebraic_KernelIdeal_ReferenceIdeal_pre_scales_positive := by
  intro m g m' g' hp hag
  refine ⟨fun c => Spec.res Cert.KernelIdeal.Val.root (Cert.KernelIdeal.Val.lays m c) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine θ_run_mono (Cert.KernelIdeal.Value.run_blocks m g) fun r h c => ⟨(h c).1.trans ?_, (h c).2⟩
    exact Cert.KernelIdeal.Val.final m c (Cert.Pre_scales_positive.Val.act_pos _ _ _ _ _ _ _ _ _ _ _ _ _ _ _ (hp c).2)
      (Cert.Pre_scales_positive.Val.den_ne _ _ _ _ _ _ _ _ _ _ _ _ _ _ _ (hp c).1)
  · refine θ_run_mono (Cert.ReferenceIdeal.Value.run_blocks m' g') fun r h c => ⟨(h c).1.trans ?_, (h c).2⟩
    obtain ⟨a0, a1, a2, a3, a4, a5, a6, a7, a8, a9, a10, a11, a12, a13, a14⟩ := hag c
    refine (Cert.ReferenceIdeal.Val.final m' c).trans ?_
    unfold Cert.ReferenceIdeal.Val.lays Cert.KernelIdeal.Val.lays
    rw [roots, a0, a1, a2, a3, a4, a5, a6, a7, a8, a9, a10, a11, a12, a13, a14]

theorem claim : Cert.Claim := ⟨Cert.Kernel.Gen.facts, Cert.KernelIdeal.Gen.facts, Cert.ReferenceIdeal.Gen.facts, Cert.Pre_scales_positive.Val.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves, algebraic⟩

end Cert.Proof

end
